-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite [hPre_finite : Cert.Pre_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).1 = (fun _ => 1#1)
    ∧ (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.1 = (fun _ => 1#1)
    ∧ (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.1 = (fun _ => 1#1)
    ∧ (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Reference7Ideal_finite [hPre_finite : Cert.Pre_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).1 = (fun _ => 1#1)
    ∧ (Cert.Pre_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.1 = (fun _ => 1#1)
    ∧ (Cert.Pre_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.1 = (fun _ => 1#1)
    ∧ (Cert.Pre_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_finite [hKernel6Ideal : Cert.Kernel6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference7Ideal_pre_finite [hReference7Ideal : Cert.Reference7Ideal.Facts] [hPre_finite : Cert.Pre_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)) (v2 : (c : Dev Cert.Kernel2Ideal.nD) → Buf (Elt Ideal) ((c.tc : Thread Cert.Kernel2Ideal.nD Cert.Kernel2Ideal.τ).loc Cert.Kernel2Ideal.main_v6_2)) (v3 : (c : Dev Cert.Kernel2Ideal.nD) → Buf (Elt Ideal) ((c.tc : Thread Cert.Kernel2Ideal.nD Cert.Kernel2Ideal.τ).loc Cert.Kernel2Ideal.main_v6_3)) (v4 : (c : Dev Cert.Kernel2Ideal.nD) → Buf (Elt Ideal) ((c.tc : Thread Cert.Kernel2Ideal.nD Cert.Kernel2Ideal.τ).loc Cert.Kernel2Ideal.main_v6_4)) (v5 : (c : Dev Cert.Kernel2Ideal.nD) → Buf (Elt Ideal) ((c.tc : Thread Cert.Kernel2Ideal.nD Cert.Kernel2Ideal.τ).loc Cert.Kernel2Ideal.main_v6_5)) (v6 : (c : Dev Cert.Kernel2Ideal.nD) → Buf (Elt Ideal) ((c.tc : Thread Cert.Kernel2Ideal.nD Cert.Kernel2Ideal.τ).loc Cert.Kernel2Ideal.main_v6_6)) (v7 : (c : Dev Cert.Kernel2Ideal.nD) → Buf (Elt Ideal) ((c.tc : Thread Cert.Kernel2Ideal.nD Cert.Kernel2Ideal.τ).loc Cert.Kernel2Ideal.main_v6_7)) (v8 : (c : Dev Cert.Kernel2Ideal.nD) → Buf (Elt Ideal) ((c.tc : Thread Cert.Kernel2Ideal.nD Cert.Kernel2Ideal.τ).loc Cert.Kernel2Ideal.main_v10)) (v9 : (c : Dev Cert.Kernel2Ideal.nD) → Buf (Elt Ideal) ((c.tc : Thread Cert.Kernel2Ideal.nD Cert.Kernel2Ideal.τ).loc Cert.Kernel2Ideal.main_v14)) (v10 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_v6_2) = v2 c
          ∧ r.2.mem ((c.tc : Thread Cert.Kernel2Ideal.nD Cert.Kernel2Ideal.τ).loc Cert.Kernel2Ideal.main_v6_3) = v3 c
          ∧ r.2.mem ((c.tc : Thread Cert.Kernel2Ideal.nD Cert.Kernel2Ideal.τ).loc Cert.Kernel2Ideal.main_v6_4) = v4 c
          ∧ r.2.mem ((c.tc : Thread Cert.Kernel2Ideal.nD Cert.Kernel2Ideal.τ).loc Cert.Kernel2Ideal.main_v6_5) = v5 c
          ∧ r.2.mem ((c.tc : Thread Cert.Kernel2Ideal.nD Cert.Kernel2Ideal.τ).loc Cert.Kernel2Ideal.main_v6_6) = v6 c
          ∧ r.2.mem ((c.tc : Thread Cert.Kernel2Ideal.nD Cert.Kernel2Ideal.τ).loc Cert.Kernel2Ideal.main_v6_7) = v7 c
          ∧ r.2.mem ((c.tc : Thread Cert.Kernel2Ideal.nD Cert.Kernel2Ideal.τ).loc Cert.Kernel2Ideal.main_v10) = v8 c
          ∧ r.2.mem ((c.tc : Thread Cert.Kernel2Ideal.nD Cert.Kernel2Ideal.τ).loc Cert.Kernel2Ideal.main_v14) = v9 c
          ∧ r.2.mem ((c.tc : Thread Cert.Kernel2Ideal.nD Cert.Kernel2Ideal.τ).loc Cert.Kernel2Ideal.main_v17) = v10 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_v36) = v1 c
          ∧ r.2.mem ((c.tc : Thread Cert.Reference2Ideal.nD Cert.Reference2Ideal.τ).loc Cert.Reference2Ideal.main_v37) = v2 c
          ∧ r.2.mem ((c.tc : Thread Cert.Reference2Ideal.nD Cert.Reference2Ideal.τ).loc Cert.Reference2Ideal.main_v38) = v3 c
          ∧ r.2.mem ((c.tc : Thread Cert.Reference2Ideal.nD Cert.Reference2Ideal.τ).loc Cert.Reference2Ideal.main_v39) = v4 c
          ∧ r.2.mem ((c.tc : Thread Cert.Reference2Ideal.nD Cert.Reference2Ideal.τ).loc Cert.Reference2Ideal.main_v40) = v5 c
          ∧ r.2.mem ((c.tc : Thread Cert.Reference2Ideal.nD Cert.Reference2Ideal.τ).loc Cert.Reference2Ideal.main_v41) = v6 c
          ∧ r.2.mem ((c.tc : Thread Cert.Reference2Ideal.nD Cert.Reference2Ideal.τ).loc Cert.Reference2Ideal.main_v42) = v7 c
          ∧ r.2.mem ((c.tc : Thread Cert.Reference2Ideal.nD Cert.Reference2Ideal.τ).loc Cert.Reference2Ideal.main_v31) = v8 c
          ∧ r.2.mem ((c.tc : Thread Cert.Reference2Ideal.nD Cert.Reference2Ideal.τ).loc Cert.Reference2Ideal.main_v33) = v9 c
          ∧ r.2.mem ((c.tc : Thread Cert.Reference2Ideal.nD Cert.Reference2Ideal.τ).loc Cert.Reference2Ideal.main_v34) = v10 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v10)) (v1 : (c : Dev Cert.Kernel5Ideal.nD) → Buf (Elt Ideal) ((c.tc : Thread Cert.Kernel5Ideal.nD Cert.Kernel5Ideal.τ).loc Cert.Kernel5Ideal.main_v13)) (v2 : (c : Dev Cert.Kernel5Ideal.nD) → Buf (Elt Ideal) ((c.tc : Thread Cert.Kernel5Ideal.nD Cert.Kernel5Ideal.τ).loc Cert.Kernel5Ideal.main_v16)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_v13) = v1 c
          ∧ r.2.mem ((c.tc : Thread Cert.Kernel5Ideal.nD Cert.Kernel5Ideal.τ).loc Cert.Kernel5Ideal.main_v16) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_v25) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v16)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v16) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v62) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def algebraic_Kernel6Ideal_Reference7Ideal_pre_finite [hKernel6Ideal : Cert.Kernel6Ideal.Facts] [hReference7Ideal : Cert.Reference7Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel6Ideal_finite m →
    (∀ c : Dev Cert.Kernel6Ideal.nD,
      m' ((c.tc : Thread Cert.Reference7Ideal.nD Cert.Reference7Ideal.τ).loc Cert.Reference7Ideal.main_arg0) = m ((c.tc : Thread Cert.Kernel6Ideal.nD Cert.Kernel6Ideal.τ).loc Cert.Kernel6Ideal.main_arg0)
      ∧ m' ((c.tc : Thread Cert.Reference7Ideal.nD Cert.Reference7Ideal.τ).loc Cert.Reference7Ideal.main_arg1) = m ((c.tc : Thread Cert.Kernel6Ideal.nD Cert.Kernel6Ideal.τ).loc Cert.Kernel6Ideal.main_arg1)
      ∧ m' ((c.tc : Thread Cert.Reference7Ideal.nD Cert.Reference7Ideal.τ).loc Cert.Reference7Ideal.main_arg2) = m ((c.tc : Thread Cert.Kernel6Ideal.nD Cert.Kernel6Ideal.τ).loc Cert.Kernel6Ideal.main_arg2)
      ∧ m' ((c.tc : Thread Cert.Reference7Ideal.nD Cert.Reference7Ideal.τ).loc Cert.Reference7Ideal.main_arg3) = m ((c.tc : Thread Cert.Kernel6Ideal.nD Cert.Kernel6Ideal.τ).loc Cert.Kernel6Ideal.main_arg3)
      ∧ m' ((c.tc : Thread Cert.Reference7Ideal.nD Cert.Reference7Ideal.τ).loc Cert.Reference7Ideal.main_arg4) = m ((c.tc : Thread Cert.Kernel6Ideal.nD Cert.Kernel6Ideal.τ).loc Cert.Kernel6Ideal.main_arg4)
      ∧ m' ((c.tc : Thread Cert.Reference7Ideal.nD Cert.Reference7Ideal.τ).loc Cert.Reference7Ideal.main_arg5) = m ((c.tc : Thread Cert.Kernel6Ideal.nD Cert.Kernel6Ideal.τ).loc Cert.Kernel6Ideal.main_arg5)
      ∧ m' ((c.tc : Thread Cert.Reference7Ideal.nD Cert.Reference7Ideal.τ).loc Cert.Reference7Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v16)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v16) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v63) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite (hKernel6Ideal := hKernel6Ideal) (hPre_finite := hPre_finite)
    ∧ quiescent_Reference6Ideal (hReference6Ideal := hReference6Ideal)
    ∧ quiescent_Reference7Ideal (hReference7Ideal := hReference7Ideal)
    ∧ quiescent_Reference7Ideal_pre_finite (hReference7Ideal := hReference7Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ algebraic_Kernel6Ideal_Reference7Ideal_pre_finite (hKernel6Ideal := hKernel6Ideal) (hReference7Ideal := hReference7Ideal) (hPre_finite := hPre_finite)
-- ==== Pre_finite.lean ====
abbrev S8x2048x1024 : Shape := ⟨3, ![8, 2048, 1024]⟩
abbrev S8x2048x768 : Shape := ⟨3, ![8, 2048, 768]⟩
abbrev S2x1024 : Shape := ⟨2, ![2, 1024]⟩
abbrev S1x1024x3712 : Shape := ⟨3, ![1, 1024, 3712]⟩
abbrev S2x8x256x2x4x64 : Shape := ⟨6, ![2, 8, 256, 2, 4, 64]⟩
abbrev S1x1024x1024 : Shape := ⟨3, ![1, 1024, 1024]⟩
abbrev S_ : Shape := ⟨0, ![]⟩

class Facts : Prop where
  bcast_S_S8x2048x1024 : S_.BroadcastsInDim S8x2048x1024 (![] : Fin 0 → Fin S8x2048x1024.rank)
  bcast_S_S2x1024 : S_.BroadcastsInDim S2x1024 (![] : Fin 0 → Fin S2x1024.rank)
  bcast_S_S1x1024x3712 : S_.BroadcastsInDim S1x1024x3712 (![] : Fin 0 → Fin S1x1024x3712.rank)
  bcast_S_S2x8x256x2x4x64 : S_.BroadcastsInDim S2x8x256x2x4x64 (![] : Fin 0 → Fin S2x8x256x2x4x64.rank)

variable [Facts]

def fn {F : FTy → Type} [FloatOps F] (main_arg0 : FVec F S8x2048x1024 .f32) (main_arg1 : FVec F S8x2048x768 .f32) (main_arg2 : FVec F S2x1024 .f32) (main_arg3 : FVec F S1x1024x3712 .f32) (main_arg4 : FVec F S2x8x256x2x4x64 .f32) (main_arg5 : FVec F S1x1024x1024 .f32) (main_arg6 : FVec F S2x1024 .f32) : IVec S8x2048x1024 1 × IVec S2x1024 1 × IVec S1x1024x3712 1 × IVec S2x8x256x2x4x64 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_v3 : FVec F S2x1024 .f32 := Host.absf main_arg2
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S1x1024x3712 .f32 := Host.absf main_arg3
  let main_cst_1 : FVec F S_ .f32 := constant S_ .f32 0x7F800000#32
  let main_v7 : FVec F S1x1024x3712 .f32 := broadcastInDim S1x1024x3712 ![] bcast_S_S1x1024x3712 main_cst_1
  let main_v8 : IVec S1x1024x3712 1 := cmpf .olt main_v6 main_v7
  let main_v9 : FVec F S2x8x256x2x4x64 .f32 := Host.absf main_arg4
  let main_cst_2 : FVec F S_ .f32 := constant S_ .f32 0x7F800000#32
  let main_v10 : FVec F S2x8x256x2x4x64 .f32 := broadcastInDim S2x8x256x2x4x64 ![] bcast_S_S2x8x256x2x4x64 main_cst_2
  let main_v11 : IVec S2x8x256x2x4x64 1 := cmpf .olt main_v9 main_v10
  (main_v2, main_v5, main_v8, main_v11)
-- ==== Kernel.lean ====
abbrev S8x2048x256 : Shape := ⟨3, ![8, 2048, 256]⟩
abbrev S8x2048x512 : Shape := ⟨3, ![8, 2048, 512]⟩
abbrev S4x129 : Shape := ⟨2, ![4, 129]⟩
abbrev S12x129 : Shape := ⟨2, ![12, 129]⟩
abbrev S_ : Shape := ⟨0, ![]⟩
abbrev S12x127 : Shape := ⟨2, ![12, 127]⟩
abbrev S12x1 : Shape := ⟨2, ![12, 1]⟩
abbrev S12x128 : Shape := ⟨2, ![12, 128]⟩
abbrev S12x256 : Shape := ⟨2, ![12, 256]⟩
abbrev S12x128x256 : Shape := ⟨3, ![12, 128, 256]⟩
abbrev S128x256 : Shape := ⟨2, ![128, 256]⟩
abbrev S1x256 : Shape := ⟨2, ![1, 256]⟩
abbrev S1x128x256 : Shape := ⟨3, ![1, 128, 256]⟩
abbrev S8x2048x128 : Shape := ⟨3, ![8, 2048, 128]⟩
abbrev S1x1024x256 : Shape := ⟨3, ![1, 1024, 256]⟩
abbrev S1x1024x512 : Shape := ⟨3, ![1, 1024, 512]⟩
abbrev S1x128x512 : Shape := ⟨3, ![1, 128, 512]⟩
abbrev S4x128x256 : Shape := ⟨3, ![4, 128, 256]⟩
abbrev S1x1024x128 : Shape := ⟨3, ![1, 1024, 128]⟩
abbrev S1024x256 : Shape := ⟨2, ![1024, 256]⟩
abbrev S1024x512 : Shape := ⟨2, ![1024, 512]⟩
abbrev S128x512 : Shape := ⟨2, ![128, 512]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 15
  | .vmem => 13
  | .smem => 0
  | _ => 0

abbrev bufTy : (tb : Table) → Fin (tcTables nBuf tb) → BufTy
  | .hbm, ⟨0, _⟩ => ⟨S8x2048x256, .f32⟩
  | .hbm, ⟨1, _⟩ => ⟨S8x2048x512, .f32⟩
  | .hbm, ⟨2, _⟩ => ⟨S4x129, .f32⟩
  | .hbm, ⟨3, _⟩ => ⟨S4x129, .f32⟩
  | .hbm, ⟨4, _⟩ => ⟨S4x129, .f32⟩
  | .hbm, ⟨5, _⟩ => ⟨S12x129, .f32⟩
  | .hbm, ⟨6, _⟩ => ⟨S_, .f32⟩
  | .hbm, ⟨7, _⟩ => ⟨S12x127, .f32⟩
  | .hbm, ⟨8, _⟩ => ⟨S12x1, .f32⟩
  | .hbm, ⟨9, _⟩ => ⟨S12x128, .f32⟩
  | .hbm, ⟨10, _⟩ => ⟨S12x128, .f32⟩
  | .hbm, ⟨11, _⟩ => ⟨S12x256, .f32⟩
  | .hbm, ⟨12, _⟩ => ⟨S12x128x256, .f32⟩
  | .hbm, ⟨13, _⟩ => ⟨S8x2048x256, .f32⟩
  | .hbm, ⟨14, _⟩ => ⟨S8x2048x128, .f32⟩
  | .local _ .vmem, ⟨0, _⟩ => ⟨S12x256, .f32⟩
  | .local _ .vmem, ⟨1, _⟩ => ⟨S12x128x256, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x512, .f32⟩
  | .local _ .vmem, ⟨5, _⟩ => ⟨S1x1024x512, .f32⟩
  | .local _ .vmem, ⟨6, _⟩ => ⟨S1x128x512, .f32⟩
  | .local _ .vmem, ⟨7, _⟩ => ⟨S1x128x512, .f32⟩
  | .local _ .vmem, ⟨8, _⟩ => ⟨S4x128x256, .f32⟩
  | .local _ .vmem, ⟨9, _⟩ => ⟨S1x1024x256, .f32⟩
  | .local _ .vmem, ⟨10, _⟩ => ⟨S1x1024x256, .f32⟩
  | .local _ .vmem, ⟨11, _⟩ => ⟨S1x1024x128, .f32⟩
  | .local _ .vmem, ⟨12, _⟩ => ⟨S1x1024x128, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem4_0 : DmaSem sig := 9
abbrev cc1_sem4_1 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := .none

abbrev stage0_0 : Fin 1 → Memref sig .tc .vmem S12x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨3, ![8, 1, 2], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x128x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 1 → Memref sig .tc .vmem S4x128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1x1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]
-- ==== KernelIdeal.lean ====
variable {F : FTy → Type} [FloatOps F] [Named F]
def κ : String → Option EReal := fun
  | "mask" => some ⊥
  | _ => none
-- ==== ReferenceIdeal.lean ====
abbrev S8x2048x256 : Shape := ⟨3, ![8, 2048, 256]⟩
abbrev S8x2048x512 : Shape := ⟨3, ![8, 2048, 512]⟩
abbrev S4x129 : Shape := ⟨2, ![4, 129]⟩
abbrev S8x2048x4x64 : Shape := ⟨4, ![8, 2048, 4, 64]⟩
abbrev S8x2048x2x4x64 : Shape := ⟨5, ![8, 2048, 2, 4, 64]⟩
abbrev S2048 : Shape := ⟨1, ![2048]⟩
abbrev S2048x1 : Shape := ⟨2, ![2048, 1]⟩
abbrev S129 : Shape := ⟨1, ![129]⟩
abbrev S1x129 : Shape := ⟨2, ![1, 129]⟩
abbrev S_ : Shape := ⟨0, ![]⟩
abbrev S2048x129 : Shape := ⟨2, ![2048, 129]⟩
abbrev S2048x129x1 : Shape := ⟨3, ![2048, 129, 1]⟩
abbrev S8x2048x129x2x4x64 : Shape := ⟨6, ![8, 2048, 129, 2, 4, 64]⟩
abbrev S8x2048x129x1x4x64 : Shape := ⟨6, ![8, 2048, 129, 1, 4, 64]⟩
abbrev S8x2048x129x4x64 : Shape := ⟨5, ![8, 2048, 129, 4, 64]⟩
abbrev S8x4x2048x129 : Shape := ⟨4, ![8, 4, 2048, 129]⟩
abbrev S1x1x2048x129 : Shape := ⟨4, ![1, 1, 2048, 129]⟩
abbrev S1x4x1x129 : Shape := ⟨4, ![1, 4, 1, 129]⟩
abbrev S8x4x2048 : Shape := ⟨3, ![8, 4, 2048]⟩
abbrev S8x4x2048x1 : Shape := ⟨4, ![8, 4, 2048, 1]⟩
abbrev S8x2048x4 : Shape := ⟨3, ![8, 2048, 4]⟩
abbrev S8x2048x120 : Shape := ⟨3, ![8, 2048, 120]⟩
abbrev S8x2048x128 : Shape := ⟨3, ![8, 2048, 128]⟩

abbrev nBuf : Space → Nat
  | .hbm => 57
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x512, .f32⟩
  | .hbm, ⟨2, _⟩ => ⟨S4x129, .f32⟩
  | .hbm, ⟨3, _⟩ => ⟨S4x129, .f32⟩
  | .hbm, ⟨4, _⟩ => ⟨S4x129, .f32⟩
  | .hbm, ⟨5, _⟩ => ⟨S8x2048x4x64, .f32⟩
  | .hbm, ⟨6, _⟩ => ⟨S8x2048x2x4x64, .f32⟩
  | .hbm, ⟨7, _⟩ => ⟨S2048, .i32⟩
  | .hbm, ⟨8, _⟩ => ⟨S2048x1, .i32⟩
  | .hbm, ⟨9, _⟩ => ⟨S129, .i32⟩
  | .hbm, ⟨10, _⟩ => ⟨S1x129, .i32⟩
  | .hbm, ⟨11, _⟩ => ⟨S_, .i32⟩
  | .hbm, ⟨12, _⟩ => ⟨S1x129, .i32⟩
  | .hbm, ⟨13, _⟩ => ⟨S1x129, .i32⟩
  | .hbm, ⟨14, _⟩ => ⟨S2048x129, .i32⟩
  | .hbm, ⟨15, _⟩ => ⟨S2048x129, .i32⟩
  | .hbm, ⟨16, _⟩ => ⟨S2048x129, .i32⟩
  | .hbm, ⟨17, _⟩ => ⟨S_, .i32⟩
  | .hbm, ⟨18, _⟩ => ⟨S2048x129, .i32⟩
  | .hbm, ⟨19, _⟩ => ⟨S2048x129, .i1⟩
  | .hbm, ⟨20, _⟩ => ⟨S_, .i32⟩
  | .hbm, ⟨21, _⟩ => ⟨S2048x129, .i32⟩
  | .hbm, ⟨22, _⟩ => ⟨S2048x129, .i32⟩
  | .hbm, ⟨23, _⟩ => ⟨S2048x129x1, .i32⟩
  | .hbm, ⟨24, _⟩ => ⟨S8x2048x129x2x4x64, .f32⟩
  | .hbm, ⟨25, _⟩ => ⟨S8x2048x129x1x4x64, .f32⟩
  | .hbm, ⟨26, _⟩ => ⟨S8x2048x129x4x64, .f32⟩
  | .hbm, ⟨27, _⟩ => ⟨S8x4x2048x129, .f32⟩
  | .hbm, ⟨28, _⟩ => ⟨S_, .f32⟩
  | .hbm, ⟨29, _⟩ => ⟨S8x4x2048x129, .f32⟩
  | .hbm, ⟨30, _⟩ => ⟨S8x4x2048x129, .f32⟩
  | .hbm, ⟨31, _⟩ => ⟨S1x1x2048x129, .i1⟩
  | .hbm, ⟨32, _⟩ => ⟨S1x4x1x129, .f32⟩
  | .hbm, ⟨33, _⟩ => ⟨S8x4x2048x129, .f32⟩
  | .hbm, ⟨34, _⟩ => ⟨S8x4x2048x129, .f32⟩
  | .hbm, ⟨35, _⟩ => ⟨S_, .f32⟩
  | .hbm, ⟨36, _⟩ => ⟨S_, .f32⟩
  | .hbm, ⟨37, _⟩ => ⟨S8x4x2048x129, .i1⟩
  | .hbm, ⟨38, _⟩ => ⟨S8x4x2048x129, .f32⟩
  | .hbm, ⟨39, _⟩ => ⟨S8x4x2048x129, .f32⟩
  | .hbm, ⟨40, _⟩ => ⟨S_, .f32⟩
  | .hbm, ⟨41, _⟩ => ⟨S8x4x2048, .f32⟩
  | .hbm, ⟨42, _⟩ => ⟨S8x4x2048x1, .f32⟩
  | .hbm, ⟨43, _⟩ => ⟨S8x4x2048x129, .f32⟩
  | .hbm, ⟨44, _⟩ => ⟨S8x4x2048x129, .f32⟩
  | .hbm, ⟨45, _⟩ => ⟨S8x4x2048x129, .f32⟩
  | .hbm, ⟨46, _⟩ => ⟨S_, .f32⟩
  | .hbm, ⟨47, _⟩ => ⟨S8x4x2048, .f32⟩
  | .hbm, ⟨48, _⟩ => ⟨S8x2048x129x1x4x64, .f32⟩
  | .hbm, ⟨49, _⟩ => ⟨S8x2048x129x4x64, .f32⟩
  | .hbm, ⟨50, _⟩ => ⟨S8x2048x4x64, .f32⟩
  | .hbm, ⟨51, _⟩ => ⟨S8x2048x4, .f32⟩
  | .hbm, ⟨52, _⟩ => ⟨S8x2048x4, .f32⟩
  | .hbm, ⟨53, _⟩ => ⟨S_, .f32⟩
  | .hbm, ⟨54, _⟩ => ⟨S8x2048x120, .f32⟩
  | .hbm, ⟨55, _⟩ => ⟨S8x2048x128, .f32⟩
  | .hbm, ⟨56, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]

def κ : String → Option EReal := fun
  | "mask" => some ⊥
  | _ => none
-- ==== Kernel2.lean ====
abbrev S8x2048x1024 : Shape := ⟨3, ![8, 2048, 1024]⟩
abbrev S2x1024 : Shape := ⟨2, ![2, 1024]⟩
abbrev S1x1024x3072 : Shape := ⟨3, ![1, 1024, 3072]⟩
abbrev S16384x1024 : Shape := ⟨2, ![16384, 1024]⟩
abbrev S1x1024 : Shape := ⟨2, ![1, 1024]⟩
abbrev S1024 : Shape := ⟨1, ![1024]⟩
abbrev S1024x3072 : Shape := ⟨2, ![1024, 3072]⟩
abbrev S16384x256 : Shape := ⟨2, ![16384, 256]⟩
abbrev S8x512x1024 : Shape := ⟨3, ![8, 512, 1024]⟩
abbrev S8x128x4096 : Shape := ⟨3, ![8, 128, 4096]⟩
abbrev S16384x512 : Shape := ⟨2, ![16384, 512]⟩
abbrev S8x512x2048 : Shape := ⟨3, ![8, 512, 2048]⟩
abbrev S8x128x8192 : Shape := ⟨3, ![8, 128, 8192]⟩
abbrev S512x1024 : Shape := ⟨2, ![512, 1024]⟩
abbrev S512x256 : Shape := ⟨2, ![512, 256]⟩
abbrev S1x128x1024 : Shape := ⟨3, ![1, 128, 1024]⟩
abbrev S1x32x4096 : Shape := ⟨3, ![1, 32, 4096]⟩
abbrev S512x512 : Shape := ⟨2, ![512, 512]⟩
abbrev S1x128x2048 : Shape := ⟨3, ![1, 128, 2048]⟩
abbrev S1x32x8192 : Shape := ⟨3, ![1, 32, 8192]⟩
abbrev S1x512x512 : Shape := ⟨3, ![1, 512, 512]⟩
abbrev S512x128 : Shape := ⟨2, ![512, 128]⟩
abbrev S512 : Shape := ⟨1, ![512]⟩
abbrev S512x1 : Shape := ⟨2, ![512, 1]⟩
abbrev S1024x256 : Shape := ⟨2, ![1024, 256]⟩
abbrev S128x128 : Shape := ⟨2, ![128, 128]⟩
abbrev S1x128x128 : Shape := ⟨3, ![1, 128, 128]⟩
abbrev S32x128 : Shape := ⟨2, ![32, 128]⟩
abbrev S1x32x128 : Shape := ⟨3, ![1, 32, 128]⟩
abbrev S256x512 : Shape := ⟨2, ![256, 512]⟩
abbrev S1x256x512 : Shape := ⟨3, ![1, 256, 512]⟩
abbrev S1024x512 : Shape := ⟨2, ![1024, 512]⟩
abbrev S8x2x4x64x2048 : Shape := ⟨5, ![8, 2, 4, 64, 2048]⟩
abbrev S8x2x4x64x128 : Shape := ⟨5, ![8, 2, 4, 64, 128]⟩
abbrev S8x128x2x4x64 : Shape := ⟨5, ![8, 128, 2, 4, 64]⟩
abbrev S1x8x128x2x4x64 : Shape := ⟨6, ![1, 8, 128, 2, 4, 64]⟩
abbrev S8x2x4x64x512 : Shape := ⟨5, ![8, 2, 4, 64, 512]⟩
abbrev S8x512x2x4x64 : Shape := ⟨5, ![8, 512, 2, 4, 64]⟩
abbrev S1x8x512x2x4x64 : Shape := ⟨6, ![1, 8, 512, 2, 4, 64]⟩
abbrev S8x2048x2x4x64 : Shape := ⟨5, ![8, 2048, 2, 4, 64]⟩
abbrev S1x8x2048x2x4x64 : Shape := ⟨6, ![1, 8, 2048, 2, 4, 64]⟩

abbrev nBuf : Space → Nat
  | .hbm => 31
  | .vmem => 27
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x3072, .f32⟩
  | .hbm, ⟨3, _⟩ => ⟨S16384x1024, .f32⟩
  | .hbm, ⟨4, _⟩ => ⟨S1x1024, .f32⟩
  | .hbm, ⟨5, _⟩ => ⟨S1024, .f32⟩
  | .hbm, ⟨6, _⟩ => ⟨S1024x3072, .f32⟩
  | .hbm, ⟨7, _⟩ => ⟨S1x1024, .f32⟩
  | .hbm, ⟨8, _⟩ => ⟨S1024x3072, .bf16⟩
  | .hbm, ⟨9, _⟩ => ⟨S16384x256, .f32⟩
  | .hbm, ⟨10, _⟩ => ⟨S8x512x1024, .f32⟩
  | .hbm, ⟨11, _⟩ => ⟨S8x128x4096, .f32⟩
  | .hbm, ⟨12, _⟩ => ⟨S16384x512, .f32⟩
  | .hbm, ⟨13, _⟩ => ⟨S8x512x2048, .f32⟩
  | .hbm, ⟨14, _⟩ => ⟨S8x128x8192, .f32⟩
  | .hbm, ⟨15, _⟩ => ⟨S16384x256, .f32⟩
  | .hbm, ⟨16, _⟩ => ⟨S16384x512, .f32⟩
  | .hbm, ⟨17, _⟩ => ⟨S8x512x2048, .f32⟩
  | .hbm, ⟨18, _⟩ => ⟨S8x512x2048, .f32⟩
  | .hbm, ⟨19, _⟩ => ⟨S8x512x2048, .f32⟩
  | .hbm, ⟨20, _⟩ => ⟨S8x2x4x64x2048, .f32⟩
  | .hbm, ⟨21, _⟩ => ⟨S8x2x4x64x128, .f32⟩
  | .hbm, ⟨22, _⟩ => ⟨S8x128x2x4x64, .f32⟩
  | .hbm, ⟨23, _⟩ => ⟨S1x8x128x2x4x64, .f32⟩
  | .hbm, ⟨24, _⟩ => ⟨S8x2x4x64x2048, .f32⟩
  | .hbm, ⟨25, _⟩ => ⟨S8x2x4x64x512, .f32⟩
  | .hbm, ⟨26, _⟩ => ⟨S8x512x2x4x64, .f32⟩
  | .hbm, ⟨27, _⟩ => ⟨S1x8x512x2x4x64, .f32⟩
  | .hbm, ⟨28, _⟩ => ⟨S8x2x4x64x2048, .f32⟩
  | .hbm, ⟨29, _⟩ => ⟨S8x2048x2x4x64, .f32⟩
  | .hbm, ⟨30, _⟩ => ⟨S1x8x2048x2x4x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x256, .f32⟩
  | .local _ .vmem, ⟨5, _⟩ => ⟨S512x256, .f32⟩
  | .local _ .vmem, ⟨6, _⟩ => ⟨S1x128x1024, .f32⟩
  | .local _ .vmem, ⟨7, _⟩ => ⟨S1x128x1024, .f32⟩
  | .local _ .vmem, ⟨8, _⟩ => ⟨S1x32x4096, .f32⟩
  | .local _ .vmem, ⟨9, _⟩ => ⟨S1x32x4096, .f32⟩
  | .local _ .vmem, ⟨10, _⟩ => ⟨S512x512, .f32⟩
  | .local _ .vmem, ⟨11, _⟩ => ⟨S512x512, .f32⟩
  | .local _ .vmem, ⟨12, _⟩ => ⟨S1x128x2048, .f32⟩
  | .local _ .vmem, ⟨13, _⟩ => ⟨S1x128x2048, .f32⟩
  | .local _ .vmem, ⟨14, _⟩ => ⟨S1x32x8192, .f32⟩
  | .local _ .vmem, ⟨15, _⟩ => ⟨S1x32x8192, .f32⟩
  | .local _ .vmem, ⟨16, _⟩ => ⟨S512x256, .f32⟩
  | .local _ .vmem, ⟨17, _⟩ => ⟨S512x256, .f32⟩
  | .local _ .vmem, ⟨18, _⟩ => ⟨S512x512, .f32⟩
  | .local _ .vmem, ⟨19, _⟩ => ⟨S512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v6_3 : Ref sig .tc := ⟨.hbm, 12, rfl⟩
abbrev main_v6_4 : Ref sig .tc := ⟨.hbm, 13, rfl⟩
abbrev main_v6_5 : Ref sig .tc := ⟨.hbm, 14, rfl⟩
abbrev main_v6_6 : Ref sig .tc := ⟨.hbm, 15, rfl⟩
abbrev main_v6_7 : Ref sig .tc := ⟨.hbm, 16, rfl⟩
abbrev main_v6_8 : Ref sig .tc := ⟨.hbm, 17, rfl⟩
abbrev main_v6_9 : Ref sig .tc := ⟨.hbm, 18, rfl⟩
abbrev main_v6_10 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x8192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S8x2048x1024 : Shape := ⟨3, ![8, 2048, 1024]⟩
abbrev S2x1024 : Shape := ⟨2, ![2, 1024]⟩
abbrev S1x1024x3072 : Shape := ⟨3, ![1, 1024, 3072]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x3072 : Shape := ⟨2, ![1024, 3072]⟩
abbrev S8x2048x3072 : Shape := ⟨3, ![8, 2048, 3072]⟩
abbrev S8x2048x2304 : Shape := ⟨3, ![8, 2048, 2304]⟩
abbrev S8x2048x3x12x64 : Shape := ⟨5, ![8, 2048, 3, 12, 64]⟩
abbrev S8x2048x1x12x64 : Shape := ⟨5, ![8, 2048, 1, 12, 64]⟩
abbrev S8x2048x12x64 : Shape := ⟨4, ![8, 2048, 12, 64]⟩
abbrev S8x2048x2x12x64 : Shape := ⟨5, ![8, 2048, 2, 12, 64]⟩
abbrev S8x2048x256 : Shape := ⟨3, ![8, 2048, 256]⟩
abbrev S8x2048x512 : Shape := ⟨3, ![8, 2048, 512]⟩
abbrev S8x2048x4x64 : Shape := ⟨4, ![8, 2048, 4, 64]⟩
abbrev S8x2048x2x4x64 : Shape := ⟨5, ![8, 2048, 2, 4, 64]⟩
abbrev S8x128x2x4x64 : Shape := ⟨5, ![8, 128, 2, 4, 64]⟩
abbrev S1x8x128x2x4x64 : Shape := ⟨6, ![1, 8, 128, 2, 4, 64]⟩
abbrev S8x512x2x4x64 : Shape := ⟨5, ![8, 512, 2, 4, 64]⟩
abbrev S1x8x512x2x4x64 : Shape := ⟨6, ![1, 8, 512, 2, 4, 64]⟩
abbrev S1x8x2048x2x4x64 : Shape := ⟨6, ![1, 8, 2048, 2, 4, 64]⟩
abbrev S16384x256 : Shape := ⟨2, ![16384, 256]⟩
abbrev S8x512x1024 : Shape := ⟨3, ![8, 512, 1024]⟩
abbrev S8x128x4096 : Shape := ⟨3, ![8, 128, 4096]⟩
abbrev S16384x512 : Shape := ⟨2, ![16384, 512]⟩
abbrev S8x512x2048 : Shape := ⟨3, ![8, 512, 2048]⟩
abbrev S8x128x8192 : Shape := ⟨3, ![8, 128, 8192]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x3072, .f32⟩
  | .hbm, ⟨3, _⟩ => ⟨S1x1024, .f32⟩
  | .hbm, ⟨4, _⟩ => ⟨S1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S1024x3072, .f32⟩
  | .hbm, ⟨22, _⟩ => ⟨S8x2048x3072, .f32⟩
  | .hbm, ⟨23, _⟩ => ⟨S8x2048x2304, .f32⟩
  | .hbm, ⟨24, _⟩ => ⟨S8x2048x3x12x64, .f32⟩
  | .hbm, ⟨25, _⟩ => ⟨S8x2048x1x12x64, .f32⟩
  | .hbm, ⟨26, _⟩ => ⟨S8x2048x12x64, .f32⟩
  | .hbm, ⟨27, _⟩ => ⟨S8x2048x2x12x64, .f32⟩
  | .hbm, ⟨28, _⟩ => ⟨S8x2048x256, .f32⟩
  | .hbm, ⟨29, _⟩ => ⟨S8x2048x512, .f32⟩
  | .hbm, ⟨30, _⟩ => ⟨S8x2048x4x64, .f32⟩
  | .hbm, ⟨31, _⟩ => ⟨S8x2048x4x64, .f32⟩
  | .hbm, ⟨32, _⟩ => ⟨S8x2048x4x64, .f32⟩
  | .hbm, ⟨33, _⟩ => ⟨S8x2048x2x4x64, .f32⟩
  | .hbm, ⟨34, _⟩ => ⟨S8x2048x2x4x64, .f32⟩
  | .hbm, ⟨35, _⟩ => ⟨S8x2048x2x4x64, .f32⟩
  | .hbm, ⟨36, _⟩ => ⟨S8x128x2x4x64, .f32⟩
  | .hbm, ⟨37, _⟩ => ⟨S1x8x128x2x4x64, .f32⟩
  | .hbm, ⟨38, _⟩ => ⟨S8x512x2x4x64, .f32⟩
  | .hbm, ⟨39, _⟩ => ⟨S1x8x512x2x4x64, .f32⟩
  | .hbm, ⟨40, _⟩ => ⟨S1x8x2048x2x4x64, .f32⟩
  | .hbm, ⟨41, _⟩ => ⟨S16384x256, .f32⟩
  | .hbm, ⟨42, _⟩ => ⟨S8x512x1024, .f32⟩
  | .hbm, ⟨43, _⟩ => ⟨S8x128x4096, .f32⟩
  | .hbm, ⟨44, _⟩ => ⟨S16384x512, .f32⟩
  | .hbm, ⟨45, _⟩ => ⟨S8x512x2048, .f32⟩
  | .hbm, ⟨46, _⟩ => ⟨S8x128x8192, .f32⟩
  | .hbm, ⟨47, _⟩ => ⟨S16384x256, .f32⟩
  | .hbm, ⟨48, _⟩ => ⟨S16384x512, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩

abbrev nD : Nat := 1
abbrev τ : Topo := Topo.v7x

variable {F : FTy → Type} [FloatOps F]
-- ==== Kernel3.lean ====
abbrev S8x2048x1024 : Shape := ⟨3, ![8, 2048, 1024]⟩
abbrev S2x1024 : Shape := ⟨2, ![2, 1024]⟩
abbrev S1x1024x3712 : Shape := ⟨3, ![1, 1024, 3712]⟩
abbrev S16384x1024 : Shape := ⟨2, ![16384, 1024]⟩
abbrev S1x1024 : Shape := ⟨2, ![1, 1024]⟩
abbrev S1024 : Shape := ⟨1, ![1024]⟩
abbrev S1024x3712 : Shape := ⟨2, ![1024, 3712]⟩
abbrev S1024x2432 : Shape := ⟨2, ![1024, 2432]⟩
abbrev S16384x2432 : Shape := ⟨2, ![16384, 2432]⟩
abbrev S1024x1024 : Shape := ⟨2, ![1024, 1024]⟩
abbrev S1024x128 : Shape := ⟨2, ![1024, 128]⟩
abbrev S1024x1 : Shape := ⟨2, ![1024, 1]⟩
abbrev S8x2048x2432 : Shape := ⟨3, ![8, 2048, 2432]⟩

abbrev nBuf : Space → Nat
  | .hbm => 12
  | .vmem => 7
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x3712, .f32⟩
  | .hbm, ⟨3, _⟩ => ⟨S16384x1024, .f32⟩
  | .hbm, ⟨4, _⟩ => ⟨S1x1024, .f32⟩
  | .hbm, ⟨5, _⟩ => ⟨S1024, .f32⟩
  | .hbm, ⟨6, _⟩ => ⟨S1024x3712, .f32⟩
  | .hbm, ⟨7, _⟩ => ⟨S1024x3712, .bf16⟩
  | .hbm, ⟨8, _⟩ => ⟨S1024x2432, .bf16⟩
  | .hbm, ⟨9, _⟩ => ⟨S1x1024, .f32⟩
  | .hbm, ⟨10, _⟩ => ⟨S16384x2432, .f32⟩
  | .hbm, ⟨11, _⟩ => ⟨S8x2048x2432, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2432, .bf16⟩
  | .local _ .vmem, ⟨4, _⟩ => ⟨S1024x2432, .f32⟩
  | .local _ .vmem, ⟨5, _⟩ => ⟨S1024x2432, .f32⟩
  | .local _ .vmem, ⟨6, _⟩ => ⟨S1024x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2432 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8x2048x1024 : Shape := ⟨3, ![8, 2048, 1024]⟩
abbrev S2x1024 : Shape := ⟨2, ![2, 1024]⟩
abbrev S1x1024x3712 : Shape := ⟨3, ![1, 1024, 3712]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x3712 : Shape := ⟨2, ![1024, 3712]⟩
abbrev S8x2048x3712 : Shape := ⟨3, ![8, 2048, 3712]⟩
abbrev S8x2048x2432 : Shape := ⟨3, ![8, 2048, 2432]⟩

abbrev nBuf : Space → Nat
  | .hbm => 24
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x3712, .f32⟩
  | .hbm, ⟨3, _⟩ => ⟨S1x1024, .f32⟩
  | .hbm, ⟨4, _⟩ => ⟨S1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S1024x3712, .f32⟩
  | .hbm, ⟨22, _⟩ => ⟨S8x2048x3712, .f32⟩
  | .hbm, ⟨23, _⟩ => ⟨S8x2048x2432, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel4.lean ====
abbrev S8x256x1024 : Shape := ⟨3, ![8, 256, 1024]⟩
abbrev S2x1024 : Shape := ⟨2, ![2, 1024]⟩
abbrev S2x1024x512 : Shape := ⟨3, ![2, 1024, 512]⟩
abbrev S2x1x1024 : Shape := ⟨3, ![2, 1, 1024]⟩
abbrev S2x512x1024 : Shape := ⟨3, ![2, 512, 1024]⟩
abbrev S2x8x512x256 : Shape := ⟨4, ![2, 8, 512, 256]⟩
abbrev S1x256x1024 : Shape := ⟨3, ![1, 256, 1024]⟩
abbrev S2x1x512x256 : Shape := ⟨4, ![2, 1, 512, 256]⟩
abbrev S256x1024 : Shape := ⟨2, ![256, 1024]⟩
abbrev S1x512x1024 : Shape := ⟨3, ![1, 512, 1024]⟩
abbrev S512x1024 : Shape := ⟨2, ![512, 1024]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩
abbrev S512x256 : Shape := ⟨2, ![512, 256]⟩
abbrev S1x1x512x256 : Shape := ⟨4, ![1, 1, 512, 256]⟩
abbrev S2x8x2x4x64x256 : Shape := ⟨6, ![2, 8, 2, 4, 64, 256]⟩
abbrev S2x8x256x2x4x64 : Shape := ⟨6, ![2, 8, 256, 2, 4, 64]⟩

abbrev nBuf : Space → Nat
  | .hbm => 9
  | .vmem => 6
  | .smem => 0
  | _ => 0

abbrev bufTy : (tb : Table) → Fin (tcTables nBuf tb) → BufTy
  | .hbm, ⟨0, _⟩ => ⟨S8x256x1024, .f32⟩
  | .hbm, ⟨1, _⟩ => ⟨S2x1024, .f32⟩
  | .hbm, ⟨2, _⟩ => ⟨S2x1024x512, .f32⟩
  | .hbm, ⟨3, _⟩ => ⟨S2x1x1024, .f32⟩
  | .hbm, ⟨4, _⟩ => ⟨S2x512x1024, .f32⟩
  | .hbm, ⟨5, _⟩ => ⟨S2x512x1024, .bf16⟩
  | .hbm, ⟨6, _⟩ => ⟨S2x8x512x256, .f32⟩
  | .hbm, ⟨7, _⟩ => ⟨S2x8x2x4x64x256, .f32⟩
  | .hbm, ⟨8, _⟩ => ⟨S2x8x256x2x4x64, .f32⟩
  | .local _ .vmem, ⟨0, _⟩ => ⟨S1x256x1024, .f32⟩
  | .local _ .vmem, ⟨1, _⟩ => ⟨S1x256x1024, .f32⟩
  | .local _ .vmem, ⟨2, _⟩ => ⟨S2x1x1024, .f32⟩
  | .local _ .vmem, ⟨3, _⟩ => ⟨S2x512x1024, .bf16⟩
  | .local _ .vmem, ⟨4, _⟩ => ⟨S2x1x512x256, .f32⟩
  | .local _ .vmem, ⟨5, _⟩ => ⟨S2x1x512x256, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x256x1024 : Shape := ⟨3, ![8, 256, 1024]⟩
abbrev S2x1024 : Shape := ⟨2, ![2, 1024]⟩
abbrev S2x1024x512 : Shape := ⟨3, ![2, 1024, 512]⟩
abbrev S1x1024 : Shape := ⟨2, ![1, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1x1024x512 : Shape := ⟨3, ![1, 1024, 512]⟩
abbrev S1024x512 : Shape := ⟨2, ![1024, 512]⟩
abbrev S8x256x512 : Shape := ⟨3, ![8, 256, 512]⟩
abbrev S8x256x2x4x64 : Shape := ⟨5, ![8, 256, 2, 4, 64]⟩
abbrev S1x8x256x2x4x64 : Shape := ⟨6, ![1, 8, 256, 2, 4, 64]⟩
abbrev S2x8x256x2x4x64 : Shape := ⟨6, ![2, 8, 256, 2, 4, 64]⟩

abbrev nBuf : Space → Nat
  | .hbm => 50
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S2x1024, .f32⟩
  | .hbm, ⟨2, _⟩ => ⟨S2x1024x512, .f32⟩
  | .hbm, ⟨3, _⟩ => ⟨S1x1024, .f32⟩
  | .hbm, ⟨4, _⟩ => ⟨S1024, .f32⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S1x1024x512, .f32⟩
  | .hbm, ⟨22, _⟩ => ⟨S1024x512, .f32⟩
  | .hbm, ⟨23, _⟩ => ⟨S8x256x512, .f32⟩
  | .hbm, ⟨24, _⟩ => ⟨S8x256x2x4x64, .f32⟩
  | .hbm, ⟨25, _⟩ => ⟨S1x1024, .f32⟩
  | .hbm, ⟨26, _⟩ => ⟨S1024, .f32⟩
  | .hbm, ⟨27, _⟩ => ⟨S8x256x1024, .f32⟩
  | .hbm, ⟨28, _⟩ => ⟨S_, .f32⟩
  | .hbm, ⟨29, _⟩ => ⟨S8x256, .f32⟩
  | .hbm, ⟨30, _⟩ => ⟨S8x256x1, .f32⟩
  | .hbm, ⟨31, _⟩ => ⟨S_, .f32⟩
  | .hbm, ⟨32, _⟩ => ⟨S8x256x1, .f32⟩
  | .hbm, ⟨33, _⟩ => ⟨S8x256x1, .f32⟩
  | .hbm, ⟨34, _⟩ => ⟨S_, .f32⟩
  | .hbm, ⟨35, _⟩ => ⟨S8x256x1, .f32⟩
  | .hbm, ⟨36, _⟩ => ⟨S8x256x1, .f32⟩
  | .hbm, ⟨37, _⟩ => ⟨S8x256x1, .f32⟩
  | .hbm, ⟨38, _⟩ => ⟨S8x256x1024, .f32⟩
  | .hbm, ⟨39, _⟩ => ⟨S8x256x1024, .f32⟩
  | .hbm, ⟨40, _⟩ => ⟨S1x1x1024, .f32⟩
  | .hbm, ⟨41, _⟩ => ⟨S8x256x1024, .f32⟩
  | .hbm, ⟨42, _⟩ => ⟨S8x256x1024, .f32⟩
  | .hbm, ⟨43, _⟩ => ⟨S1x1024x512, .f32⟩
  | .hbm, ⟨44, _⟩ => ⟨S1024x512, .f32⟩
  | .hbm, ⟨45, _⟩ => ⟨S8x256x512, .f32⟩
  | .hbm, ⟨46, _⟩ => ⟨S8x256x2x4x64, .f32⟩
  | .hbm, ⟨47, _⟩ => ⟨S1x8x256x2x4x64, .f32⟩
  | .hbm, ⟨48, _⟩ => ⟨S1x8x256x2x4x64, .f32⟩
  | .hbm, ⟨49, _⟩ => ⟨S2x8x256x2x4x64, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]
-- ==== Kernel5.lean ====
abbrev S32x4x1024 : Shape := ⟨3, ![32, 4, 1024]⟩
abbrev S2x1024 : Shape := ⟨2, ![2, 1024]⟩
abbrev S1x1024x3072 : Shape := ⟨3, ![1, 1024, 3072]⟩
abbrev S_ : Shape := ⟨0, ![]⟩
abbrev S32x8x1024 : Shape := ⟨3, ![32, 8, 1024]⟩
abbrev S256x1024 : Shape := ⟨2, ![256, 1024]⟩
abbrev S1x1024 : Shape := ⟨2, ![1, 1024]⟩
abbrev S1024 : Shape := ⟨1, ![1024]⟩
abbrev S1024x3072 : Shape := ⟨2, ![1024, 3072]⟩
abbrev S256x256 : Shape := ⟨2, ![256, 256]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1024x256 : Shape := ⟨2, ![1024, 256]⟩
abbrev S1024x512 : Shape := ⟨2, ![1024, 512]⟩
abbrev S32x8x2x4x64 : Shape := ⟨5, ![32, 8, 2, 4, 64]⟩
abbrev S32x4x2x4x64 : Shape := ⟨5, ![32, 4, 2, 4, 64]⟩
abbrev S1x32x4x2x4x64 : Shape := ⟨6, ![1, 32, 4, 2, 4, 64]⟩

abbrev nBuf : Space → Nat
  | .hbm => 29
  | .vmem => 12
  | .smem => 0
  | _ => 0

abbrev bufTy : (tb : Table) → Fin (tcTables nBuf tb) → BufTy
  | .hbm, ⟨0, _⟩ => ⟨S32x4x1024, .f32⟩
  | .hbm, ⟨1, _⟩ => ⟨S2x1024, .f32⟩
  | .hbm, ⟨2, _⟩ => ⟨S1x1024x3072, .f32⟩
  | .hbm, ⟨3, _⟩ => ⟨S_, .i32⟩
  | .hbm, ⟨4, _⟩ => ⟨S_, .f32⟩
  | .hbm, ⟨5, _⟩ => ⟨S32x8x1024, .f32⟩
  | .hbm, ⟨6, _⟩ => ⟨S256x1024, .f32⟩
  | .hbm, ⟨7, _⟩ => ⟨S1x1024, .f32⟩
  | .hbm, ⟨8, _⟩ => ⟨S1024, .f32⟩
  | .hbm, ⟨9, _⟩ => ⟨S1024x3072, .f32⟩
  | .hbm, ⟨10, _⟩ => ⟨S1x1024, .f32⟩
  | .hbm, ⟨11, _⟩ => ⟨S1024x3072, .bf16⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S256x512, .f32⟩
  | .hbm, ⟨16, _⟩ => ⟨S256x512, .f32⟩
  | .hbm, ⟨17, _⟩ => ⟨S256x512, .f32⟩
  | .hbm, ⟨18, _⟩ => ⟨S256x256, .f32⟩
  | .hbm, ⟨19, _⟩ => ⟨S256x512, .f32⟩
  | .hbm, ⟨20, _⟩ => ⟨S32x8x2x4x64, .f32⟩
  | .hbm, ⟨21, _⟩ => ⟨S32x4x2x4x64, .f32⟩
  | .hbm, ⟨22, _⟩ => ⟨S1x32x4x2x4x64, .f32⟩
  | .hbm, ⟨23, _⟩ => ⟨S32x8x2x4x64, .f32⟩
  | .hbm, ⟨24, _⟩ => ⟨S32x4x2x4x64, .f32⟩
  | .hbm, ⟨25, _⟩ => ⟨S1x32x4x2x4x64, .f32⟩
  | .hbm, ⟨26, _⟩ => ⟨S32x8x2x4x64, .f32⟩
  | .hbm, ⟨27, _⟩ => ⟨S32x4x2x4x64, .f32⟩
  | .hbm, ⟨28, _⟩ => ⟨S1x32x4x2x4x64, .f32⟩
  | .local _ .vmem, ⟨0, _⟩ => ⟨S256x1024, .f32⟩
  | .local _ .vmem, ⟨1, _⟩ => ⟨S1x1024, .f32⟩
  | .local _ .vmem, ⟨2, _⟩ => ⟨S1024x3072, .bf16⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x256, .f32⟩
  | .local _ .vmem, ⟨10, _⟩ => ⟨S256x512, .f32⟩
  | .local _ .vmem, ⟨11, _⟩ => ⟨S256x128, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev main_v7_5 : Ref sig .tc := ⟨.hbm, 17, rfl⟩
abbrev main_v7_6 : Ref sig .tc := ⟨.hbm, 18, rfl⟩
abbrev main_v7_7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference5Ideal.lean ====
abbrev S32x4x1024 : Shape := ⟨3, ![32, 4, 1024]⟩
abbrev S2x1024 : Shape := ⟨2, ![2, 1024]⟩
abbrev S1x1024x3072 : Shape := ⟨3, ![1, 1024, 3072]⟩
abbrev S1x1024 : Shape := ⟨2, ![1, 1024]⟩
abbrev S1024 : Shape := ⟨1, ![1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S1024x3072 : Shape := ⟨2, ![1024, 3072]⟩
abbrev S32x4x3072 : Shape := ⟨3, ![32, 4, 3072]⟩
abbrev S32x4x2304 : Shape := ⟨3, ![32, 4, 2304]⟩
abbrev S32x4x3x12x64 : Shape := ⟨5, ![32, 4, 3, 12, 64]⟩
abbrev S32x4x2x12x64 : Shape := ⟨5, ![32, 4, 2, 12, 64]⟩
abbrev S32x4x2x4x64 : Shape := ⟨5, ![32, 4, 2, 4, 64]⟩
abbrev S1x32x4x2x4x64 : Shape := ⟨6, ![1, 32, 4, 2, 4, 64]⟩

abbrev nBuf : Space → Nat
  | .hbm => 32
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S2x1024, .f32⟩
  | .hbm, ⟨2, _⟩ => ⟨S1x1024x3072, .f32⟩
  | .hbm, ⟨3, _⟩ => ⟨S1x1024, .f32⟩
  | .hbm, ⟨4, _⟩ => ⟨S1024, .f32⟩
  | .hbm, ⟨5, _⟩ => ⟨S32x4x1024, .f32⟩
  | .hbm, ⟨6, _⟩ => ⟨S_, .f32⟩
  | .hbm, ⟨7, _⟩ => ⟨S32x4, .f32⟩
  | .hbm, ⟨8, _⟩ => ⟨S32x4x1, .f32⟩
  | .hbm, ⟨9, _⟩ => ⟨S_, .f32⟩
  | .hbm, ⟨10, _⟩ => ⟨S32x4x1, .f32⟩
  | .hbm, ⟨11, _⟩ => ⟨S32x4x1, .f32⟩
  | .hbm, ⟨12, _⟩ => ⟨S_, .f32⟩
  | .hbm, ⟨13, _⟩ => ⟨S32x4x1, .f32⟩
  | .hbm, ⟨14, _⟩ => ⟨S32x4x1, .f32⟩
  | .hbm, ⟨15, _⟩ => ⟨S32x4x1, .f32⟩
  | .hbm, ⟨16, _⟩ => ⟨S32x4x1024, .f32⟩
  | .hbm, ⟨17, _⟩ => ⟨S32x4x1024, .f32⟩
  | .hbm, ⟨18, _⟩ => ⟨S1x1x1024, .f32⟩
  | .hbm, ⟨19, _⟩ => ⟨S32x4x1024, .f32⟩
  | .hbm, ⟨20, _⟩ => ⟨S32x4x1024, .f32⟩
  | .hbm, ⟨21, _⟩ => ⟨S1024x3072, .f32⟩
  | .hbm, ⟨22, _⟩ => ⟨S32x4x3072, .f32⟩
  | .hbm, ⟨23, _⟩ => ⟨S32x4x2304, .f32⟩
  | .hbm, ⟨24, _⟩ => ⟨S32x4x3x12x64, .f32⟩
  | .hbm, ⟨25, _⟩ => ⟨S32x4x2x12x64, .f32⟩
  | .hbm, ⟨26, _⟩ => ⟨S32x4x2x4x64, .f32⟩
  | .hbm, ⟨27, _⟩ => ⟨S1x32x4x2x4x64, .f32⟩
  | .hbm, ⟨28, _⟩ => ⟨S32x4x2x4x64, .f32⟩
  | .hbm, ⟨29, _⟩ => ⟨S1x32x4x2x4x64, .f32⟩
  | .hbm, ⟨30, _⟩ => ⟨S32x4x2x4x64, .f32⟩
  | .hbm, ⟨31, _⟩ => ⟨S1x32x4x2x4x64, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Kernel6.lean ====
abbrev S8x2048x1024 : Shape := ⟨3, ![8, 2048, 1024]⟩
abbrev S8x2048x768 : Shape := ⟨3, ![8, 2048, 768]⟩
abbrev S2x1024 : Shape := ⟨2, ![2, 1024]⟩
abbrev S1x1024x3712 : Shape := ⟨3, ![1, 1024, 3712]⟩
abbrev S2x8x256x2x4x64 : Shape := ⟨6, ![2, 8, 256, 2, 4, 64]⟩
abbrev S1x1024x1024 : Shape := ⟨3, ![1, 1024, 1024]⟩
abbrev S1024x3712 : Shape := ⟨2, ![1024, 3712]⟩
abbrev S1024x1280 : Shape := ⟨2, ![1024, 1280]⟩
abbrev S2x8x2x4x64x256 : Shape := ⟨6, ![2, 8, 2, 4, 64, 256]⟩
abbrev S2x8x512x256 : Shape := ⟨4, ![2, 8, 512, 256]⟩
abbrev S16384x1024 : Shape := ⟨2, ![16384, 1024]⟩
abbrev S16384x768 : Shape := ⟨2, ![16384, 768]⟩
abbrev S1x1024 : Shape := ⟨2, ![1, 1024]⟩
abbrev S1024 : Shape := ⟨1, ![1024]⟩
abbrev S1024x1024 : Shape := ⟨2, ![1024, 1024]⟩
abbrev S512x1024 : Shape := ⟨2, ![512, 1024]⟩
abbrev S1x1x512x256 : Shape := ⟨4, ![1, 1, 512, 256]⟩
abbrev S512x768 : Shape := ⟨2, ![512, 768]⟩
abbrev S512x128 : Shape := ⟨2, ![512, 128]⟩
abbrev S512x256 : Shape := ⟨2, ![512, 256]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S128x128 : Shape := ⟨2, ![128, 128]⟩
abbrev S128x256 : Shape := ⟨2, ![128, 256]⟩
abbrev S128 : Shape := ⟨1, ![128]⟩
abbrev S128x1 : Shape := ⟨2, ![128, 1]⟩
abbrev S256x768 : Shape := ⟨2, ![256, 768]⟩
abbrev S768x1024 : Shape := ⟨2, ![768, 1024]⟩

abbrev nBuf : Space → Nat
  | .hbm => 24
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S8x2048x768, .f32⟩
  | .hbm, ⟨2, _⟩ => ⟨S2x1024, .f32⟩
  | .hbm, ⟨3, _⟩ => ⟨S1x1024x3712, .f32⟩
  | .hbm, ⟨4, _⟩ => ⟨S2x8x256x2x4x64, .f32⟩
  | .hbm, ⟨5, _⟩ => ⟨S1x1024x1024, .f32⟩
  | .hbm, ⟨6, _⟩ => ⟨S2x1024, .f32⟩
  | .hbm, ⟨7, _⟩ => ⟨S1024x3712, .f32⟩
  | .hbm, ⟨8, _⟩ => ⟨S1024x3712, .bf16⟩
  | .hbm, ⟨9, _⟩ => ⟨S1024x1280, .bf16⟩
  | .hbm, ⟨10, _⟩ => ⟨S2x8x2x4x64x256, .f32⟩
  | .hbm, ⟨11, _⟩ => ⟨S2x8x512x256, .f32⟩
  | .hbm, ⟨12, _⟩ => ⟨S16384x1024, .f32⟩
  | .hbm, ⟨13, _⟩ => ⟨S16384x768, .f32⟩
  | .hbm, ⟨14, _⟩ => ⟨S1x1024, .f32⟩
  | .hbm, ⟨15, _⟩ => ⟨S1024, .f32⟩
  | .hbm, ⟨16, _⟩ => ⟨S1024x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024x1024, .bf16⟩
  | .hbm, ⟨21, _⟩ => ⟨S1x1024, .f32⟩
  | .hbm, ⟨22, _⟩ => ⟨S16384x1024, .f32⟩
  | .hbm, ⟨23, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1280, .bf16⟩
  | .local _ .vmem, ⟨4, _⟩ => ⟨S1x1x512x256, .f32⟩
  | .local _ .vmem, ⟨5, _⟩ => ⟨S1x1x512x256, .f32⟩
  | .local _ .vmem, ⟨6, _⟩ => ⟨S1024x1024, .bf16⟩
  | .local _ .vmem, ⟨7, _⟩ => ⟨S1x1024, .f32⟩
  | .local _ .vmem, ⟨8, _⟩ => ⟨S512x768, .f32⟩
  | .local _ .vmem, ⟨9, _⟩ => ⟨S512x768, .f32⟩
  | .local _ .vmem, ⟨10, _⟩ => ⟨S512x1024, .f32⟩
  | .local _ .vmem, ⟨11, _⟩ => ⟨S512x1024, .f32⟩
  | .local _ .vmem, ⟨12, _⟩ => ⟨S512x128, .f32⟩
  | .local _ .vmem, ⟨13, _⟩ => ⟨S512x256, .f32⟩
  | .local _ .vmem, ⟨14, _⟩ => ⟨S512x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![c1_i32_4.toNat, v16.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S8x2048x1024 : Shape := ⟨3, ![8, 2048, 1024]⟩
abbrev S8x2048x768 : Shape := ⟨3, ![8, 2048, 768]⟩
abbrev S2x1024 : Shape := ⟨2, ![2, 1024]⟩
abbrev S1x1024x3712 : Shape := ⟨3, ![1, 1024, 3712]⟩
abbrev S2x8x256x2x4x64 : Shape := ⟨6, ![2, 8, 256, 2, 4, 64]⟩
abbrev S1x1024x1024 : Shape := ⟨3, ![1, 1024, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x3712 : Shape := ⟨2, ![1024, 3712]⟩
abbrev S8x2048x3712 : Shape := ⟨3, ![8, 2048, 3712]⟩
abbrev S8x2048x256 : Shape := ⟨3, ![8, 2048, 256]⟩
abbrev S8x2048x4x64 : Shape := ⟨4, ![8, 2048, 4, 64]⟩
abbrev S1x8x256x2x4x64 : Shape := ⟨6, ![1, 8, 256, 2, 4, 64]⟩
abbrev S8x256x2x4x64 : Shape := ⟨5, ![8, 256, 2, 4, 64]⟩
abbrev S8x256x1x4x64 : Shape := ⟨5, ![8, 256, 1, 4, 64]⟩
abbrev S8x256x4x64 : Shape := ⟨4, ![8, 256, 4, 64]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x64x2048 : Shape := ⟨4, ![8, 4, 64, 2048]⟩
abbrev S8x2048x4 : Shape := ⟨3, ![8, 2048, 4]⟩
abbrev S8x2048x4x1 : Shape := ⟨4, ![8, 2048, 4, 1]⟩
abbrev S1024x1024 : Shape := ⟨2, ![1024, 1024]⟩

abbrev nBuf : Space → Nat
  | .hbm => 87
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x768, .f32⟩
  | .hbm, ⟨2, _⟩ => ⟨S2x1024, .f32⟩
  | .hbm, ⟨3, _⟩ => ⟨S1x1024x3712, .f32⟩
  | .hbm, ⟨4, _⟩ => ⟨S2x8x256x2x4x64, .f32⟩
  | .hbm, ⟨5, _⟩ => ⟨S1x1024x1024, .f32⟩
  | .hbm, ⟨6, _⟩ => ⟨S2x1024, .f32⟩
  | .hbm, ⟨7, _⟩ => ⟨S1x1024, .f32⟩
  | .hbm, ⟨8, _⟩ => ⟨S1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S1024x3712, .f32⟩
  | .hbm, ⟨26, _⟩ => ⟨S8x2048x3712, .f32⟩
  | .hbm, ⟨27, _⟩ => ⟨S8x2048x256, .f32⟩
  | .hbm, ⟨28, _⟩ => ⟨S8x2048x4x64, .f32⟩
  | .hbm, ⟨29, _⟩ => ⟨S8x2048x1024, .f32⟩
  | .hbm, ⟨30, _⟩ => ⟨S1x8x256x2x4x64, .f32⟩
  | .hbm, ⟨31, _⟩ => ⟨S8x256x2x4x64, .f32⟩
  | .hbm, ⟨32, _⟩ => ⟨S8x256x1x4x64, .f32⟩
  | .hbm, ⟨33, _⟩ => ⟨S8x256x4x64, .f32⟩
  | .hbm, ⟨34, _⟩ => ⟨S8x4x2048x256, .f32⟩
  | .hbm, ⟨35, _⟩ => ⟨S_, .f32⟩
  | .hbm, ⟨36, _⟩ => ⟨S8x4x2048x256, .f32⟩
  | .hbm, ⟨37, _⟩ => ⟨S8x4x2048x256, .f32⟩
  | .hbm, ⟨38, _⟩ => ⟨S_, .f32⟩
  | .hbm, ⟨39, _⟩ => ⟨S8x4x2048, .f32⟩
  | .hbm, ⟨40, _⟩ => ⟨S8x4x2048x1, .f32⟩
  | .hbm, ⟨41, _⟩ => ⟨S8x4x2048x256, .f32⟩
  | .hbm, ⟨42, _⟩ => ⟨S8x4x2048x256, .f32⟩
  | .hbm, ⟨43, _⟩ => ⟨S8x4x2048x256, .f32⟩
  | .hbm, ⟨44, _⟩ => ⟨S_, .f32⟩
  | .hbm, ⟨45, _⟩ => ⟨S8x4x2048, .f32⟩
  | .hbm, ⟨46, _⟩ => ⟨S8x256x1x4x64, .f32⟩
  | .hbm, ⟨47, _⟩ => ⟨S8x256x4x64, .f32⟩
  | .hbm, ⟨48, _⟩ => ⟨S8x4x64x2048, .f32⟩
  | .hbm, ⟨49, _⟩ => ⟨S8x2048x4x64, .f32⟩
  | .hbm, ⟨50, _⟩ => ⟨S8x2048x4, .f32⟩
  | .hbm, ⟨51, _⟩ => ⟨S8x2048x4x1, .f32⟩
  | .hbm, ⟨52, _⟩ => ⟨S8x2048x4x64, .f32⟩
  | .hbm, ⟨53, _⟩ => ⟨S8x2048x4x64, .f32⟩
  | .hbm, ⟨54, _⟩ => ⟨S8x2048x256, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S_, .f32⟩
  | .hbm, ⟨59, _⟩ => ⟨S8x2048x1024, .f32⟩
  | .hbm, ⟨60, _⟩ => ⟨S8x2048x1024, .f32⟩
  | .hbm, ⟨61, _⟩ => ⟨S_, .f32⟩
  | .hbm, ⟨62, _⟩ => ⟨S8x2048x1024, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S1024x1024, .f32⟩
  | .hbm, ⟨67, _⟩ => ⟨S8x2048x1024, .f32⟩
  | .hbm, ⟨68, _⟩ => ⟨S1x1024, .f32⟩
  | .hbm, ⟨69, _⟩ => ⟨S1024, .f32⟩
  | .hbm, ⟨70, _⟩ => ⟨S8x2048x1024, .f32⟩
  | .hbm, ⟨71, _⟩ => ⟨S_, .f32⟩
  | .hbm, ⟨72, _⟩ => ⟨S8x2048, .f32⟩
  | .hbm, ⟨73, _⟩ => ⟨S8x2048x1, .f32⟩
  | .hbm, ⟨74, _⟩ => ⟨S_, .f32⟩
  | .hbm, ⟨75, _⟩ => ⟨S8x2048x1, .f32⟩
  | .hbm, ⟨76, _⟩ => ⟨S8x2048x1, .f32⟩
  | .hbm, ⟨77, _⟩ => ⟨S_, .f32⟩
  | .hbm, ⟨78, _⟩ => ⟨S8x2048x1, .f32⟩
  | .hbm, ⟨79, _⟩ => ⟨S8x2048x1, .f32⟩
  | .hbm, ⟨80, _⟩ => ⟨S8x2048x1, .f32⟩
  | .hbm, ⟨81, _⟩ => ⟨S8x2048x1024, .f32⟩
  | .hbm, ⟨82, _⟩ => ⟨S8x2048x1024, .f32⟩
  | .hbm, ⟨83, _⟩ => ⟨S1x1x1024, .f32⟩
  | .hbm, ⟨84, _⟩ => ⟨S8x2048x1024, .f32⟩
  | .hbm, ⟨85, _⟩ => ⟨S8x2048x1024, .f32⟩
  | .hbm, ⟨86, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_5 : Ref sig .tc := ⟨.hbm, 71, rfl⟩
abbrev main_v50 : Ref sig .tc := ⟨.hbm, 72, rfl⟩
abbrev main_v51 : Ref sig .tc := ⟨.hbm, 73, rfl⟩
abbrev main_cst_6 : Ref sig .tc := ⟨.hbm, 74, rfl⟩
abbrev main_v52 : Ref sig .tc := ⟨.hbm, 75, rfl⟩
abbrev main_v53 : Ref sig .tc := ⟨.hbm, 76, rfl⟩
abbrev main_cst_7 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]
-- ==== Reference7Ideal.lean ====
abbrev S8x2048x1024 : Shape := ⟨3, ![8, 2048, 1024]⟩
abbrev S8x2048x768 : Shape := ⟨3, ![8, 2048, 768]⟩
abbrev S2x1024 : Shape := ⟨2, ![2, 1024]⟩
abbrev S1x1024x3712 : Shape := ⟨3, ![1, 1024, 3712]⟩
abbrev S2x8x256x2x4x64 : Shape := ⟨6, ![2, 8, 256, 2, 4, 64]⟩
abbrev S1x1024x1024 : Shape := ⟨3, ![1, 1024, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x3712 : Shape := ⟨2, ![1024, 3712]⟩
abbrev S8x2048x3712 : Shape := ⟨3, ![8, 2048, 3712]⟩
abbrev S8x2048x256 : Shape := ⟨3, ![8, 2048, 256]⟩
abbrev S8x2048x4x64 : Shape := ⟨4, ![8, 2048, 4, 64]⟩
abbrev S1x8x256x2x4x64 : Shape := ⟨6, ![1, 8, 256, 2, 4, 64]⟩
abbrev S8x256x2x4x64 : Shape := ⟨5, ![8, 256, 2, 4, 64]⟩
abbrev S8x256x1x4x64 : Shape := ⟨5, ![8, 256, 1, 4, 64]⟩
abbrev S8x256x4x64 : Shape := ⟨4, ![8, 256, 4, 64]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x64x2048 : Shape := ⟨4, ![8, 4, 64, 2048]⟩
abbrev S1024x1024 : Shape := ⟨2, ![1024, 1024]⟩

abbrev nBuf : Space → Nat
  | .hbm => 89
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x768, .f32⟩
  | .hbm, ⟨2, _⟩ => ⟨S2x1024, .f32⟩
  | .hbm, ⟨3, _⟩ => ⟨S1x1024x3712, .f32⟩
  | .hbm, ⟨4, _⟩ => ⟨S2x8x256x2x4x64, .f32⟩
  | .hbm, ⟨5, _⟩ => ⟨S1x1024x1024, .f32⟩
  | .hbm, ⟨6, _⟩ => ⟨S2x1024, .f32⟩
  | .hbm, ⟨7, _⟩ => ⟨S1x1024, .f32⟩
  | .hbm, ⟨8, _⟩ => ⟨S1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S1024x3712, .f32⟩
  | .hbm, ⟨26, _⟩ => ⟨S8x2048x3712, .f32⟩
  | .hbm, ⟨27, _⟩ => ⟨S8x2048x256, .f32⟩
  | .hbm, ⟨28, _⟩ => ⟨S8x2048x4x64, .f32⟩
  | .hbm, ⟨29, _⟩ => ⟨S8x2048x1024, .f32⟩
  | .hbm, ⟨30, _⟩ => ⟨S1x8x256x2x4x64, .f32⟩
  | .hbm, ⟨31, _⟩ => ⟨S8x256x2x4x64, .f32⟩
  | .hbm, ⟨32, _⟩ => ⟨S8x256x1x4x64, .f32⟩
  | .hbm, ⟨33, _⟩ => ⟨S8x256x4x64, .f32⟩
  | .hbm, ⟨34, _⟩ => ⟨S8x4x2048x256, .f32⟩
  | .hbm, ⟨35, _⟩ => ⟨S_, .f32⟩
  | .hbm, ⟨36, _⟩ => ⟨S8x4x2048x256, .f32⟩
  | .hbm, ⟨37, _⟩ => ⟨S8x4x2048x256, .f32⟩
  | .hbm, ⟨38, _⟩ => ⟨S_, .f32⟩
  | .hbm, ⟨39, _⟩ => ⟨S8x4x2048, .f32⟩
  | .hbm, ⟨40, _⟩ => ⟨S_, .f32⟩
  | .hbm, ⟨41, _⟩ => ⟨S8x4x2048, .f32⟩
  | .hbm, ⟨42, _⟩ => ⟨S8x4x2048, .f32⟩
  | .hbm, ⟨43, _⟩ => ⟨S8x4x2048x1, .f32⟩
  | .hbm, ⟨44, _⟩ => ⟨S8x4x2048x256, .f32⟩
  | .hbm, ⟨45, _⟩ => ⟨S8x4x2048x256, .f32⟩
  | .hbm, ⟨46, _⟩ => ⟨S8x4x2048x256, .f32⟩
  | .hbm, ⟨47, _⟩ => ⟨S_, .f32⟩
  | .hbm, ⟨48, _⟩ => ⟨S8x4x2048, .f32⟩
  | .hbm, ⟨49, _⟩ => ⟨S8x4x2048x1, .f32⟩
  | .hbm, ⟨50, _⟩ => ⟨S8x4x2048x256, .f32⟩
  | .hbm, ⟨51, _⟩ => ⟨S8x4x2048x256, .f32⟩
  | .hbm, ⟨52, _⟩ => ⟨S8x256x1x4x64, .f32⟩
  | .hbm, ⟨53, _⟩ => ⟨S8x256x4x64, .f32⟩
  | .hbm, ⟨54, _⟩ => ⟨S8x4x64x2048, .f32⟩
  | .hbm, ⟨55, _⟩ => ⟨S8x2048x4x64, .f32⟩
  | .hbm, ⟨56, _⟩ => ⟨S8x2048x256, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S_, .f32⟩
  | .hbm, ⟨61, _⟩ => ⟨S8x2048x1024, .f32⟩
  | .hbm, ⟨62, _⟩ => ⟨S8x2048x1024, .f32⟩
  | .hbm, ⟨63, _⟩ => ⟨S_, .f32⟩
  | .hbm, ⟨64, _⟩ => ⟨S8x2048x1024, .f32⟩
  | .hbm, ⟨65, _⟩ => ⟨S8x2048x1024, .f32⟩
  | .hbm, ⟨66, _⟩ => ⟨S8x2048x1024, .f32⟩
  | .hbm, ⟨67, _⟩ => ⟨S8x2048x1024, .f32⟩
  | .hbm, ⟨68, _⟩ => ⟨S1024x1024, .f32⟩
  | .hbm, ⟨69, _⟩ => ⟨S8x2048x1024, .f32⟩
  | .hbm, ⟨70, _⟩ => ⟨S1x1024, .f32⟩
  | .hbm, ⟨71, _⟩ => ⟨S1024, .f32⟩
  | .hbm, ⟨72, _⟩ => ⟨S8x2048x1024, .f32⟩
  | .hbm, ⟨73, _⟩ => ⟨S_, .f32⟩
  | .hbm, ⟨74, _⟩ => ⟨S8x2048, .f32⟩
  | .hbm, ⟨75, _⟩ => ⟨S8x2048x1, .f32⟩
  | .hbm, ⟨76, _⟩ => ⟨S_, .f32⟩
  | .hbm, ⟨77, _⟩ => ⟨S8x2048x1, .f32⟩
  | .hbm, ⟨78, _⟩ => ⟨S8x2048x1, .f32⟩
  | .hbm, ⟨79, _⟩ => ⟨S_, .f32⟩
  | .hbm, ⟨80, _⟩ => ⟨S8x2048x1, .f32⟩
  | .hbm, ⟨81, _⟩ => ⟨S8x2048x1, .f32⟩
  | .hbm, ⟨82, _⟩ => ⟨S8x2048x1, .f32⟩
  | .hbm, ⟨83, _⟩ => ⟨S8x2048x1024, .f32⟩
  | .hbm, ⟨84, _⟩ => ⟨S8x2048x1024, .f32⟩
  | .hbm, ⟨85, _⟩ => ⟨S1x1x1024, .f32⟩
  | .hbm, ⟨86, _⟩ => ⟨S8x2048x1024, .f32⟩
  | .hbm, ⟨87, _⟩ => ⟨S8x2048x1024, .f32⟩
  | .hbm, ⟨88, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_v52 : Ref sig .tc := ⟨.hbm, 75, rfl⟩
abbrev main_cst_7 : Ref sig .tc := ⟨.hbm, 76, rfl⟩
abbrev main_v53 : Ref sig .tc := ⟨.hbm, 77, rfl⟩
abbrev main_v54 : Ref sig .tc := ⟨.hbm, 78, rfl⟩
abbrev main_cst_8 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]
-- ==== Proof.Chain.lean ====
/- One head's windowed softmax on a tile of 128 query rows, as vector operations on tiles, and those operations read at
   an element: the largest score of a row, the mass and the numerators of its weights, over the tile's own block of
   keys and the block of keys before it. -/
module

public import proofs.«01_k».proof.Proof.Gen.KernelIdeal.Frame
public import Idealize.ShloMosaic.Lib.Pointwise

@[expose] public section

set_option maxRecDepth 16384

noncomputable section

namespace Cert.Proof.Chain

open Idealize.ShloMosaic Cert.KernelIdeal Cert.KernelIdeal.Gen

/-- The lanes of the first of two heads that share a tile of 128 lanes. -/
def low : IVec S128x128 1 :=
  cmpi .slt (iota .tc S128x128 32 [1] iota_S128x128_d1_w32) (broadcast S128x128 64#32)

/-- The queries of the first head of a pair, the other head's lanes at zero. -/
def first (q : FVec Ideal S128x128 .f32) : FVec Ideal S128x128 .bf16 :=
  truncf .bf16 (select low q (broadcast S128x128 (Scalar.ofBits .f32 0x00000000#32 : Ideal .f32))) bitsLt_bf16_f32

/-- The queries of the second head of a pair, the other head's lanes at zero. -/
def second (q : FVec Ideal S128x128 .f32) : FVec Ideal S128x128 .bf16 :=
  truncf .bf16 (select (xori low (constantI S128x128 1 1#1)) q
    (broadcast S128x128 (Scalar.ofBits .f32 0x00000000#32 : Ideal .f32))) bitsLt_bf16_f32

/-- The scores of a block of keys under a tile of biases. -/
def scores (q k : FVec Ideal S128x128 .bf16) (b : Vec Ideal S1x128x128 .f32) : FVec Ideal S128x128 .f32 :=
  addf (matmul dot_S128x128_S128x128_S128x128_1_1_0_0_n_n none q k (constant S128x128 .f32 0x00000000#32))
    (shapeCast S128x128 b shapeCasts_S1x128x128_S128x128)

/-- Each row's largest score. -/
def rowMax (z : FVec Ideal S128x128 .f32) : FVec Ideal S128x1 .f32 :=
  shapeCast S128x1 (multiReduction .maximumf [1] S128 z 0xFF800000#32 reduces_S128x128_S128 (.inl rfl) rfl)
    shapeCasts_S128_S128x1

/-- Each row's sum. -/
def rowSum (z : FVec Ideal S128x128 .f32) : FVec Ideal S128x1 .f32 :=
  shapeCast S128x1 (multiReduction .add [1] S128 z 0x00000000#32 reduces_S128x128_S128 (.inl rfl) rfl)
    shapeCasts_S128_S128x1

/-- Each row's largest score over two blocks of keys. -/
def top (z y : FVec Ideal S128x128 .f32) : FVec Ideal S128x1 .f32 := maximumf (rowMax z) (rowMax y)

/-- The weights of one block's scores against the rows' largest. -/
def weights (z : FVec Ideal S128x128 .f32) (m : FVec Ideal S128x1 .f32) : FVec Ideal S128x128 .f32 :=
  exp (subf z (broadcastTo S128x128 m broadcasts_S128x1_S128x128))

/-- Each row's sum of weights over two blocks. -/
def mass (z y : FVec Ideal S128x128 .f32) : FVec Ideal S128x1 .f32 :=
  addf (rowSum (weights z (top z y))) (rowSum (weights y (top z y)))

/-- One block's weighted values. -/
def blend (p : FVec Ideal S128x128 .f32) (v : FVec Ideal S128x128 .bf16) : FVec Ideal S128x128 .f32 :=
  matmul dot_S128x128_S128x128_S128x128_1_0_0_1_n_n none (truncf .bf16 p bitsLt_bf16_f32) v
    (constant S128x128 .f32 0x00000000#32)

/-- The weighted values of two blocks. -/
def mix (z y : FVec Ideal S128x128 .f32) (v w : FVec Ideal S128x128 .bf16) : FVec Ideal S128x128 .f32 :=
  addf (blend (weights z (top z y)) v) (blend (weights y (top z y)) w)

/-- The numerators of a pair of heads, from each head's scores over its own block and the block before. -/
def accTile (z y z' y' : FVec Ideal S128x128 .f32) (v w : FVec Ideal S128x128 .bf16) : FVec Ideal S1x128x128 .f32 :=
  shapeCast S1x128x128 (select low (mix z y v w) (mix z' y' v w)) shapeCasts_S128x128_S1x128x128

/-- A column written on one lane of a tile. -/
def onLane (n : BitVec 32) (x : FVec Ideal S128x1 .f32) (t : FVec Ideal S128x128 .f32) : FVec Ideal S128x128 .f32 :=
  select (cmpi .eq (iota .tc S128x128 32 [1] iota_S128x128_d1_w32) (broadcast S128x128 n))
    (broadcastTo S128x128 (shapeCast S128x1 x shapeCasts_S128x1_S128x1) broadcasts_S128x1_S128x128) t

/-- The four heads' largest scores on lanes 0 to 3 and their masses on lanes 4 to 7, the other lanes at zero. -/
def statTile (z0 y0 z1 y1 z2 y2 z3 y3 : FVec Ideal S128x128 .f32) : FVec Ideal S1x128x128 .f32 :=
  shapeCast S1x128x128
    (onLane 7#32 (mass z3 y3) <| onLane 3#32 (top z3 y3) <| onLane 6#32 (mass z2 y2) <| onLane 2#32 (top z2 y2) <|
      onLane 5#32 (mass z1 y1) <| onLane 1#32 (top z1 y1) <| onLane 4#32 (mass z0 y0) <| onLane 0#32 (top z0 y0) <|
      broadcast S128x128 (Scalar.ofBits .f32 0x00000000#32 : Ideal .f32))
    shapeCasts_S128x128_S1x128x128

/-! ## The same, on rows -/

/-- The largest of a row of scores. -/
def rowTop (f : Fin 128 → EReal) : EReal := Finset.univ.fold max ⊥ f

/-- The largest of two rows of scores. -/
def topAt (f g : Fin 128 → EReal) : EReal := max (rowTop f) (rowTop g)

/-- The mass of two rows of scores. -/
def massAt (f g : Fin 128 → EReal) : EReal :=
  ∑ j, Ideal.exp (f j - topAt f g) + ∑ j, Ideal.exp (g j - topAt f g)

/-- The weighted values of two rows of scores. -/
def mixAt (f g v w : Fin 128 → EReal) : EReal :=
  ∑ j, Ideal.exp (f j - topAt f g) * v j + ∑ j, Ideal.exp (g j - topAt f g) * w j

theorem low_apply (r c : Fin 128) : low (ix2 r c) = if c.val < 64 then 1#1 else 0#1 := by
  revert c; unfold low; pointwise
  decide +kernel

theorem rowMax_apply (z : FVec Ideal S128x128 .f32) (r : Fin 128) :
    rowMax z (ix2 r 0) = rowTop fun j => z (ix2 r j) := by
  unfold rowMax rowTop
  pointwise
  rw [show Ideal.ofBits .f32 0xFF800000#32 = ⊥ by simp [Ideal.ofBits, Ideal.ieee]]

theorem rowSum_apply (z : FVec Ideal S128x128 .f32) (r : Fin 128) :
    rowSum z (ix2 r 0) = ∑ j, z (ix2 r j) := by
  unfold rowSum
  pointwise

theorem top_apply (z y : FVec Ideal S128x128 .f32) (r : Fin 128) :
    top z y (ix2 r 0) = topAt (fun j => z (ix2 r j)) fun j => y (ix2 r j) := by
  unfold top topAt
  pointwise
  rw [rowMax_apply, rowMax_apply]

theorem weights_apply (z : FVec Ideal S128x128 .f32) (m : FVec Ideal S128x1 .f32) (r j : Fin 128) :
    weights z m (ix2 r j) = Ideal.exp (z (ix2 r j) - m (ix2 r 0)) := by
  unfold weights
  pointwise

theorem mass_apply (z y : FVec Ideal S128x128 .f32) (r : Fin 128) :
    mass z y (ix2 r 0) = massAt (fun j => z (ix2 r j)) fun j => y (ix2 r j) := by
  unfold mass massAt
  pointwise
  simp only [rowSum_apply, weights_apply, top_apply]

theorem blend_apply (p : FVec Ideal S128x128 .f32) (v : FVec Ideal S128x128 .bf16) (r c : Fin 128) :
    blend p v (ix2 r c) = ∑ j : Fin 128, p (ix2 r j) * v (ix2 j c) := by
  unfold blend
  pointwise

theorem mix_apply (z y : FVec Ideal S128x128 .f32) (v w : FVec Ideal S128x128 .bf16) (r c : Fin 128) :
    mix z y v w (ix2 r c) = mixAt (fun j => z (ix2 r j)) (fun j => y (ix2 r j)) (fun j => v (ix2 j c))
      fun j => w (ix2 j c) := by
  unfold mix mixAt
  pointwise
  simp only [blend_apply, weights_apply, top_apply]

theorem accTile_apply (z y z' y' : FVec Ideal S128x128 .f32) (v w : FVec Ideal S128x128 .bf16) (r c : Fin 128) :
    accTile z y z' y' v w (ix3 0 r c) =
      if c.val < 64 then
        mixAt (fun j => z (ix2 r j)) (fun j => y (ix2 r j)) (fun j => v (ix2 j c)) fun j => w (ix2 j c)
      else mixAt (fun j => z' (ix2 r j)) (fun j => y' (ix2 r j)) (fun j => v (ix2 j c)) fun j => w (ix2 j c) := by
  unfold accTile
  pointwise
  rw [mix_apply, mix_apply, low_apply]
  by_cases h : c.val < 64 <;> simp [h, Scalar.select]

theorem first_apply (q : FVec Ideal S128x128 .f32) (r c : Fin 128) :
    first q (ix2 r c) = if c.val < 64 then q (ix2 r c) else 0 := by
  unfold first
  pointwise
  rw [low_apply]
  by_cases h : c.val < 64 <;> simp [h, Scalar.select]

theorem second_apply (q : FVec Ideal S128x128 .f32) (r c : Fin 128) :
    second q (ix2 r c) = if c.val < 64 then 0 else q (ix2 r c) := by
  unfold second
  pointwise
  rw [low_apply]
  by_cases h : c.val < 64 <;> simp [h, Scalar.select, IntOp.xori]

theorem scores_apply (q k : FVec Ideal S128x128 .bf16) (b : Vec Ideal S1x128x128 .f32) (r j : Fin 128) :
    scores q k b (ix2 r j) = (∑ l : Fin 128, q (ix2 r l) * k (ix2 j l)) + b (ix3 0 r j) := by
  unfold scores
  pointwise

theorem onLane_apply (n : ℕ) (hn : n < 128) (x : FVec Ideal S128x1 .f32) (t : FVec Ideal S128x128 .f32) (r c : Fin 128) :
    onLane (BitVec.ofNat 32 n) x t (ix2 r c) = if c.val = n then x (ix2 r 0) else t (ix2 r c) := by
  unfold onLane
  pointwise
  have := c.isLt
  by_cases h : c.val = n
  · simp [h, Scalar.select, IntOp.cmpi]
  · have : ¬ BitVec.ofNat 32 c.val = BitVec.ofNat 32 n := by
      intro e; have := congrArg BitVec.toNat e; simp at this; omega
    rw [if_neg h, show IntOp.cmpi .eq (BitVec.ofNat 32 c.val) (BitVec.ofNat 32 n) = 0#1 by
      simp only [IntOp.cmpi]; rw [beq_eq_false_iff_ne.mpr this]; rfl]
    rfl

theorem statTile_apply (z0 y0 z1 y1 z2 y2 z3 y3 : FVec Ideal S128x128 .f32) (r c : Fin 128) :
    statTile z0 y0 z1 y1 z2 y2 z3 y3 (ix3 0 r c) =
      if c.val = 0 then topAt (fun j => z0 (ix2 r j)) fun j => y0 (ix2 r j)
      else if c.val = 1 then topAt (fun j => z1 (ix2 r j)) fun j => y1 (ix2 r j)
      else if c.val = 2 then topAt (fun j => z2 (ix2 r j)) fun j => y2 (ix2 r j)
      else if c.val = 3 then topAt (fun j => z3 (ix2 r j)) fun j => y3 (ix2 r j)
      else if c.val = 4 then massAt (fun j => z0 (ix2 r j)) fun j => y0 (ix2 r j)
      else if c.val = 5 then massAt (fun j => z1 (ix2 r j)) fun j => y1 (ix2 r j)
      else if c.val = 6 then massAt (fun j => z2 (ix2 r j)) fun j => y2 (ix2 r j)
      else if c.val = 7 then massAt (fun j => z3 (ix2 r j)) fun j => y3 (ix2 r j)
      else 0 := by
  unfold statTile
  pointwise
  rw [onLane_apply 7 (by norm_num), onLane_apply 3 (by norm_num), onLane_apply 6 (by norm_num),
    onLane_apply 2 (by norm_num), onLane_apply 5 (by norm_num), onLane_apply 1 (by norm_num),
    onLane_apply 4 (by norm_num), onLane_apply 0 (by norm_num)]
  simp only [mass_apply, top_apply]
  split_ifs <;> first | rfl | omega | (pointwise)

end Cert.Proof.Chain

end
-- ==== Proof.Tiles.lean ====
/- What the attention kernel stores at a grid point, tile by tile: each stored tile is the windowed softmax of `Chain` on
   slices of the point's blocks, and each of the two output blocks reads at an element as that softmax. -/
module

public import proofs.«01_k».proof.Proof.Chain
public import Idealize.ShloMosaic.Lib.Pipeline.ValueKit

@[expose] public section

set_option maxRecDepth 16384

noncomputable section

namespace Cert.Proof.Tiles

open Idealize.ShloMosaic Cert.KernelIdeal Cert.KernelIdeal.Gen Cert.Proof.Chain

theorem slices_q (t : Fin 8) (p : Fin 2) : S1024x256.Slices ![128 * t.val, 128 * p.val] S128x128 := by
  revert t p; decide
theorem slices_kv (t : Fin 8) (n : Fin 4) : S1024x512.Slices ![128 * t.val, 128 * n.val] S128x128 := by
  revert t n; decide
theorem slices_kvp (n : Fin 4) : S128x512.Slices ![0, 128 * n.val] S128x128 := by
  revert n; decide
theorem inb_own (h : Fin 4) : ∀ a, ![h.val, 0, 0] a + S1x128x128.size a ≤ S4x128x256.size a := by
  revert h; decide
theorem inb_bef (h : Fin 4) : ∀ a, ![h.val, 0, 128] a + S1x128x128.size a ≤ S4x128x256.size a := by
  revert h; decide
theorem inb_acc (t : Fin 8) (p : Fin 2) : ∀ a, ![0, 128 * t.val, 128 * p.val] a + S1x128x128.size a ≤ S1x1024x256.size a := by
  revert t p; decide
theorem inb_st (t : Fin 8) : ∀ a, ![0, 128 * t.val, 0] a + S1x128x128.size a ≤ S1x1024x128.size a := by
  revert t; decide

/-- Of a head, the pair of lanes' tile it lies in. -/
def pair : Fin 4 → Fin 2 := ![0, 0, 1, 1]
/-- The tile of the keys of a pair of heads, and of its values. -/
def keyCol : Fin 2 → Fin 4 := ![0, 1]
def valCol : Fin 2 → Fin 4 := ![2, 3]

section
variable (i : grid1.Coords) (x0 : Vec Ideal S1x1024x256 .f32) (x1 : Vec Ideal S1x1024x512 .f32)
  (x2 : Vec Ideal S1x128x512 .f32) (x3 : Vec Ideal S4x128x256 .f32)

/-- A tile of scaled queries: 128 rows, the lanes of a pair of heads. -/
def qTile (t : Fin 8) (p : Fin 2) : FVec Ideal S128x128 .f32 :=
  extractStridedSlice S128x128 ![128 * t.val, 128 * p.val] (k1_pay3 (View.ld x0 r1_0)) (slices_q t p)

/-- One head's queries on a tile. -/
def head (t : Fin 8) : Fin 4 → FVec Ideal S128x128 .bf16
  | 0 => first (qTile x0 t 0)
  | 1 => second (qTile x0 t 0)
  | 2 => first (qTile x0 t 1)
  | 3 => second (qTile x0 t 1)

/-- A tile of the point's own keys (columns 0 and 1) or values (2 and 3). -/
def own (t : Fin 8) (n : Fin 4) : FVec Ideal S128x128 .bf16 :=
  extractStridedSlice S128x128 ![128 * t.val, 128 * n.val] (k1_pay4 (View.ld x1 r1_1)) (slices_kv t n)

/-- The tile before a tile: of the point's own block, or the block before it for the first tile. -/
def before (n : Fin 4) : Fin 8 → FVec Ideal S128x128 .bf16
  | ⟨0, _⟩ => extractStridedSlice S128x128 ![0, 128 * n.val] (k1_pay5 (View.ld x2 r1_2)) (slices_kvp n)
  | ⟨t + 1, h⟩ => own x1 ⟨t, by omega⟩ n

/-- A head's biases against its tile's own keys, and against the keys before. -/
def biasOwn (h : Fin 4) : Vec Ideal S1x128x128 .f32 :=
  View.ld x3 (Rect.unit (s := S4x128x256) ![h.val, 0, 0] S1x128x128.size (inb_own h))
def biasBef (h : Fin 4) : Vec Ideal S1x128x128 .f32 :=
  View.ld x3 (Rect.unit (s := S4x128x256) ![h.val, 0, 128] S1x128x128.size (inb_bef h))

/-- A head's scores on a tile, against the tile's own keys. -/
def scOwn (t : Fin 8) (h : Fin 4) : FVec Ideal S128x128 .f32 :=
  scores (head x0 t h) (own x1 t (keyCol (pair h))) (biasOwn x3 h)

/-- A head's scores on a tile, against the keys before: masked for the first tile of the first block. -/
def scBef (h : Fin 4) : Fin 8 → FVec Ideal S128x128 .f32
  | ⟨0, _⟩ => Scalar.select (Scalar.cmpi .sgt (BitVec.ofNat 32 (i 2).val) 0#32)
      (scores (head x0 0 h) (before x1 x2 (keyCol (pair h)) 0) (biasBef x3 h))
      (broadcast S128x128 (Named.named (F := Ideal) κ "mask" (φ := .f32) 0xF149F2CA#32))
  | ⟨t + 1, k⟩ => scores (head x0 ⟨t + 1, k⟩ h) (before x1 x2 (keyCol (pair h)) ⟨t + 1, k⟩) (biasBef x3 h)

/-- The tile of numerators stored for a pair of heads. -/
def accAt (t : Fin 8) (p : Fin 2) : FVec Ideal S1x128x128 .f32 :=
  accTile (scOwn x0 x1 x3 t (![0, 2] p)) (scBef i x0 x1 x2 x3 (![0, 2] p) t)
    (scOwn x0 x1 x3 t (![1, 3] p)) (scBef i x0 x1 x2 x3 (![1, 3] p) t) (own x1 t (valCol p)) (before x1 x2 (valCol p) t)

/-- The tile of largest scores and masses stored. -/
def statAt (t : Fin 8) : FVec Ideal S1x128x128 .f32 :=
  statTile (scOwn x0 x1 x3 t 0) (scBef i x0 x1 x2 x3 0 t) (scOwn x0 x1 x3 t 1) (scBef i x0 x1 x2 x3 1 t)
    (scOwn x0 x1 x3 t 2) (scBef i x0 x1 x2 x3 2 t) (scOwn x0 x1 x3 t 3) (scBef i x0 x1 x2 x3 3 t)

/-- A stored tile of numerators with its place. -/
def accPiece (t : Fin 8) (p : Fin 2) : View.Piece (Elt Ideal) S1x1024x256 .f32 :=
  ⟨Rect.unit (s := S1x1024x256) ![0, 128 * t.val, 128 * p.val] S1x128x128.size (inb_acc t p), accAt i x0 x1 x2 x3 t p⟩

/-- A stored tile of largest scores and masses with its place. -/
def statPiece (t : Fin 8) : View.Piece (Elt Ideal) S1x1024x128 .f32 :=
  ⟨Rect.unit (s := S1x1024x128) ![0, 128 * t.val, 0] S1x128x128.size (inb_st t), statAt i x0 x1 x2 x3 t⟩

theorem out4_eq : out1_4 i x0 x1 x2 x3 = View.canon
    [accPiece i x0 x1 x2 x3 7 1, accPiece i x0 x1 x2 x3 7 0, accPiece i x0 x1 x2 x3 6 1, accPiece i x0 x1 x2 x3 6 0,
     accPiece i x0 x1 x2 x3 5 1, accPiece i x0 x1 x2 x3 5 0, accPiece i x0 x1 x2 x3 4 1, accPiece i x0 x1 x2 x3 4 0,
     accPiece i x0 x1 x2 x3 3 1, accPiece i x0 x1 x2 x3 3 0, accPiece i x0 x1 x2 x3 2 1, accPiece i x0 x1 x2 x3 2 0,
     accPiece i x0 x1 x2 x3 1 1, accPiece i x0 x1 x2 x3 1 0, accPiece i x0 x1 x2 x3 0 1, accPiece i x0 x1 x2 x3 0 0] := rfl

theorem out5_eq : out1_5 i x0 x1 x2 x3 = View.canon
    [statPiece i x0 x1 x2 x3 7, statPiece i x0 x1 x2 x3 6, statPiece i x0 x1 x2 x3 5, statPiece i x0 x1 x2 x3 4,
     statPiece i x0 x1 x2 x3 3, statPiece i x0 x1 x2 x3 2, statPiece i x0 x1 x2 x3 1, statPiece i x0 x1 x2 x3 0] := rfl

end

end Cert.Proof.Tiles

end
-- ==== Proof.Rows.lean ====
/- The attention kernel's output blocks at an element: the numerators of a row and head, and the row's largest scores and
   masses, from rows of scores over the elements of the point's blocks. -/
module

public import proofs.«01_k».proof.Proof.Tiles

@[expose] public section

set_option maxRecDepth 16384

noncomputable section

namespace Cert.Proof.Tiles

open Idealize.ShloMosaic Cert.KernelIdeal Cert.KernelIdeal.Gen Cert.Proof.Chain

/-- A row of a block of 1024, from its tile and its place there. -/
def row (t : Fin 8) (r : Fin 128) : Fin 1024 := ⟨128 * t.val + r.val, by omega⟩
/-- A lane of a block of queries or numerators, from its head. -/
def lane (h : Fin 4) (l : Fin 64) : Fin 256 := ⟨64 * h.val + l.val, by omega⟩
/-- A lane of a block of keys and values: a key's, and a value's. -/
def klane (h : Fin 4) (l : Fin 64) : Fin 512 := ⟨64 * h.val + l.val, by omega⟩
def vlane (h : Fin 4) (l : Fin 64) : Fin 512 := ⟨256 + 64 * h.val + l.val, by omega⟩

/-- The score of a query and a key with its bias. -/
def scoreAt (q k : Fin 64 → EReal) (b : EReal) : EReal :=
  (∑ l, q l * Scalar.ofBits (F := Ideal) .f32 0x3E000000#32 * k l) + b

/-- Lanes of a pair of heads with one head's at zero: the sum runs over the other head's. -/
theorem sum_low (a k : Fin 128 → EReal) :
    ∑ l : Fin 128, (if l.val < 64 then a l else 0) * k l = ∑ l : Fin 64, a ⟨l.val, by omega⟩ * k ⟨l.val, by omega⟩ := by
  rw [Fin.sum_univ_add (a := 64) (b := 64) fun l : Fin 128 => (if l.val < 64 then a l else 0) * k l]
  rw [Finset.sum_eq_zero (s := Finset.univ)
    (f := fun i : Fin 64 => (if (Fin.natAdd 64 i).val < 64 then a (Fin.natAdd 64 i) else 0) * k (Fin.natAdd 64 i))
    fun l _ => ?_, add_zero]
  · refine Finset.sum_congr rfl fun l _ => ?_
    rw [if_pos (by simp)]; rfl
  · rw [if_neg (by simp), zero_mul]

theorem sum_high (a k : Fin 128 → EReal) :
    ∑ l : Fin 128, (if l.val < 64 then 0 else a l) * k l =
      ∑ l : Fin 64, a ⟨64 + l.val, by omega⟩ * k ⟨64 + l.val, by omega⟩ := by
  rw [Fin.sum_univ_add (a := 64) (b := 64) fun l : Fin 128 => (if l.val < 64 then 0 else a l) * k l]
  rw [Finset.sum_eq_zero (f := fun i : Fin 64 => _) fun l _ => ?_, zero_add]
  · refine Finset.sum_congr rfl fun l _ => ?_
    rw [if_neg (by simp)]; rfl
  · rw [if_pos (by simp), zero_mul]

variable (i : grid1.Coords) (x0 : Vec Ideal S1x1024x256 .f32) (x1 : Vec Ideal S1x1024x512 .f32)
  (x2 : Vec Ideal S1x128x512 .f32) (x3 : Vec Ideal S4x128x256 .f32)

theorem qTile_apply (t : Fin 8) (p : Fin 2) (r c : Fin 128) :
    qTile x0 t p (ix2 r c) = x0 (ix3 0 (row t r) ⟨128 * p.val + c.val, by omega⟩) *
      Scalar.ofBits (F := Ideal) .f32 0x3E000000#32 := by
  unfold qTile k1_pay3
  pointwise
  rfl

theorem own_apply (t : Fin 8) (n : Fin 4) (j c : Fin 128) :
    own x1 t n (ix2 j c) = x1 (ix3 0 (row t j) ⟨128 * n.val + c.val, by omega⟩) := by
  unfold own k1_pay4
  pointwise
  rfl

/-- A row of keys or values of the tile before a tile. -/
def befAt (j : Fin 128) (c : Fin 512) : Fin 8 → EReal
  | ⟨0, _⟩ => x2 (ix3 0 j c)
  | ⟨t + 1, h⟩ => x1 (ix3 0 (row ⟨t, by omega⟩ j) c)

theorem before_apply (t : Fin 8) (n : Fin 4) (j c : Fin 128) :
    before x1 x2 n t (ix2 j c) = befAt x1 x2 j ⟨128 * n.val + c.val, by omega⟩ t := by
  obtain ⟨t, h⟩ := t
  cases t with
  | zero => unfold before befAt k1_pay5; pointwise
  | succ t => exact own_apply x1 ⟨t, by omega⟩ n j c

theorem biasOwn_apply (h : Fin 4) (r j : Fin 128) :
    biasOwn x3 h (ix3 0 r j) = x3 (ix3 h r ⟨j.val, by omega⟩) := by
  unfold biasOwn
  pointwise

theorem biasBef_apply (h : Fin 4) (r j : Fin 128) :
    biasBef x3 h (ix3 0 r j) = x3 (ix3 h r ⟨128 + j.val, by omega⟩) := by
  unfold biasBef
  pointwise

/-- One head's scores against any tile of keys. -/
theorem scores_head (t : Fin 8) (h : Fin 4) (k : FVec Ideal S128x128 .bf16) (b : Vec Ideal S1x128x128 .f32)
    (r j : Fin 128) (κ' : Fin 512 → EReal)
    (hk : ∀ c : Fin 128, k (ix2 j c) = κ' ⟨128 * (keyCol (pair h)).val + c.val, by omega⟩) :
    scores (head x0 t h) k b (ix2 r j) =
      scoreAt (fun l => x0 (ix3 0 (row t r) (lane h l))) (fun l => κ' (klane h l)) (b (ix3 0 r j)) := by
  rw [scores_apply]
  unfold scoreAt
  congr 1
  simp only [hk]
  match h with
  | 0 =>
    simp only [head, first_apply, qTile_apply]
    rw [sum_low]
    rfl
  | 1 =>
    simp only [head, second_apply, qTile_apply]
    rw [sum_high]
    rfl
  | 2 =>
    simp only [head, first_apply, qTile_apply]
    rw [sum_low]
    rfl
  | 3 =>
    simp only [head, second_apply, qTile_apply]
    rw [sum_high]
    refine Finset.sum_congr rfl fun l _ => ?_
    congr 3
    all_goals first
      | (congr 1; apply Fin.ext; show 128 * 1 + (64 + l.val) = 64 * 3 + l.val; omega)
      | (apply Fin.ext; show 128 * 1 + (64 + l.val) = 64 * 3 + l.val; omega)
      | (show 128 * 1 + (64 + l.val) = 64 * 3 + l.val; omega)

theorem scOwn_apply (t : Fin 8) (h : Fin 4) (r j : Fin 128) :
    scOwn x0 x1 x3 t h (ix2 r j) =
      scoreAt (fun l => x0 (ix3 0 (row t r) (lane h l))) (fun l => x1 (ix3 0 (row t j) (klane h l)))
        (x3 (ix3 h r ⟨j.val, by omega⟩)) := by
  unfold scOwn
  rw [scores_head x0 t h _ _ r j (fun c => x1 (ix3 0 (row t j) c)) fun c => own_apply x1 t _ j c, biasOwn_apply]

theorem gate (n : ℕ) (h : n < 2) (z y : FVec Ideal S128x128 .f32) :
    Scalar.select (Scalar.cmpi .sgt (BitVec.ofNat 32 n) 0#32) z y = if n = 0 then y else z := by
  interval_cases n <;> rfl

theorem scBef_apply (t : Fin 8) (h : Fin 4) (r j : Fin 128) :
    scBef i x0 x1 x2 x3 h t (ix2 r j) =
      if t.val = 0 ∧ (i 2).val = 0 then ⊥
      else scoreAt (fun l => x0 (ix3 0 (row t r) (lane h l))) (fun l => befAt x1 x2 j (klane h l) t)
        (x3 (ix3 h r ⟨128 + j.val, by omega⟩)) := by
  obtain ⟨t, ht⟩ := t
  cases t with
  | zero =>
    unfold scBef
    rw [gate _ (i 2).isLt]
    by_cases h0 : (i 2).val = 0
    · rw [if_pos h0, if_pos ⟨rfl, h0⟩]
      exact IdealRules.named_const.ideal_named_scalar _ _ _ _ rfl
    · rw [if_neg h0, if_neg fun e => h0 e.2]
      show scores (head x0 0 h) (before x1 x2 (keyCol (pair h)) 0) (biasBef x3 h) (ix2 r j) = _
      rw [scores_head x0 0 h _ _ r j (fun c => befAt x1 x2 j c 0) fun c => before_apply x1 x2 0 _ j c, biasBef_apply]
      rfl
  | succ t =>
    unfold scBef
    rw [if_neg fun e => absurd e.1 (Nat.succ_ne_zero t)]
    show scores (head x0 ⟨t + 1, ht⟩ h) (before x1 x2 (keyCol (pair h)) ⟨t + 1, ht⟩) (biasBef x3 h) (ix2 r j) = _
    rw [scores_head x0 ⟨t + 1, ht⟩ h _ _ r j (fun c => befAt x1 x2 j c ⟨t + 1, ht⟩)
      fun c => before_apply x1 x2 ⟨t + 1, ht⟩ _ j c, biasBef_apply]

/-- A row's scores against its tile's own keys, and against the keys before. -/
def ownRow (t : Fin 8) (h : Fin 4) (r : Fin 128) (j : Fin 128) : EReal :=
  scoreAt (fun l => x0 (ix3 0 (row t r) (lane h l))) (fun l => x1 (ix3 0 (row t j) (klane h l)))
    (x3 (ix3 h r ⟨j.val, by omega⟩))
def befRow (t : Fin 8) (h : Fin 4) (r : Fin 128) (j : Fin 128) : EReal :=
  if t.val = 0 ∧ (i 2).val = 0 then ⊥
  else scoreAt (fun l => x0 (ix3 0 (row t r) (lane h l))) (fun l => befAt x1 x2 j (klane h l) t)
    (x3 (ix3 h r ⟨128 + j.val, by omega⟩))

theorem allAt_piece {S : Shape} {e : EltTy} {y : S.Idx} {v : Elt Ideal e} (P : View.Piece (Elt Ideal) S e)
    (L : List (View.Piece (Elt Ideal) S e)) (h1 : View.RectAt y P.1 P.2 v) (h2 : View.AllAt L y v) :
    View.AllAt (P :: L) y v :=
  View.allAt_cons P.1 P.2 L h1 h2

/-- A stored tile that holds an element holds it at the element's place in its own tile. -/
theorem acc_at (t t' : Fin 8) (p p' : Fin 2) (r c : Fin 128) :
    View.RectAt (ix3 0 (row t r) ⟨128 * p.val + c.val, by omega⟩ : S1x1024x256.Idx) (accPiece i x0 x1 x2 x3 t' p').1
      (accPiece i x0 x1 x2 x3 t' p').2 (accAt i x0 x1 x2 x3 t p (ix3 0 r c)) := by
  intro x hx
  have h1 := congrArg (fun y => (y 1).val) hx
  have h2 := congrArg (fun y => (y 2).val) hx
  simp only [Rect.emb_apply] at h1 h2
  change 128 * t'.val + 1 * (x 1).val = 128 * t.val + r.val at h1
  change 128 * p'.val + 1 * (x 2).val = 128 * p.val + c.val at h2
  have b1 : (x 1).val < 128 := (x 1).isLt
  have b2 : (x 2).val < 128 := (x 2).isLt
  obtain rfl : t' = t := Fin.ext (by omega)
  obtain rfl : p' = p := Fin.ext (by omega)
  show accAt i x0 x1 x2 x3 t' p' x = _
  congr 1
  funext a
  match a with
  | 0 => exact Fin.ext (by have : (x 0).val < 1 := (x 0).isLt; show (x 0).val = 0; omega)
  | 1 => exact Fin.ext (by show (x 1).val = r.val; omega)
  | 2 => exact Fin.ext (by show (x 2).val = c.val; omega)

theorem out4_tile (t : Fin 8) (p : Fin 2) (r c : Fin 128) :
    out1_4 i x0 x1 x2 x3 (ix3 0 (row t r) ⟨128 * p.val + c.val, by omega⟩) = accAt i x0 x1 x2 x3 t p (ix3 0 r c) := by
  rw [out4_eq]
  have h := fun t' p' => acc_at i x0 x1 x2 x3 t t' p p' r c
  refine View.canon_eq_of_allAt _ _ _ (cover1_4 _ _ _ _ _ _ _ _ _ _ _ _ _ _ _ _ _) ?_
  iterate 16 refine allAt_piece _ _ (h _ _) ?_
  exact View.allAt_nil _ _

theorem stat_at (t t' : Fin 8) (r c : Fin 128) :
    View.RectAt (ix3 0 (row t r) c : S1x1024x128.Idx) (statPiece i x0 x1 x2 x3 t').1
      (statPiece i x0 x1 x2 x3 t').2 (statAt i x0 x1 x2 x3 t (ix3 0 r c)) := by
  intro x hx
  have h1 := congrArg (fun y => (y 1).val) hx
  have h2 := congrArg (fun y => (y 2).val) hx
  simp only [Rect.emb_apply] at h1 h2
  change 128 * t'.val + 1 * (x 1).val = 128 * t.val + r.val at h1
  change 0 + 1 * (x 2).val = c.val at h2
  have b1 : (x 1).val < 128 := (x 1).isLt
  obtain rfl : t' = t := Fin.ext (by omega)
  show statAt i x0 x1 x2 x3 t' x = _
  congr 1
  funext a
  match a with
  | 0 => exact Fin.ext (by have : (x 0).val < 1 := (x 0).isLt; show (x 0).val = 0; omega)
  | 1 => exact Fin.ext (by show (x 1).val = r.val; omega)
  | 2 => exact Fin.ext (by show (x 2).val = c.val; omega)

theorem out5_tile (t : Fin 8) (r c : Fin 128) :
    out1_5 i x0 x1 x2 x3 (ix3 0 (row t r) c) = statAt i x0 x1 x2 x3 t (ix3 0 r c) := by
  rw [out5_eq]
  have h := fun t' => stat_at i x0 x1 x2 x3 t t' r c
  refine View.canon_eq_of_allAt _ _ _ (cover1_5 _ _ _ _ _ _ _ _ _) ?_
  iterate 8 refine allAt_piece _ _ (h _) ?_
  exact View.allAt_nil _ _

/-- The numerators stored for a row, a head and a lane. -/
theorem out4_apply (t : Fin 8) (r : Fin 128) (h : Fin 4) (l : Fin 64) :
    out1_4 i x0 x1 x2 x3 (ix3 0 (row t r) (lane h l)) =
      mixAt (ownRow x0 x1 x3 t h r) (befRow i x0 x1 x2 x3 t h r) (fun j => x1 (ix3 0 (row t j) (vlane h l)))
        fun j => befAt x1 x2 j (vlane h l) t := by
  have key : ∀ (p : Fin 2) (c : Fin 128) (h' : Fin 4),
      lane h' l = ⟨128 * p.val + c.val, by omega⟩ → vlane h' l = ⟨128 * (valCol p).val + c.val, by omega⟩ →
      h' = (if c.val < 64 then ![0, 2] p else ![1, 3] p) →
      out1_4 i x0 x1 x2 x3 (ix3 0 (row t r) (lane h' l)) =
      mixAt (ownRow x0 x1 x3 t h' r) (befRow i x0 x1 x2 x3 t h' r) (fun j => x1 (ix3 0 (row t j) (vlane h' l)))
        fun j => befAt x1 x2 j (vlane h' l) t := by
    intro p c h' e1 e2 e3
    rw [e1, out4_tile, e2]
    unfold accAt ownRow befRow
    rw [accTile_apply]
    simp only [scOwn_apply, scBef_apply, own_apply, before_apply]
    by_cases hc : c.val < 64
    · rw [if_pos hc] at e3 ⊢; subst e3; rfl
    · rw [if_neg hc] at e3 ⊢; subst e3; rfl
  match h with
  | 0 =>
    exact key 0 ⟨l.val, by omega⟩ 0 (Fin.ext (by show 64 * 0 + l.val = 128 * 0 + l.val; omega))
      (Fin.ext (by show 256 + 64 * 0 + l.val = 128 * 2 + l.val; omega)) (by rw [if_pos (show l.val < 64 from l.isLt)]; rfl)
  | 1 =>
    exact key 0 ⟨64 + l.val, by omega⟩ 1 (Fin.ext (by show 64 * 1 + l.val = 128 * 0 + (64 + l.val); omega))
      (Fin.ext (by show 256 + 64 * 1 + l.val = 128 * 2 + (64 + l.val); omega)) (by rw [if_neg (show ¬ 64 + l.val < 64 by omega)]; rfl)
  | 2 =>
    exact key 1 ⟨l.val, by omega⟩ 2 (Fin.ext (by show 64 * 2 + l.val = 128 * 1 + l.val; omega))
      (Fin.ext (by show 256 + 64 * 2 + l.val = 128 * 3 + l.val; omega)) (by rw [if_pos (show l.val < 64 from l.isLt)]; rfl)
  | 3 =>
    exact key 1 ⟨64 + l.val, by omega⟩ 3 (Fin.ext (by show 64 * 3 + l.val = 128 * 1 + (64 + l.val); omega))
      (Fin.ext (by show 256 + 64 * 3 + l.val = 128 * 3 + (64 + l.val); omega)) (by rw [if_neg (show ¬ 64 + l.val < 64 by omega)]; rfl)

/-- The largest scores and the masses stored for a row: lanes 0 to 3 and 4 to 7, the others at zero. -/
theorem out5_apply (t : Fin 8) (r c : Fin 128) :
    out1_5 i x0 x1 x2 x3 (ix3 0 (row t r) c) =
      if h : c.val < 4 then topAt (ownRow x0 x1 x3 t ⟨c.val, h⟩ r) (befRow i x0 x1 x2 x3 t ⟨c.val, h⟩ r)
      else if h : c.val - 4 < 4 then
        massAt (ownRow x0 x1 x3 t ⟨c.val - 4, h⟩ r) (befRow i x0 x1 x2 x3 t ⟨c.val - 4, h⟩ r)
      else 0 := by
  rw [out5_tile]
  unfold statAt
  rw [statTile_apply]
  simp only [scOwn_apply, scBef_apply]
  obtain ⟨c, hc⟩ := c
  match c with
  | 0 => rfl
  | 1 => rfl
  | 2 => rfl
  | 3 => rfl
  | 4 => rfl
  | 5 => rfl
  | 6 => rfl
  | 7 => rfl
  | c + 8 =>
    rw [dif_neg (by simp), dif_neg (by simp)]
    simp

end Cert.Proof.Tiles

end
-- ==== Proof.Band.lean ====
/- A band of 129 keys spread over two rows of 128: the keys at distance at most `r` behind a row `r` of a tile lie in the
   tile's own row, the others in the row of the tile before. Sums and largest elements over the two rows are those over the
   band. -/
module

public import proofs.«01_k».proof.Proof.Chain

@[expose] public section

noncomputable section

namespace Cert.Proof.Band

open Idealize.ShloMosaic Cert.Proof.Chain

variable {α : Type}

/-- The part of a band in the tile's own row; `d` elsewhere. -/
def own (d : α) (f : Fin 129 → α) (r j : Fin 128) : α := if j.val ≤ r.val then f ⟨r.val - j.val, by omega⟩ else d
/-- The part of a band in the row before; `d` elsewhere. -/
def bef (d : α) (f : Fin 129 → α) (r j : Fin 128) : α :=
  if h : r.val ≤ j.val then f ⟨128 + r.val - j.val, by omega⟩ else d

theorem sum_band (f : Fin 129 → EReal) (r : Fin 128) :
    ∑ j, own 0 f r j + ∑ j, bef 0 f r j = ∑ k, f k := by
  classical
  have e1 : ∑ j, own 0 f r j = ∑ k ∈ Finset.univ.filter (fun k : Fin 129 => k.val ≤ r.val), f k := by
    unfold own
    rw [← Finset.sum_filter]
    refine Finset.sum_bij' (fun j _ => ⟨r.val - j.val, by omega⟩)
      (fun k hk => ⟨r.val - k.val, by omega⟩) ?_ ?_ ?_ ?_ ?_
    · intro j hj; simp at hj ⊢
    · intro k hk; simp at hk ⊢; exact Nat.sub_le r.val k.val
    · intro j hj; simp at hj ⊢; apply Fin.ext; simp; omega
    · intro k hk; simp at hk ⊢; apply Fin.ext; simp; omega
    · intro j hj; rfl
  have e2 : ∑ j, bef 0 f r j = ∑ k ∈ Finset.univ.filter (fun k : Fin 129 => ¬ k.val ≤ r.val), f k := by
    have e : ∀ j : Fin 128, bef 0 f r j = if r.val ≤ j.val then f ⟨(128 + r.val - j.val) % 129, by omega⟩ else 0 := by
      intro j; unfold bef; split_ifs
      · congr 1; apply Fin.ext; simp; omega
      · rfl
    simp only [e]
    rw [← Finset.sum_filter]
    refine Finset.sum_bij' (fun j _ => ⟨(128 + r.val - j.val) % 129, by omega⟩)
      (fun k hk => ⟨(128 + r.val - k.val) % 128, by omega⟩) ?_ ?_ ?_ ?_ ?_
    · intro j hj; simp at hj ⊢; omega
    · intro k hk; simp at hk ⊢; show r.val ≤ (128 + r.val - k.val) % 128; omega
    · intro j hj; simp at hj ⊢; apply Fin.ext; simp; omega
    · intro k hk; simp at hk ⊢; apply Fin.ext; simp; omega
    · intro j hj; rfl
  rw [e1, e2, Finset.sum_filter_add_sum_filter_not]

theorem top_band (f : Fin 129 → EReal) (r : Fin 128) :
    topAt (own ⊥ f r) (bef ⊥ f r) = Finset.univ.fold max ⊥ f := by
  have e : ∀ {n : ℕ} (g : Fin n → EReal), Finset.univ.fold max ⊥ g = Finset.univ.sup g := fun g => rfl
  unfold topAt rowTop
  rw [e, e, e]
  apply le_antisymm
  · refine max_le (Finset.sup_le fun j _ => ?_) (Finset.sup_le fun j _ => ?_)
    · unfold own; split_ifs
      · exact Finset.le_sup (f := f) (Finset.mem_univ _)
      · exact bot_le
    · unfold bef; split_ifs
      · exact Finset.le_sup (f := f) (Finset.mem_univ _)
      · exact bot_le
  · refine Finset.sup_le fun k _ => ?_
    by_cases hk : k.val ≤ r.val
    · refine le_max_of_le_left (le_trans (le_of_eq ?_) (Finset.le_sup (Finset.mem_univ (⟨r.val - k.val, by omega⟩ : Fin 128))))
      unfold own
      rw [if_pos (by simp)]
      congr 1; apply Fin.ext; simp; omega
    · refine le_max_of_le_right (le_trans (le_of_eq ?_)
        (Finset.le_sup (Finset.mem_univ (⟨128 + r.val - k.val, by omega⟩ : Fin 128))))
      unfold bef
      rw [dif_pos (by simp; omega)]
      congr 1; apply Fin.ext; simp; omega

theorem map_own {β : Type} (φ : α → β) (d : α) (f : Fin 129 → α) (r j : Fin 128) :
    φ (own d f r j) = own (φ d) (fun k => φ (f k)) r j := by
  unfold own; split_ifs <;> rfl
theorem map_bef {β : Type} (φ : α → β) (d : α) (f : Fin 129 → α) (r j : Fin 128) :
    φ (bef d f r j) = bef (φ d) (fun k => φ (f k)) r j := by
  unfold bef; split_ifs <;> rfl

theorem exp_bot_sub (m : EReal) : Ideal.exp (⊥ - m) = 0 := by
  rw [show (⊥ - m : EReal) = ⊥ from EReal.bot_sub m]
  exact Ideal.exp_bot

/-- The mass of a band, from its two rows. -/
theorem mass_band (f : Fin 129 → EReal) (r : Fin 128) :
    massAt (own ⊥ f r) (bef ⊥ f r) = ∑ k, Ideal.exp (f k - Finset.univ.fold max ⊥ f) := by
  unfold massAt
  rw [top_band]
  simp only [map_own (fun x => Ideal.exp (x - Finset.univ.fold max ⊥ f)),
    map_bef (fun x => Ideal.exp (x - Finset.univ.fold max ⊥ f)), exp_bot_sub]
  exact sum_band _ r

/-- The weighted values of a band, from its two rows and the rows of values: off the band the values do not matter. -/
theorem mix_band (f g : Fin 129 → EReal) (v w : Fin 128 → EReal) (r : Fin 128)
    (hv : ∀ j : Fin 128, (h : j.val ≤ r.val) → v j = g ⟨r.val - j.val, by omega⟩)
    (hw : ∀ j : Fin 128, (h : r.val ≤ j.val) → f ⟨128 + r.val - j.val, by omega⟩ = ⊥ ∨
      w j = g ⟨128 + r.val - j.val, by omega⟩) :
    mixAt (own ⊥ f r) (bef ⊥ f r) v w = ∑ k, Ideal.exp (f k - Finset.univ.fold max ⊥ f) * g k := by
  unfold mixAt
  rw [top_band, ← sum_band _ r]
  congr 1
  · refine Finset.sum_congr rfl fun j _ => ?_
    unfold own
    split_ifs with h
    · rw [hv j h]
    · rw [exp_bot_sub, zero_mul]
  · refine Finset.sum_congr rfl fun j _ => ?_
    unfold bef
    split_ifs with h
    · rcases hw j h with e | e
      · show _ = Ideal.exp (f _ - _) * g _
        rw [e, exp_bot_sub, zero_mul, zero_mul]
      · rw [e]
    · rw [exp_bot_sub, zero_mul]

end Cert.Proof.Band

end
-- ==== Proof.Ref.lean ====
/- The reference's results at an element: a row's logits over its 129 keys, the largest of them, the mass and the numerators
   of their weights. -/
module

public import proofs.«01_k».proof.Proof.Gen.ReferenceIdeal.Read
public import Idealize.ShloMosaic.Lib.Pointwise

@[expose] public section

set_option maxRecDepth 16384

noncomputable section

namespace Cert.Proof.Ref

open Idealize.ShloMosaic Cert.ReferenceIdeal Cert.ReferenceIdeal.Gen Cert.ReferenceIdeal.Read

/-- The key a query row reads at a distance: the first row where the distance passes it. -/
def keyRow (n : Fin 2048) (k : Fin 129) : Fin 2048 := ⟨n.val - k.val, by omega⟩

theorem dist_word (n : Fin 2048) (k : Fin 129) :
    (IntOp.subi (BitVec.ofNat 32 n.val) (IntOp.muli 1#32 (BitVec.ofNat 32 k.val))).toInt = (n.val : ℤ) - k.val := by
  have := n.isLt
  have := k.isLt
  unfold IntOp.subi IntOp.muli
  rw [BitVec.one_mul]
  rw [BitVec.toInt_sub, BitVec.toInt_ofNat', BitVec.toInt_ofNat']
  simp only [Int.bmod_def]
  omega

theorem v10_apply (n : Fin 2048) (k : Fin 129) :
    val_main_v10 (F := Ideal) (ix2 n k) = IntOp.subi (BitVec.ofNat 32 n.val) (IntOp.muli 1#32 (BitVec.ofNat 32 k.val)) := by
  rw [val_main_v10_apply, val_main_v8_apply, val_main_v9_apply, val_main_v7_apply, val_main_v3_apply, val_main_v2_apply,
    val_main_v6_apply, val_main_v5_apply, val_main_v4_apply, val_main_c_apply]
  rfl

theorem valid_apply (n : Fin 2048) (k : Fin 129) :
    val_main_v12 (F := Ideal) (ix2 n k) = if k.val ≤ n.val then 1#1 else 0#1 := by
  rw [val_main_v12_apply, v10_apply, val_main_v11_apply, val_main_c_0_apply]
  have h := dist_word n k
  generalize IntOp.subi (BitVec.ofNat 32 n.val) (IntOp.muli 1#32 (BitVec.ofNat 32 k.val)) = w at h
  unfold IntOp.cmpi
  simp only [BitVec.sle, h]
  by_cases hk : k.val ≤ n.val
  · simp [hk]
  · simp [hk]

theorem start_apply (n : Fin 2048) (k : Fin 129) :
    min (val_main_call0_v0 (F := Ideal) (ix3 n k 0)).toInt.toNat 2047 = n.val - k.val := by
  rw [val_main_call0_v0_apply, val_main_v14_apply, val_main_v13_apply, val_main_c_1_apply,
    show idx_main_call0_v0 (ix3 n k 0) = ix2 n k from by funext a; match a with | 0 => rfl | 1 => rfl, v10_apply]
  have h := dist_word n k
  generalize IntOp.subi (BitVec.ofNat 32 n.val) (IntOp.muli 1#32 (BitVec.ofNat 32 k.val)) = w at h
  have e : (IntOp.maxsi w 0#32).toInt = max ((n.val : ℤ) - k.val) 0 := by
    unfold IntOp.maxsi
    simp only [BitVec.slt, BitVec.sle, h]
    split_ifs <;> simp_all <;> omega
  rw [e]
  have := n.isLt
  omega

/-- The keys and values a row reads: the context's at its distances. -/
theorem gather_apply (kv : (⟨S8x2048x512, .f32⟩ : BufTy).Contents (Elt Ideal)) (i : S8x2048x129x2x4x64.Idx) :
    val_main_v15 (F := Ideal) kv i = val_main_v1 (F := Ideal) kv (ix5 (i 0) (keyRow (i 1) (i 2)) (i 3) (i 4) (i 5)) := by
  unfold val_main_v15 Host.gather
  congr 1
  have e := start_apply (i 1) (i 2)
  generalize val_main_call0_v0 (F := Ideal) = idx at e
  funext a
  refine Fin.ext ?_
  match a with
  | 0 => exact Nat.zero_add _
  | 1 =>
    have hs : gather_S8x2048x2x4x64_S2048x129x1_S8x2048x129x2x4x64_0345_1_n_n_1_2_812464.siIdx i ⟨0, by decide⟩ =
        ix3 (i 1) (i 2) 0 := by
      funext b; refine Fin.ext ?_
      match b with | 0 => rfl | 1 => rfl | 2 => rfl
    exact (congrArg (fun j => min (idx j).toInt.toNat 2047) hs).trans e
  | 2 => exact Nat.zero_add _
  | 3 => exact Nat.zero_add _
  | 4 => exact Nat.zero_add _

/-- A row's key at a distance, by head and lane. -/
theorem key_apply (kv : (⟨S8x2048x512, .f32⟩ : BufTy).Contents (Elt Ideal)) (b : Fin 8) (n : Fin 2048) (k : Fin 129)
    (h : Fin 4) (l : Fin 64) :
    val_main_v17 (F := Ideal) kv (ix5 b n k h l) = kv (ix3 b (keyRow n k) ⟨64 * h.val + l.val, by omega⟩) := by
  unfold val_main_v17 val_main_v16
  pointwise
  rw [gather_apply]
  unfold val_main_v1
  pointwise
  congr 2
  apply Fin.ext
  show h.val * 64 + l.val = 64 * h.val + l.val
  omega

/-- A row's value at a distance, by head and lane. -/
theorem value_apply (kv : (⟨S8x2048x512, .f32⟩ : BufTy).Contents (Elt Ideal)) (b : Fin 8) (n : Fin 2048) (k : Fin 129)
    (h : Fin 4) (l : Fin 64) :
    val_main_v33 (F := Ideal) kv (ix5 b n k h l) = kv (ix3 b (keyRow n k) ⟨256 + 64 * h.val + l.val, by omega⟩) := by
  unfold val_main_v33 val_main_v32
  pointwise
  rw [gather_apply]
  unfold val_main_v1
  pointwise
  congr 2
  apply Fin.ext
  show 256 + h.val * 64 + l.val = 256 + 64 * h.val + l.val
  omega

section
variable (q : (⟨S8x2048x256, .f32⟩ : BufTy).Contents (Elt Ideal)) (kv : (⟨S8x2048x512, .f32⟩ : BufTy).Contents (Elt Ideal))
  (bias : (⟨S4x129, .f32⟩ : BufTy).Contents (Elt Ideal))

/-- A row's logit at a distance: scaled product and bias where the key exists, −∞ where it does not. -/
def logit (b : Fin 8) (h : Fin 4) (n : Fin 2048) (k : Fin 129) : EReal :=
  if k.val ≤ n.val then
    (∑ l : Fin 64, q (ix3 b n ⟨64 * h.val + l.val, by omega⟩) * kv (ix3 b (keyRow n k) ⟨64 * h.val + l.val, by omega⟩)) *
      Scalar.ofBits (F := Ideal) .f32 0x3E000000#32 + bias (ix2 h k)
  else ⊥

/-- A row's largest logit. -/
def top (b : Fin 8) (h : Fin 4) (n : Fin 2048) : EReal := Finset.univ.fold max ⊥ (logit q kv bias b h n)

theorem minus_inf : Ideal.ofBits .f32 0xFF800000#32 = ⊥ := by simp [Ideal.ofBits, Ideal.ieee]

theorem query_apply (b : Fin 8) (n : Fin 2048) (h : Fin 4) (l : Fin 64) :
    val_main_v0 (F := Ideal) q (ix4 b n h l) = q (ix3 b n ⟨64 * h.val + l.val, by omega⟩) := by
  unfold val_main_v0
  pointwise
  congr 2
  apply Fin.ext
  show h.val * 64 + l.val = 64 * h.val + l.val
  omega

theorem logit_apply (b : Fin 8) (h : Fin 4) (n : Fin 2048) (k : Fin 129) :
    val_main_v25 (F := Ideal) q kv bias (ix4 b h n k) = logit q kv bias b h n k := by
  rw [val_main_v25_apply, val_main_call1_v1_apply, val_main_v21_apply, val_main_call1_v2_apply, val_main_call1_v0_apply,
    val_main_v24_apply, val_main_v20_apply, val_main_v18_apply, val_main_v19_apply, val_main_v23_apply, val_main_v22_apply]
  have hv : val_main_v12 (F := Ideal) (idx_main_v21 (idx_main_call1_v1 (ix4 b h n k))) = if k.val ≤ n.val then 1#1 else 0#1 := by
    rw [← valid_apply]
    congr 1
    funext a; match a with | 0 => rfl | 1 => rfl
  have hb : bias (idx_main_v22 (idx_main_v23 (ix4 b h n k))) = bias (ix2 h k) := by
    congr 1
    funext a; match a with | 0 => rfl | 1 => rfl
  have hs : ∀ l, val_main_v0 (F := Ideal) q (lidx_main_v18 (ix4 b h n k) l) *
      val_main_v17 (F := Ideal) kv (ridx_main_v18 (ix4 b h n k) l) =
      q (ix3 b n ⟨64 * h.val + l.val, by omega⟩) * kv (ix3 b (keyRow n k) ⟨64 * h.val + l.val, by omega⟩) := fun l => by
    rw [← query_apply q b n h l, ← key_apply kv b n k h l]
    congr 2
    · funext a; match a with | 0 => rfl | 1 => rfl | 2 => rfl | 3 => rfl
    · funext a; match a with | 0 => rfl | 1 => rfl | 2 => rfl | 3 => rfl | 4 => rfl
  rw [hv, hb, Finset.sum_congr rfl fun l _ => hs l]
  unfold logit
  by_cases hk : k.val ≤ n.val
  · rw [if_pos hk, if_pos hk]
    rfl
  · rw [if_neg hk, if_neg hk]
    exact minus_inf

theorem top_apply (b : Fin 8) (h : Fin 4) (n : Fin 2048) :
    val_main_v26 (F := Ideal) q kv bias (ix3 b h n) = top q kv bias b h n := by
  unfold val_main_v26 top
  have e := logit_apply q kv bias b h n
  generalize val_main_v25 (F := Ideal) q kv bias = y at e
  pointwise
  rw [show val_main_cst_3 (F := Ideal) (Shape.Idx.first h_S_) = ⊥ from minus_inf]
  simp only [e]

theorem weight_apply (b : Fin 8) (h : Fin 4) (n : Fin 2048) (k : Fin 129) :
    val_main_v30 (F := Ideal) q kv bias (ix4 b h n k) = Ideal.exp (logit q kv bias b h n k - top q kv bias b h n) := by
  rw [val_main_v30_apply, val_main_v29_apply, val_main_v28_apply, val_main_v27_apply, logit_apply,
    show idx_main_v27 (idx_main_v28 (ix4 b h n k)) = ix3 b h n from by
      funext a; match a with | 0 => rfl | 1 => rfl | 2 => rfl, top_apply]
  rfl

theorem mass_apply (b : Fin 8) (h : Fin 4) (n : Fin 2048) :
    val_main_v31 (F := Ideal) q kv bias (ix3 b h n) =
      ∑ k, Ideal.exp (logit q kv bias b h n k - top q kv bias b h n) := by
  rw [val_main_v31_apply, show val_main_cst_4 (F := Ideal) (Shape.Idx.first h_S_) = 0 from by
    show Ideal.ofBits .f32 0x00000000#32 = 0; simp [Ideal.ofBits, Ideal.ieee], zero_add]
  refine Finset.sum_congr rfl fun k _ => ?_
  rw [← weight_apply]
  congr 1
  funext a; match a with | 0 => rfl | 1 => rfl | 2 => rfl | 3 => rfl

/-- The numerators of a row's head, lane by lane. -/
theorem out_apply (b : Fin 8) (n : Fin 2048) (h : Fin 4) (l : Fin 64) :
    val_main_v39 (F := Ideal) q kv bias (ix3 b n ⟨64 * h.val + l.val, by omega⟩) =
      ∑ k, Ideal.exp (logit q kv bias b h n k - top q kv bias b h n) *
        kv (ix3 b (keyRow n k) ⟨256 + 64 * h.val + l.val, by omega⟩) := by
  have e : val_main_v39 (F := Ideal) q kv bias (ix3 b n ⟨64 * h.val + l.val, by omega⟩) =
      val_main_v34 (F := Ideal) q kv bias (ix4 b n h l) := by
    unfold val_main_v39
    generalize val_main_v34 (F := Ideal) q kv bias = y
    pointwise
  rw [e, val_main_v34_apply]
  refine Finset.sum_congr rfl fun k _ => ?_
  rw [← weight_apply, ← value_apply kv b n k h l]
  congr 2
  · funext a; match a with | 0 => rfl | 1 => rfl | 2 => rfl | 3 => rfl
  · funext a; match a with | 0 => rfl | 1 => rfl | 2 => rfl | 3 => rfl | 4 => rfl

/-- The largest logits of a row's heads, their masses, and zeros. -/
theorem stat_apply (b : Fin 8) (n : Fin 2048) (c : Fin 128) :
    val_main_v38 (F := Ideal) q kv bias (ix3 b n c) =
      if h : c.val < 4 then top q kv bias b ⟨c.val, h⟩ n
      else if h : c.val - 4 < 4 then
        ∑ k, Ideal.exp (logit q kv bias b ⟨c.val - 4, h⟩ n k - top q kv bias b ⟨c.val - 4, h⟩ n)
      else 0 := by
  have e35 : ∀ h, val_main_v35 (F := Ideal) q kv bias (ix3 b n h) = top q kv bias b h n := fun h => by
    rw [val_main_v35_apply, ← top_apply]
    congr 1
    funext a; match a with | 0 => rfl | 1 => rfl | 2 => rfl
  have e36 : ∀ h, val_main_v36 (F := Ideal) q kv bias (ix3 b n h) =
      ∑ k, Ideal.exp (logit q kv bias b h n k - top q kv bias b h n) := fun h => by
    rw [val_main_v36_apply, ← mass_apply]
    congr 1
    funext a; match a with | 0 => rfl | 1 => rfl | 2 => rfl
  have e37 : ∀ c, val_main_v37 (F := Ideal) (ix3 b n c) = 0 := fun c => by
    rw [val_main_v37_apply]
    show Ideal.ofBits .f32 0x00000000#32 = 0; simp [Ideal.ofBits, Ideal.ieee]
  unfold val_main_v38
  generalize val_main_v35 (F := Ideal) q kv bias = y at e35 ⊢
  generalize val_main_v36 (F := Ideal) q kv bias = y at e36 ⊢
  generalize val_main_v37 (F := Ideal) = y at e37 ⊢
  pointwise
  by_cases h1 : c.val < 4
  · rw [dif_pos h1, dif_pos h1]; exact e35 _
  · by_cases h2 : c.val - 4 < 4
    · rw [dif_neg h1, dif_neg h1, dif_pos h2, dif_pos h2]; exact e36 _
    · rw [dif_neg h1, dif_neg h1, dif_neg h2, dif_neg h2]; exact e37 _

end

end Cert.Proof.Ref

end
-- ==== Proof.Join.lean ====
/- One point's rows of scores as the reference's logits: the row against its own tile and the row against the tile before
   hold the logits of the 129 distances along a band, and −∞ beside it; so the point's blocks hold the reference's rows. -/
module

public import proofs.«01_k».proof.Proof.Rows
public import proofs.«01_k».proof.Proof.Band
public import proofs.«01_k».proof.Proof.Ref

@[expose] public section

set_option maxRecDepth 16384

noncomputable section

namespace Cert.Proof.Join

open Idealize.ShloMosaic Cert.KernelIdeal Cert.KernelIdeal.Gen Cert.Proof.Chain Cert.Proof.Tiles

/-- The score's scale. -/
theorem scale_eq : Scalar.ofBits (F := Ideal) .f32 0x3E000000#32 = ((1 / 8 : ℝ) : EReal) := by
  show Ideal.ofBits .f32 0x3E000000#32 = _
  simp [Ideal.ofBits, Ideal.ieee]
  rw [← EReal.coe_mul]
  norm_num

/-- A sum of products scaled before or after. -/
theorem sum_scale {n : ℕ} (q k : Fin n → EReal) (s : Finset (Fin n)) :
    ∑ l ∈ s, q l * ((1 / 8 : ℝ) : EReal) * k l = (∑ l ∈ s, q l * k l) * ((1 / 8 : ℝ) : EReal) := by
  classical
  induction s using Finset.induction_on with
  | empty => simp
  | insert a s ha ih =>
    rw [Finset.sum_insert ha, Finset.sum_insert ha, ih, EReal.right_distrib_of_nonneg_of_ne_top (by norm_num) (EReal.coe_ne_top _)]
    congr 1
    rw [mul_assoc, mul_comm ((1 / 8 : ℝ) : EReal), ← mul_assoc]

/-- A head's table of biases, by the place in it. -/
def entry (bias : FVec Ideal S4x129 .f32) (h : Fin 4) (j : ℕ) : EReal :=
  if j = 0 then bias (ix2 h 0) else if hj : j < 128 then ⊥ else bias (ix2 h ⟨256 - j, by omega⟩)

theorem entry_own (bias : FVec Ideal S4x129 .f32) (h : Fin 4) (r j : Fin 128) :
    entry bias h ((j.val + 256 - r.val) % 256) =
      if hr : j.val ≤ r.val then bias (ix2 h ⟨r.val - j.val, by omega⟩) else ⊥ := by
  have := r.isLt
  have := j.isLt
  unfold entry
  split_ifs with h1 h2 h3 h4 h5
  · refine congrArg bias (congrArg (ix2 h) (Fin.ext ?_)); show 0 = r.val - j.val; omega
  · omega
  · omega
  · rfl
  · refine congrArg bias (congrArg (ix2 h) (Fin.ext ?_)); show 256 - (j.val + 256 - r.val) % 256 = r.val - j.val; omega
  · omega

theorem entry_bef (bias : FVec Ideal S4x129 .f32) (h : Fin 4) (r j : Fin 128) :
    entry bias h ((128 + j.val + 256 - r.val) % 256) =
      if hr : r.val ≤ j.val then bias (ix2 h ⟨128 + r.val - j.val, by omega⟩) else ⊥ := by
  have := r.isLt
  have := j.isLt
  unfold entry
  split_ifs with h1 h2 h3 h4 h5
  · omega
  · omega
  · omega
  · rfl
  · refine congrArg bias (congrArg (ix2 h) (Fin.ext ?_))
    show 256 - (128 + j.val + 256 - r.val) % 256 = 128 + r.val - j.val; omega
  · omega

theorem score_bot (q k : Fin 64 → EReal) : scoreAt q k ⊥ = ⊥ := EReal.add_bot _

/-- The row of the whole array that a row of a block is. -/
def at_ (I : Fin 2) (t : Fin 8) (r : Fin 128) : Fin 2048 := ⟨1024 * I.val + (128 * t.val + r.val), by omega⟩
theorem at_val (I : Fin 2) (t : Fin 8) (r : Fin 128) : (at_ I t r).val = 1024 * I.val + (128 * t.val + r.val) := rfl

/-- The row of the whole array that a row of a block of 1024 is, and that a row of the tile before the block is. -/
def big (I : Fin 2) (s : Fin 1024) : Fin 2048 := ⟨1024 * I.val + s.val, by omega⟩
def prev (I : Fin 2) (j : Fin 128) : Fin 2048 := ⟨128 * (8 * I.val - 1) + j.val, by omega⟩

section
variable (q : FVec Ideal S8x2048x256 .f32) (kv : FVec Ideal S8x2048x512 .f32) (bias : FVec Ideal S4x129 .f32)
  (b : Fin 8) (I : Fin 2)
  (x0 : Vec Ideal S1x1024x256 .f32) (x1 : Vec Ideal S1x1024x512 .f32)
  (x2 : Vec Ideal S1x128x512 .f32) (x3 : Vec Ideal S4x128x256 .f32)
  (h0 : ∀ (s : Fin 1024) (c : Fin 256), x0 (ix3 0 s c) = q (ix3 b (big I s) c))
  (h1 : ∀ (s : Fin 1024) (c : Fin 512), x1 (ix3 0 s c) = kv (ix3 b (big I s) c))
  (h2 : ∀ (j : Fin 128) (c : Fin 512), x2 (ix3 0 j c) = kv (ix3 b (prev I j) c))
  (h3 : ∀ (h : Fin 4) (r : Fin 128) (j : Fin 256), x3 (ix3 h r j) = entry bias h ((j.val + 256 - r.val) % 256))

include h1 h2 in
/-- A row of the tile before a tile, where there is one. -/
theorem before_row (t : Fin 8) (j : Fin 128) (c : Fin 512) (ht : ¬ (t.val = 0 ∧ I.val = 0)) :
    befAt x1 x2 j c t = kv (ix3 b ⟨1024 * I.val + 128 * t.val - 128 + j.val, by omega⟩ c) := by
  obtain ⟨t, hlt⟩ := t
  cases t with
  | zero =>
    show x2 (ix3 0 j c) = _
    rw [h2]
    refine congrArg (fun s => kv (ix3 b s c)) (Fin.ext ?_)
    show 128 * (8 * I.val - 1) + j.val = 1024 * I.val + 128 * 0 - 128 + j.val
    simp at ht
    omega
  | succ t =>
    show x1 (ix3 0 (row ⟨t, _⟩ j) c) = _
    rw [h1]
    refine congrArg (fun s => kv (ix3 b s c)) (Fin.ext ?_)
    show 1024 * I.val + (128 * t + j.val) = 1024 * I.val + 128 * (t + 1) - 128 + j.val
    omega

/-- A score of a query and the key at a distance is the logit there. -/
theorem score_logit (h : Fin 4) (n m : Fin 2048) (k : Fin 129) (hk : m.val + k.val = n.val) :
    scoreAt (fun l => q (ix3 b n (lane h l))) (fun l => kv (ix3 b m (klane h l))) (bias (ix2 h k)) =
      Ref.logit q kv bias b h n k := by
  have e : Ref.keyRow n k = m := Fin.ext (by show n.val - k.val = m.val; omega)
  unfold scoreAt Ref.logit
  rw [if_pos (by omega), e, scale_eq, sum_scale]
  rfl

include h0 h1 h3 in
theorem ownRow_eq (t : Fin 8) (h : Fin 4) (r : Fin 128) :
    ownRow x0 x1 x3 t h r = Band.own ⊥ (Ref.logit q kv bias b h (at_ I t r)) r := by
  funext j
  unfold ownRow Band.own
  rw [h3, entry_own]
  split_ifs with hj
  · simp only [h0, h1]
    exact score_logit q kv bias b h (at_ I t r) (at_ I t j) _
      (by show 1024 * I.val + (128 * t.val + j.val) + (r.val - j.val) = 1024 * I.val + (128 * t.val + r.val); omega)
  · exact score_bot _ _

variable (i : grid1.Coords) (hi : (i 2).val = I.val)

include hi h0 h1 h2 h3 in
theorem befRow_eq (t : Fin 8) (h : Fin 4) (r : Fin 128) :
    befRow i x0 x1 x2 x3 t h r = Band.bef ⊥ (Ref.logit q kv bias b h (at_ I t r)) r := by
  funext j
  unfold befRow Band.bef
  rw [hi, h3, entry_bef]
  by_cases ht : t.val = 0 ∧ I.val = 0
  · rw [if_pos ht]
    split_ifs with hj
    · unfold Ref.logit
      rw [if_neg]
      show ¬ 128 + r.val - j.val ≤ 1024 * I.val + (128 * t.val + r.val)
      omega
    · rfl
  · rw [if_neg ht]
    split_ifs with hj
    · simp only [h0, before_row kv b I x1 x2 h1 h2 t j _ ht]
      exact score_logit q kv bias b h (at_ I t r) ⟨1024 * I.val + 128 * t.val - 128 + j.val, by omega⟩
        ⟨128 + r.val - j.val, by omega⟩ (by
        show 1024 * I.val + 128 * t.val - 128 + j.val + (128 + r.val - j.val) = 1024 * I.val + (128 * t.val + r.val); omega)
    · exact score_bot _ _

include hi h0 h1 h2 h3 in
/-- A point's block of numerators at an element is the reference's. -/
theorem out_eq (t : Fin 8) (h : Fin 4) (r : Fin 128) (l : Fin 64) :
    out1_4 i x0 x1 x2 x3 (ix3 0 (row t r) (lane h l)) =
      Cert.ReferenceIdeal.Read.val_main_v39 (F := Ideal) q kv bias (ix3 b (at_ I t r) (lane h l)) := by
  rw [out4_apply, ownRow_eq q kv bias b I x0 x1 x3 h0 h1 h3, befRow_eq q kv bias b I x0 x1 x2 x3 h0 h1 h2 h3 i hi]
  rw [Band.mix_band _ (fun k => kv (ix3 b (Ref.keyRow (at_ I t r) k) (vlane h l)))]
  · exact (Ref.out_apply q kv bias b (at_ I t r) h l).symm
  · intro j hj
    rw [h1]
    refine congrArg (fun s => kv (ix3 b s (vlane h l))) (Fin.ext ?_)
    show 1024 * I.val + (128 * t.val + j.val) = 1024 * I.val + (128 * t.val + r.val) - (r.val - j.val)
    omega
  · intro j hj
    by_cases ht : t.val = 0 ∧ I.val = 0
    · left
      unfold Ref.logit
      rw [if_neg]
      show ¬ 128 + r.val - j.val ≤ 1024 * I.val + (128 * t.val + r.val)
      omega
    · right
      rw [before_row kv b I x1 x2 h1 h2 t j _ ht]
      refine congrArg (fun s => kv (ix3 b s (vlane h l))) (Fin.ext ?_)
      show 1024 * I.val + 128 * t.val - 128 + j.val = 1024 * I.val + (128 * t.val + r.val) - (128 + r.val - j.val)
      omega

include hi h0 h1 h2 h3 in
/-- A point's block of largest scores and masses at an element is the reference's. -/
theorem stat_eq (t : Fin 8) (r c : Fin 128) :
    out1_5 i x0 x1 x2 x3 (ix3 0 (row t r) c) =
      Cert.ReferenceIdeal.Read.val_main_v38 (F := Ideal) q kv bias (ix3 b (at_ I t r) c) := by
  rw [out5_apply, Ref.stat_apply]
  simp only [ownRow_eq q kv bias b I x0 x1 x3 h0 h1 h3, befRow_eq q kv bias b I x0 x1 x2 x3 h0 h1 h2 h3 i hi,
    Band.top_band, Band.mass_band]
  rfl
end

end Cert.Proof.Join
-- ==== Proof.Bias.lean ====
/- The bias tiles: each row of a tile is the table's row moved as many lanes as the row's number, by one conditional
   rotation per bit of it. -/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Proof.Bias

open Idealize.ShloMosaic Cert.KernelIdeal Cert.KernelIdeal.Gen

/-- Each row's number. -/
def rows : IVec S128x256 32 := iota .tc S128x256 32 [0] iota_S128x256_d0_w32

/-- The rows whose number has bit `b` moved by `s` lanes. -/
def turn (b s : BitVec 32) (t : FVec Ideal S128x256 .f32) : FVec Ideal S128x256 .f32 :=
  select (cmpi .eq (andi (shrsi rows (broadcast S128x256 b)) (broadcast S128x256 1#32)) (broadcast S128x256 1#32))
    (dynamicRotate 1 s none t rotates_S128x256_d1) t

/-- A row of the table over the 128 rows of a tile, each row moved by its number. -/
def spread (x : Vec Ideal S1x256 .f32) : FVec Ideal S1x128x256 .f32 :=
  shapeCast S1x128x256
    (turn 6#32 64#32 <| turn 5#32 32#32 <| turn 4#32 16#32 <| turn 3#32 8#32 <| turn 2#32 4#32 <| turn 1#32 2#32 <|
      turn 0#32 1#32 <| broadcastTo S128x256 (shapeCast S1x256 (shapeCast S1x256 x shapeCasts_S1x256_S1x256)
        shapeCasts_S1x256_S1x256) broadcasts_S1x256_S128x256)
    shapeCasts_S128x256_S1x128x256

theorem bit_apply (n : ℕ) (hn : n < 7) (r : Fin 128) :
    IntOp.cmpi .eq (IntOp.andi (IntOp.shrsi .vector (BitVec.ofNat 32 r.val) (BitVec.ofNat 32 n)) 1#32) 1#32 =
      if r.val / 2 ^ n % 2 = 1 then 1#1 else 0#1 := by
  revert r; interval_cases n <;> decide +kernel

theorem turn_apply (n : ℕ) (hn : n < 7) (b s : BitVec 32) (eb : b = BitVec.ofNat 32 n) (es : s = BitVec.ofNat 32 (2 ^ n))
    (t : FVec Ideal S128x256 .f32) (r : Fin 128) (c : Fin 256) :
    turn b s t (ix2 r c) =
      t (ix2 r ⟨(c.val + 256 - 2 ^ n * (r.val / 2 ^ n % 2)) % 256, Nat.mod_lt _ (by norm_num)⟩) := by
  subst eb es
  unfold turn rows
  pointwise
  rw [bit_apply n hn]
  have e : (BitVec.ofNat 32 (2 ^ n)).toNat % 256 = 2 ^ n := by interval_cases n <;> rfl
  have hp : 2 ^ n < 256 := by interval_cases n <;> norm_num
  simp only [e]
  by_cases hb : r.val / 2 ^ n % 2 = 1
  · simp only [hb, if_true, mul_one]
    rfl
  · have : r.val / 2 ^ n % 2 = 0 := by omega
    simp only [this]
    show t (ix2 r c) = _
    congr 2
    apply Fin.ext
    show c.val = (c.val + 256 - 2 ^ n * 0) % 256
    omega

/-- Two moves in turn are one by their sum. -/
theorem move_move (c a b : ℕ) (h : a + b ≤ 256) :
    ((c + 256 - a) % 256 + 256 - b) % 256 = (c + 256 - (a + b)) % 256 := by
  omega

theorem bits_sum (r : Fin 128) : 2 ^ 6 * (r.val / 2 ^ 6 % 2) + 2 ^ 5 * (r.val / 2 ^ 5 % 2) + 2 ^ 4 * (r.val / 2 ^ 4 % 2) +
    2 ^ 3 * (r.val / 2 ^ 3 % 2) + 2 ^ 2 * (r.val / 2 ^ 2 % 2) + 2 ^ 1 * (r.val / 2 ^ 1 % 2) + 2 ^ 0 * (r.val / 2 ^ 0 % 2) =
    r.val := by
  revert r; decide +kernel

theorem bit_le (n r : ℕ) : 2 ^ n * (r / 2 ^ n % 2) ≤ 2 ^ n := by
  have h : r / 2 ^ n % 2 ≤ 1 := by omega
  calc _ ≤ 2 ^ n * 1 := Nat.mul_le_mul_left _ h
    _ = _ := mul_one _

/-- A tile's row is the table's row moved by the row's number. -/
theorem spread_apply (x : Vec Ideal S1x256 .f32) (r : Fin 128) (c : Fin 256) :
    spread x (ix3 0 r c) = x (ix2 0 ⟨(c.val + 256 - r.val) % 256, Nat.mod_lt _ (by norm_num)⟩) := by
  unfold spread
  pointwise
  rw [turn_apply 6 (by norm_num) 6#32 64#32 rfl rfl, turn_apply 5 (by norm_num) 5#32 32#32 rfl rfl, turn_apply 4 (by norm_num) 4#32 16#32 rfl rfl,
    turn_apply 3 (by norm_num) 3#32 8#32 rfl rfl, turn_apply 2 (by norm_num) 2#32 4#32 rfl rfl, turn_apply 1 (by norm_num) 1#32 2#32 rfl rfl, turn_apply 0 (by norm_num) 0#32 1#32 rfl rfl]
  pointwise
  congr 2
  apply Fin.ext
  have e := bits_sum r
  have b6 := bit_le 6 r.val
  have b5 := bit_le 5 r.val
  have b4 := bit_le 4 r.val
  have b3 := bit_le 3 r.val
  have b2 := bit_le 2 r.val
  have b1 := bit_le 1 r.val
  have b0 := bit_le 0 r.val
  generalize 2 ^ 6 * (r.val / 2 ^ 6 % 2) = a6 at *
  generalize 2 ^ 5 * (r.val / 2 ^ 5 % 2) = a5 at *
  generalize 2 ^ 4 * (r.val / 2 ^ 4 % 2) = a4 at *
  generalize 2 ^ 3 * (r.val / 2 ^ 3 % 2) = a3 at *
  generalize 2 ^ 2 * (r.val / 2 ^ 2 % 2) = a2 at *
  generalize 2 ^ 1 * (r.val / 2 ^ 1 % 2) = a1 at *
  generalize 2 ^ 0 * (r.val / 2 ^ 0 % 2) = a0 at *
  norm_num at b6 b5 b4 b3 b2 b1 b0
  dsimp only
  rw [move_move _ _ _ (by omega), move_move _ _ _ (by omega), move_move _ _ _ (by omega), move_move _ _ _ (by omega),
    move_move _ _ _ (by omega), move_move _ _ _ (by omega), ← e]
  simp only [add_assoc]

theorem inb_row (h : Fin 12) : ∀ a, ![h.val, 0] a + S1x256.size a ≤ S12x256.size a := by
  revert h; decide
theorem inb_tile (h : Fin 12) : ∀ a, ![h.val, 0, 0] a + S1x128x256.size a ≤ S12x128x256.size a := by
  revert h; decide

variable (x0 : Vec Ideal S12x256 .f32)

/-- The tile stored for a head. -/
def tile (h : Fin 12) : FVec Ideal S1x128x256 .f32 :=
  spread (View.ld x0 (Rect.unit (s := S12x256) ![h.val, 0] S1x256.size (inb_row h)))

/-- A stored tile with its place. -/
def piece (h : Fin 12) : View.Piece (Elt Ideal) S12x128x256 .f32 :=
  ⟨Rect.unit (s := S12x128x256) ![h.val, 0, 0] S1x128x256.size (inb_tile h), tile x0 h⟩

theorem out_eq : out0_1 x0 = View.canon [piece x0 11, piece x0 10, piece x0 9, piece x0 8, piece x0 7, piece x0 6,
    piece x0 5, piece x0 4, piece x0 3, piece x0 2, piece x0 1, piece x0 0] := rfl

theorem at_piece (h h' : Fin 12) (r : Fin 128) (c : Fin 256) :
    View.RectAt (ix3 h r c : S12x128x256.Idx) (piece x0 h').1 (piece x0 h').2 (tile x0 h (ix3 0 r c)) := by
  intro x hx
  have h0 := congrArg (fun y => (y 0).val) hx
  have h1 := congrArg (fun y => (y 1).val) hx
  have h2 := congrArg (fun y => (y 2).val) hx
  simp only [Rect.emb_apply] at h0 h1 h2
  change h'.val + 1 * (x 0).val = h.val at h0
  change 0 + 1 * (x 1).val = r.val at h1
  change 0 + 1 * (x 2).val = c.val at h2
  have b0 : (x 0).val < 1 := (x 0).isLt
  obtain rfl : h' = h := Fin.ext (by omega)
  show tile x0 h' x = _
  congr 1
  funext a
  match a with
  | 0 => exact Fin.ext (by show (x 0).val = 0; omega)
  | 1 => exact Fin.ext (by show (x 1).val = r.val; omega)
  | 2 => exact Fin.ext (by show (x 2).val = c.val; omega)

theorem allAt_piece {S : Shape} {e : EltTy} {y : S.Idx} {v : Elt Ideal e} (P : View.Piece (Elt Ideal) S e)
    (L : List (View.Piece (Elt Ideal) S e)) (h1 : View.RectAt y P.1 P.2 v) (h2 : View.AllAt L y v) :
    View.AllAt (P :: L) y v :=
  View.allAt_cons P.1 P.2 L h1 h2

/-- A head's bias tile at an element: the table's row of the head, moved by the tile's row. -/
theorem out_apply (h : Fin 12) (r : Fin 128) (c : Fin 256) :
    out0_1 x0 (ix3 h r c) = x0 (ix2 h ⟨(c.val + 256 - r.val) % 256, Nat.mod_lt _ (by norm_num)⟩) := by
  have e : out0_1 x0 (ix3 h r c) = tile x0 h (ix3 0 r c) := by
    rw [out_eq]
    have k := fun h' => at_piece x0 h h' r c
    refine View.canon_eq_of_allAt _ _ _ (cover0_1 _ _ _ _ _ _ _ _ _ _ _ _ _) ?_
    iterate 12 refine allAt_piece _ _ (k _) ?_
    exact View.allAt_nil _ _
  rw [e]
  unfold tile
  rw [spread_apply]
  pointwise

end Cert.Proof.Bias

end
-- ==== Proof.Table.lean ====
/- The table of biases that the host prepares: per head, the bias at distance 0, then −∞ over 127 places, then the biases
   from the largest distance down to 1. Read by the distance modulo 256, it gives −∞ wherever a key is not to be seen. -/
module

public import proofs.«01_k».proof.Proof.Gen.KernelIdeal.Frame
public import Idealize.ShloMosaic.Lib.StableHlo.ReadAt
public import Idealize.ShloMosaic.Lib.Pointwise

@[expose] public section

set_option maxRecDepth 16384

noncomputable section

namespace Cert.Proof.Table

open Idealize.ShloMosaic Idealize.ShloMosaic.TcCoe Idealize.SL.Sem Cert.KernelIdeal Cert.KernelIdeal.Gen

/-- The biases of the three groups, one under the other. -/
def stack (a b d : FVec Ideal S4x129 .f32) : FVec Ideal S12x129 .f32 :=
  concatenate S12x129 0 [⟨S4x129, a⟩, ⟨S4x129, b⟩, ⟨S4x129, d⟩] concatenates_S4x129_S4x129_S4x129_S12x129_d0

/-- The table of each head, from its biases. -/
def table (x : FVec Ideal S12x129 .f32) : FVec Ideal S12x256 .f32 :=
  concatenate S12x256 1 [⟨S12x1, extractStridedSlice S12x1 ![0, 0] x slices_S12x129_S12x1_0_0⟩,
    ⟨S12x127, broadcastInDim S12x127 ![] bcast_S_S12x127 (constant S_ .f32 0xFF800000#32 : FVec Ideal S_ .f32)⟩,
    ⟨S12x128, Host.reverse [1] (extractStridedSlice S12x128 ![0, 1] x slices_S12x129_S12x128_0_1)⟩]
    concatenates_S12x1_S12x127_S12x128_S12x256_d1

theorem stack_apply (a b d : FVec Ideal S4x129 .f32) (h : Fin 4) (k : Fin 129) :
    stack a b d (ix2 (⟨h.val, by omega⟩ : Fin 12) k) = a (ix2 h k) := by
  unfold stack
  pointwise

theorem table_apply (x : FVec Ideal S12x129 .f32) (h : Fin 12) (j : Fin 256) :
    table x (ix2 h j) =
      if j.val = 0 then x (ix2 h 0) else if hj : j.val < 128 then ⊥ else x (ix2 h ⟨256 - j.val, by omega⟩) := by
  have e : Ideal.ofBits .f32 0xFF800000#32 = ⊥ := by simp [Ideal.ofBits, Ideal.ieee]
  unfold table
  pointwise
  rw [e]
  by_cases h0 : j.val = 0
  · rw [if_pos h0, dif_pos (by omega : j.val < 1)]
    congr 2
    exact Fin.ext h0
  · rw [if_neg h0, dif_neg (by omega : ¬ j.val < 1)]
    by_cases h2 : j.val < 128
    · rw [dif_pos h2, dif_pos (by omega : j.val - 1 < 127)]
    · rw [dif_neg h2, dif_neg (by omega : ¬ j.val - 1 < 127)]
      simp only [List.mem_singleton, zero_ne_one, if_false, if_true]
      refine congrArg x (congrArg (ix2 h) (Fin.ext ?_))
      show 1 + (128 - (j.val - 1 - 127 + 1)) = 256 - j.val
      have := j.isLt
      omega

variable (m : (ℓ : Loc nD τ sig) → Buf (Elt Ideal) ℓ) (ρ : Dev nD → PrngReg)

theorem table_eq (c : Dev nD) : V1 (F := Ideal) m ρ c main_v5 =
    table (stack (m (c.tc.loc main_arg2)) (m (c.tc.loc main_arg3)) (m (c.tc.loc main_arg4))) := by
  show StableHlo.after hostOps0 (W0 m ρ c) (Proc.devRef .tc main_v5) = _
  rfl

end Cert.Proof.Table
-- ==== Proof.Run.lean ====
/- The kernel's run: every weakly fair execution ends with the two results that the attention's pipeline leaves and with the
   arguments as launched. Then each result is the reference's, element by element: a point's blocks by `Join`, the staged
   bias tiles by `Bias` and `Table`. -/
module

public import proofs.«01_k».proof.Proof.Join
public import proofs.«01_k».proof.Proof.Bias
public import proofs.«01_k».proof.Proof.Table
public import Idealize.ShloMosaic.Lib.Pipeline.ValueKit

@[expose] public section

set_option maxRecDepth 16384

noncomputable section

namespace Cert.Proof.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with the statement
set_option backward.isDefEq.respectTransparency.types false in
/-- The kernel's run, its two results named as the attention's pipeline leaves them. -/
theorem run : θ_run defs (onTc (τ := τ) (main (F := Ideal))) ⟨m, fun _ => 0, ρ⟩ (fun r => ∀ c : Dev nD,
      r.2.mem ((c.tc : Thread nD τ).loc main_v7_0) = (dat1 (V2 m ρ) c).arrAt 4 cfg1.N
      ∧ r.2.mem ((c.tc : Thread nD τ).loc main_v7_1) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v7_0 (by decide))).trans (W3_arr m ρ c 4),
       (h c _ (mem_uc main_v7_1 (by decide))).trans (W3_arr m ρ c 5),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

/-! ## The arrays that the attention reads -/

theorem queries (c : Dev nD) : V2 m ρ c main_arg0 = m (c.tc.loc main_arg0) := W2_args m ρ c main_arg0 (by decide)
theorem keys (c : Dev nD) : V2 m ρ c main_arg1 = m (c.tc.loc main_arg1) := W2_args m ρ c main_arg1 (by decide)

theorem tile_index0 : ∀ t : Fin cfg0.N, win0_0.index t = ![0, 0] := by decide +kernel
theorem tile_index1 : ∀ t : Fin cfg0.N, win0_1.index t = ![0, 0, 0] := by decide +kernel

/-- The bias tiles of the first group of heads: each row holds its head's table from its own place on. -/
theorem tiles (c : Dev nD) (h : Fin 4) (r : Fin 128) (j : Fin 256) :
    V2 m ρ c main_v6 (ix3 (⟨h.val, by omega⟩ : Fin 12) r j) =
      Join.entry (m (c.tc.loc main_arg2)) h ((j.val + 256 - r.val) % 256) := by
  have e : V2 m ρ c main_v6 = fun y => V1 m ρ c main_v5 (ix2 (y 0) ⟨((y 2).val + 256 - (y 1).val) % 256, Nat.mod_lt _ (by norm_num)⟩) := by
    refine (W2_arr m ρ c 1).trans ?_
    refine (dat0 (V1 m ρ) c).arrAt_eq_of_covers 1 _ (by decide +kernel) fun t hf y => ?_
    rw [after0_1]
    have e0 : iblk0 (V1 m ρ) c 0 t = V1 m ρ c main_v5 := by
      funext x
      blk_simp [iblk0]
      refine congrArg (V1 m ρ c main_v5) ?_
      blk_ext [tile_index0]
    rw [e0]
    blk_simp [tile_index1]
    refine (congrArg (out0_1 _) (eq_ix3 (n0 := 12) (n1 := 128) (n2 := 256) y)).trans
      ((Bias.out_apply _ (y 0) (y 1) (y 2)).trans (congrArg (V1 m ρ c main_v5) ?_))
    blk_ext [tile_index1]
  rw [e, Table.table_eq]
  show Table.table _ (ix2 (⟨h.val, by omega⟩ : Fin 12) _) = _
  rw [Table.table_apply]
  simp only [Table.stack_apply]
  rfl

/-! ## The attention's blocks -/

/-- A point's batch and its block of 1024 rows. -/
def batch (t : Fin cfg1.N) : Fin 8 := ⟨(grid1.coords t 0).val, (grid1.coords t 0).isLt⟩
def block (t : Fin cfg1.N) : Fin 2 := ⟨(grid1.coords t 2).val, (grid1.coords t 2).isLt⟩

theorem index0 : ∀ t : Fin cfg1.N, win1_0.index t = ![(batch t).val, (block t).val, 0] := by decide +kernel
theorem index1 : ∀ t : Fin cfg1.N, win1_1.index t = ![(batch t).val, (block t).val, 0] := by decide +kernel
theorem index2 : ∀ t : Fin cfg1.N, win1_2.index t = ![(batch t).val, 8 * (block t).val - 1, 0] := by decide +kernel
theorem index3 : ∀ t : Fin cfg1.N, win1_3.index t = ![0, 0, 0] := by decide +kernel
theorem index4 : ∀ t : Fin cfg1.N, win1_4.index t = ![(batch t).val, (block t).val, 0] := by decide +kernel
theorem index5 : ∀ t : Fin cfg1.N, win1_5.index t = ![(batch t).val, (block t).val, 0] := by decide +kernel

theorem block0 (c : Dev nD) (t : Fin cfg1.N) (s : Fin 1024) (l : Fin 256) :
    iblk1 (V2 m ρ) c 0 t (ix3 (0 : Fin 1) s l) =
      m (c.tc.loc main_arg0) (ix3 (batch t) (⟨1024 * (block t).val + s.val, by omega⟩ : Fin 2048) l) := by
  rw [← queries m ρ c]
  blk_simp [iblk1]
  refine congrArg (V2 m ρ c main_arg0) ?_
  blk_ext [index0]

theorem block1 (c : Dev nD) (t : Fin cfg1.N) (s : Fin 1024) (l : Fin 512) :
    iblk1 (V2 m ρ) c 1 t (ix3 (0 : Fin 1) s l) =
      m (c.tc.loc main_arg1) (ix3 (batch t) (⟨1024 * (block t).val + s.val, by omega⟩ : Fin 2048) l) := by
  rw [← keys m ρ c]
  blk_simp [iblk1]
  refine congrArg (V2 m ρ c main_arg1) ?_
  blk_ext [index1]

theorem block2 (c : Dev nD) (t : Fin cfg1.N) (s : Fin 128) (l : Fin 512) :
    iblk1 (V2 m ρ) c 2 t (ix3 (0 : Fin 1) s l) =
      m (c.tc.loc main_arg1) (ix3 (batch t) (⟨128 * (8 * (block t).val - 1) + s.val, by omega⟩ : Fin 2048) l) := by
  rw [← keys m ρ c]
  blk_simp [iblk1]
  refine congrArg (V2 m ρ c main_arg1) ?_
  blk_ext [index2]

theorem block3 (c : Dev nD) (t : Fin cfg1.N) (h : Fin 4) (r : Fin 128) (j : Fin 256) :
    iblk1 (V2 m ρ) c 3 t (ix3 h r j) = Join.entry (m (c.tc.loc main_arg2)) h ((j.val + 256 - r.val) % 256) := by
  rw [← tiles m ρ c]
  blk_simp [iblk1]
  refine congrArg (V2 m ρ c main_v6) ?_
  blk_ext [index3]

/-- A place in a block of 1024 rows, by its tile and its place there. -/
theorem place {k : ℕ} (y : Shape.Idx ⟨3, ![1, 1024, k]⟩) :
    y = ix3 (0 : Fin 1) (Tiles.row ⟨(y 1).val / 128, by have : (y 1).val < 1024 := (y 1).isLt; omega⟩
      ⟨(y 1).val % 128, Nat.mod_lt _ (by norm_num)⟩) (y 2) := by
  funext a
  match a with
  | 0 => exact Subsingleton.elim (α := Fin 1) _ _
  | 1 => exact Fin.ext (Nat.div_add_mod (y 1).val 128).symm
  | 2 => rfl

theorem lane_eq (c : Fin 256) : c = Tiles.lane ⟨c.val / 64, by omega⟩ ⟨c.val % 64, Nat.mod_lt _ (by norm_num)⟩ :=
  Fin.ext (Nat.div_add_mod c.val 64).symm

theorem place_eq (t : Fin cfg1.N) (T : Fin 8) (r : Fin 128) :
    Join.at_ (block t) T r = ⟨1024 * (block t).val + (128 * T.val + r.val), by omega⟩ := Fin.ext (Join.at_val _ _ _)

/-! ## The results -/

/-- The first result is the reference's: the numerators. -/
theorem out_main (c : Dev nD) : (dat1 (V2 m ρ) c).arrAt 4 cfg1.N =
    Cert.ReferenceIdeal.Read.val_main_v39 (F := Ideal) (m (c.tc.loc main_arg0)) (m (c.tc.loc main_arg1)) (m (c.tc.loc main_arg2)) := by
  refine (dat1 (V2 m ρ) c).arrAt_eq_of_covers 4 _ (by decide +kernel) fun t hf y => ?_
  rw [after1_4]
  blk_simp [index4]
  have ey := place (k := 256) y
  rw [lane_eq (y 2)] at ey
  generalize (⟨(y 1).val / 128, _⟩ : Fin 8) = T, (⟨(y 1).val % 128, _⟩ : Fin 128) = r, (⟨(y 2).val / 64, _⟩ : Fin 4) = h,
    (⟨(y 2).val % 64, _⟩ : Fin 64) = l at ey
  subst ey
  refine (Join.out_eq (m (c.tc.loc main_arg0)) (m (c.tc.loc main_arg1)) (m (c.tc.loc main_arg2)) (batch t) (block t) _ _ _ _
    (block0 m ρ c t) (block1 m ρ c t) (block2 m ρ c t) (block3 m ρ c t) _ rfl T h r l).trans ?_
  rw [place_eq]
  refine congrArg _ ?_
  blk_ext [index4, Tiles.row]

/-- The second result is the reference's: the largest scores and the masses. -/
theorem out_stat (c : Dev nD) : (dat1 (V2 m ρ) c).arrAt 5 cfg1.N =
    Cert.ReferenceIdeal.Read.val_main_v38 (F := Ideal) (m (c.tc.loc main_arg0)) (m (c.tc.loc main_arg1)) (m (c.tc.loc main_arg2)) := by
  refine (dat1 (V2 m ρ) c).arrAt_eq_of_covers 5 _ (by decide +kernel) fun t hf y => ?_
  rw [after1_5]
  blk_simp [index5]
  have ey := place (k := 128) y
  generalize (⟨(y 1).val / 128, _⟩ : Fin 8) = T, (⟨(y 1).val % 128, _⟩ : Fin 128) = r, y 2 = l at ey
  subst ey
  refine (Join.stat_eq (m (c.tc.loc main_arg0)) (m (c.tc.loc main_arg1)) (m (c.tc.loc main_arg2)) (batch t) (block t) _ _ _ _
    (block0 m ρ c t) (block1 m ρ c t) (block2 m ρ c t) (block3 m ρ c t) _ rfl T r l).trans ?_
  rw [place_eq]
  refine congrArg _ ?_
  blk_ext [index5, Tiles.row]

end Cert.Proof.Run
-- ==== Proof.Norm.lean ====
/- Root-mean-square normalisation and a projection's column, of one row: what every projection below comes to. -/
module

public import Idealize.ShloMosaic.Lib.Pointwise

@[expose] public section

noncomputable section

namespace Cert.Proof.Norm

open Idealize.ShloMosaic

/-- A row's entry by the root of its mean square. -/
def unit (x : Fin 1024 → EReal) (k : Fin 1024) : EReal :=
  x k * Ideal.rsqrt (Ideal.div (∑ j, x j * x j) (Ideal.ofBits FTy.f32 1149239296#32) + Ideal.ofBits FTy.f32 897988541#32)

/-- A normalised row, scaled by `g`, against a column of the weights. -/
def column (x g w : Fin 1024 → EReal) : EReal := ∑ k, unit x k * g k * w k

theorem column_comm (x g w : Fin 1024 → EReal) : ∑ k, w k * (unit x k * g k) = column x g w :=
  Finset.sum_congr rfl fun _ _ => mul_comm _ _

theorem column_congr {x x' g g' w w' : Fin 1024 → EReal} (hx : ∀ k, x k = x' k) (hg : ∀ k, g k = g' k) (hw : ∀ k, w k = w' k) :
    column x g w = column x' g' w' := by
  rw [funext hx, funext hg, funext hw]

end Cert.Proof.Norm

end
-- ==== Proof.Entry.lean ====
/- The first layer's projection at the prompt: the entry of a batch, a row and a column, and how the results hold the entries. -/
module

public import proofs.«01_k».proof.Proof.Norm

@[expose] public section

set_option maxRecDepth 16384

noncomputable section

namespace Cert.Proof.Entry

open Idealize.ShloMosaic

variable (x : (⟨3, ![8, 2048, 1024]⟩ : Shape).Idx → EReal) (g : (⟨2, ![2, 1024]⟩ : Shape).Idx → EReal)
  (w : (⟨3, ![1, 1024, 3072]⟩ : Shape).Idx → EReal)

/-- A normalised row, scaled, against a column of the weights. -/
def entry (b : Fin 8) (s : Fin 2048) (j : Fin 3072) : EReal :=
  Norm.column (fun k => x (ix3 b s k)) (fun k => g (ix2 (0 : Fin 2) k)) (fun k => w (ix3 (0 : Fin 1) k j))

theorem entry_congr {b b' : Fin 8} {s s' : Fin 2048} {j j' : Fin 3072} (hb : b.val = b'.val) (hs : s.val = s'.val) (hj : j.val = j'.val) :
    entry x g w b s j = entry x g w b' s' j' := by
  rw [Fin.ext hb, Fin.ext hs, Fin.ext hj]

/-- The column of group `i` that place `n` of the keys and values holds: the keys of the group's four heads, then the values. -/
def pair (i n : ℕ) : ℕ := 768 + 256 * i + 768 * (n % 512 / 256) + n % 256

theorem pair_lt (i n : ℕ) (hi : i < 3) : pair i n < 3072 := by
  unfold pair
  omega

def res3 (y : (⟨2, ![16384, 256]⟩ : Shape).Idx) : EReal :=
  have b0 : (y 0).val < 16384 := (y 0).isLt
  have b1 : (y 1).val < 256 := (y 1).isLt
  entry x g w ⟨(y 0).val / 2048, by omega⟩ ⟨(y 0).val % 2048, by omega⟩ ⟨(y 1).val, by omega⟩

def res4 (y : (⟨3, ![8, 512, 1024]⟩ : Shape).Idx) : EReal :=
  have b0 : (y 0).val < 8 := (y 0).isLt
  have b1 : (y 1).val < 512 := (y 1).isLt
  have b2 : (y 2).val < 1024 := (y 2).isLt
  entry x g w (y 0) ⟨4 * (y 1).val + (y 2).val / 256, by omega⟩ ⟨256 + (y 2).val % 256, by omega⟩

def res5 (y : (⟨3, ![8, 128, 4096]⟩ : Shape).Idx) : EReal :=
  have b0 : (y 0).val < 8 := (y 0).isLt
  have b1 : (y 1).val < 128 := (y 1).isLt
  have b2 : (y 2).val < 4096 := (y 2).isLt
  entry x g w (y 0) ⟨16 * (y 1).val + (y 2).val / 256, by omega⟩ ⟨512 + (y 2).val % 256, by omega⟩

def res6 (y : (⟨2, ![16384, 512]⟩ : Shape).Idx) : EReal :=
  have b0 : (y 0).val < 16384 := (y 0).isLt
  have b1 : (y 1).val < 512 := (y 1).isLt
  entry x g w ⟨(y 0).val / 2048, by omega⟩ ⟨(y 0).val % 2048, by omega⟩ ⟨pair 0 (y 1).val, pair_lt _ _ (by decide)⟩

def res7 (y : (⟨3, ![8, 512, 2048]⟩ : Shape).Idx) : EReal :=
  have b0 : (y 0).val < 8 := (y 0).isLt
  have b1 : (y 1).val < 512 := (y 1).isLt
  have b2 : (y 2).val < 2048 := (y 2).isLt
  entry x g w (y 0) ⟨4 * (y 1).val + (y 2).val / 512, by omega⟩ ⟨pair 1 (y 2).val, pair_lt _ _ (by decide)⟩

def res8 (y : (⟨3, ![8, 128, 8192]⟩ : Shape).Idx) : EReal :=
  have b0 : (y 0).val < 8 := (y 0).isLt
  have b1 : (y 1).val < 128 := (y 1).isLt
  have b2 : (y 2).val < 8192 := (y 2).isLt
  entry x g w (y 0) ⟨16 * (y 1).val + (y 2).val / 512, by omega⟩ ⟨pair 2 (y 2).val, pair_lt _ _ (by decide)⟩

def res9 (y : (⟨2, ![16384, 256]⟩ : Shape).Idx) : EReal :=
  have b0 : (y 0).val < 16384 := (y 0).isLt
  have b1 : (y 1).val < 256 := (y 1).isLt
  entry x g w ⟨(y 0).val / 2048, by omega⟩ ⟨(y 0).val % 2048, by omega⟩ ⟨2304 + (y 1).val, by omega⟩

def res10 (y : (⟨2, ![16384, 512]⟩ : Shape).Idx) : EReal :=
  have b0 : (y 0).val < 16384 := (y 0).isLt
  have b1 : (y 1).val < 512 := (y 1).isLt
  entry x g w ⟨(y 0).val / 2048, by omega⟩ ⟨(y 0).val % 2048, by omega⟩ ⟨2560 + (y 1).val, by omega⟩

def res11 (y : (⟨3, ![8, 512, 2048]⟩ : Shape).Idx) : EReal :=
  have b0 : (y 0).val < 8 := (y 0).isLt
  have b1 : (y 1).val < 512 := (y 1).isLt
  have b2 : (y 2).val < 2048 := (y 2).isLt
  entry x g w (y 0) (y 2) ⟨pair 0 (y 1).val, pair_lt _ _ (by decide)⟩

def res12 (y : (⟨3, ![8, 512, 2048]⟩ : Shape).Idx) : EReal :=
  have b0 : (y 0).val < 8 := (y 0).isLt
  have b1 : (y 1).val < 512 := (y 1).isLt
  have b2 : (y 2).val < 2048 := (y 2).isLt
  entry x g w (y 0) (y 2) ⟨pair 1 (y 1).val, pair_lt _ _ (by decide)⟩

def res13 (y : (⟨3, ![8, 512, 2048]⟩ : Shape).Idx) : EReal :=
  have b0 : (y 0).val < 8 := (y 0).isLt
  have b1 : (y 1).val < 512 := (y 1).isLt
  have b2 : (y 2).val < 2048 := (y 2).isLt
  entry x g w (y 0) (y 2) ⟨pair 2 (y 1).val, pair_lt _ _ (by decide)⟩

end Cert.Proof.Entry

end
-- ==== Proof.Grouped.lean ====
/- The first layer's projection at the prompt, block by block: every output block holds, at each place, the normalised row
   against a column of the weights. A block of a dilated group takes its rows by residue class, through a stage of 128 columns. -/
module

public import proofs.«01_k».proof.Proof.Norm
public import proofs.«01_k».proof.Proof.Gen.Kernel2Ideal.Frame
public import Idealize.ShloMosaic.Lib.WritesUnit
public import Idealize.ShloMosaic.Lib.Pipeline.ValueKit

@[expose] public section

set_option maxRecDepth 16384

noncomputable section

namespace Cert.Proof.Grouped

open Idealize.ShloMosaic Idealize.ShloMosaic.TcCoe Idealize.ShloMosaic.Tactic Idealize.SL.Sem
open Cert.Kernel2Ideal Cert.Kernel2Ideal.Gen

section Pieces
variable (x0 : Vec Ideal S512x1024 .f32) (x1 : Vec Ideal S1x1024 .f32) (x2 : Vec Ideal S1024x3072 .bf16)

/-- A row of the block against a column of the weights. -/
def proj (r : Fin 512) (j : Fin 3072) : EReal :=
  Norm.column (fun k => x0 (ix2 r k)) (fun k => x1 (ix2 0 k)) (fun k => x2 (ix2 k j))

theorem proj_congr {r r' : Fin 512} {j j' : Fin 3072} (hr : r.val = r'.val) (hj : j.val = j'.val) :
    proj x0 x1 x2 r j = proj x0 x1 x2 r' j' := by
  rw [Fin.ext hr, Fin.ext hj]

/-- The columns from `base` on. -/
def cols (base : ℕ) (inb : ∀ a, (![0, base] : Fin 2 → ℕ) a + (![1024, 256] : Fin 2 → ℕ) a ≤ S1024x3072.size a) : Vec Ideal S1024x256 .bf16 :=
  View.ld x2 (Rect.unit (s := S1024x3072) ![0, base] ![1024, 256] inb)

theorem base_le {base : ℕ} (inb : ∀ a, (![0, base] : Fin 2 → ℕ) a + (![1024, 256] : Fin 2 → ℕ) a ≤ S1024x3072.size a) :
    base + 256 ≤ 3072 := inb 1

theorem cols_apply (base : ℕ) (inb) (k : Fin 1024) (j : Fin 256) :
    cols x2 base inb (ix2 k j) = x2 (ix2 k ⟨base + j.val, by have := base_le inb; omega⟩) := by
  refine congrArg x2 ?_
  funext a
  match a with
  | 0 => exact Fin.ext (by show 0 + 1 * k.val = k.val; omega)
  | 1 => exact Fin.ext (by show base + 1 * j.val = base + j.val; omega)

/-- A product of 256 columns. -/
theorem product_apply (base : ℕ) (inb) (r : Fin 512) (j : Fin 256) :
    k0_pay3 x0 x1 (cols x2 base inb) (ix2 r j) =
      proj x0 x1 x2 r ⟨base + j.val, by have := base_le inb; omega⟩ := by
  have e : k0_pay3 x0 x1 (cols x2 base inb) (ix2 r j) =
      Norm.column (fun k => x0 (ix2 r k)) (fun k => x1 (ix2 0 k)) (fun k => cols x2 base inb (ix2 k j)) := by
    generalize cols x2 base inb = w
    unfold k0_pay3 k0_pay1
    pointwise
    rfl
  exact e.trans (Norm.column_congr (fun _ => rfl) (fun _ => rfl) (fun k => cols_apply x2 base inb k j))

theorem first_half (base : ℕ) (inb) (r : Fin 512) (l : Fin 128) :
    k0_pay4 x0 x1 (cols x2 base inb) (ix2 r l) =
      proj x0 x1 x2 r ⟨base + l.val, by have := base_le inb; omega⟩ := by
  refine Eq.trans ?_ (product_apply x0 x1 x2 base inb r ⟨l.val, by omega⟩)
  unfold k0_pay4
  generalize k0_pay3 x0 x1 (cols x2 base inb) = p
  pointwise

theorem second_half (base : ℕ) (inb) (r : Fin 512) (l : Fin 128) :
    k0_pay9 (k0_pay3 x0 x1 (cols x2 base inb)) (ix2 r l) =
      proj x0 x1 x2 r ⟨base + (128 + l.val), by have := base_le inb; omega⟩ := by
  refine Eq.trans ?_ (product_apply x0 x1 x2 base inb r ⟨128 + l.val, by omega⟩)
  unfold k0_pay9
  generalize k0_pay3 x0 x1 (cols x2 base inb) = p
  pointwise

/-- Writes of the whole stage, then a class of its rows. -/
theorem stage_apply (w : Vec Ideal S512x128 .f32) (L : List (View.Piece (Elt Ideal) S512x128 .f32)) (inb)
    (B : LoadRect S512x128) (x : B.shape.Idx) (r : Fin 512) (l : Fin 128) (h0 : (B.idx x 0).val = r.val) (h1 : (B.idx x 1).val = l.val) :
    (View.whole cc0_scratch0).readCov ((⟨Rect.unit (s := S512x128) ![0, 0] ![512, 128] inb, w⟩ : View.Piece (Elt Ideal) S512x128 .f32) :: L) B x
      = w (ix2 r l) := by
  refine (View.read_writes_cons_unit_of_mem (View.whole cc0_scratch0) _ (off' := ![0, 0]) inb w L (B.idx x) (ix2 r l) rfl fun a => ?_)
  match a with
  | 0 => show (B.idx x 0).val = 0 + r.val; omega
  | 1 => show (B.idx x 1).val = 0 + l.val; omega

theorem class4_lo (W : ℕ) (base : ℕ) (inb) (L : List (View.Piece (Elt Ideal) S512x128 .f32)) (cls lane : ℕ) (inbs) (inbc)
    (q : Fin 128) (n : Fin W) (r : Fin 512) (j : Fin 3072)
    (h : ∀ l : ℕ, l < 128 → n.val = lane + l → r.val = 4 * q.val + cls ∧ j.val = base + (l)) :
    View.TileAt (Val := Elt Ideal) (e := .f32) (S := ⟨3, ![1, 128, W]⟩) (ix3 (0 : Fin 1) q n) ![0, 0, lane] ![1, 128, 128]
      (k0_pay5 (F := Ideal) ((View.whole cc0_scratch0).readCov
        ((⟨Rect.unit (s := S512x128) ![0, 0] ![512, 128] inbs, k0_pay4 x0 x1 (cols x2 base inb)⟩ : View.Piece (Elt Ideal) S512x128 .f32) :: L)
        (⟨![cls, 0], ![128, 128], ![4, 1], inbc⟩ : LoadRect S512x128)))
      (proj x0 x1 x2 r j) := by
  intro x hx
  have h0 : (x 0).val < 1 := (x 0).isLt
  have h1 : q.val = 0 + (x 1).val := hx 1
  have h2 : n.val = lane + (x 2).val := hx 2
  have hl : (x 2).val < 128 := (x 2).isLt
  obtain ⟨hr, hj⟩ := h (x 2).val hl h2
  have e : x = ix3 (n0 := 1) (n1 := 128) (n2 := 128) 0 (x 1) (x 2) := by
    funext a
    match a with
    | 0 => exact Fin.ext (by show (x 0).val = 0; omega)
    | 1 => rfl
    | 2 => rfl
  rw [e]
  refine Eq.trans (b := (View.whole cc0_scratch0).readCov
        ((⟨Rect.unit (s := S512x128) ![0, 0] ![512, 128] inbs, k0_pay4 x0 x1 (cols x2 base inb)⟩ : View.Piece (Elt Ideal) S512x128 .f32) :: L)
        (⟨![cls, 0], ![128, 128], ![4, 1], inbc⟩ : LoadRect S512x128) (ix2 (n0 := 128) (n1 := 128) (x 1) (x 2))) ?_ ?_
  · unfold k0_pay5
    pointwise
  · refine (stage_apply _ L inbs _ _ r (x 2) ?_ ?_).trans ((first_half x0 x1 x2 base inb r (x 2)).trans
      (proj_congr x0 x1 x2 rfl hj.symm))
    · show cls + 4 * (x 1).val = r.val
      omega
    · show 0 + 1 * (x 2).val = (x 2).val
      omega

theorem class4_hi (W : ℕ) (base : ℕ) (inb) (L : List (View.Piece (Elt Ideal) S512x128 .f32)) (cls lane : ℕ) (inbs) (inbc)
    (q : Fin 128) (n : Fin W) (r : Fin 512) (j : Fin 3072)
    (h : ∀ l : ℕ, l < 128 → n.val = lane + l → r.val = 4 * q.val + cls ∧ j.val = base + (128 + l)) :
    View.TileAt (Val := Elt Ideal) (e := .f32) (S := ⟨3, ![1, 128, W]⟩) (ix3 (0 : Fin 1) q n) ![0, 0, lane] ![1, 128, 128]
      (k0_pay5 (F := Ideal) ((View.whole cc0_scratch0).readCov
        ((⟨Rect.unit (s := S512x128) ![0, 0] ![512, 128] inbs, k0_pay9 (k0_pay3 x0 x1 (cols x2 base inb))⟩ : View.Piece (Elt Ideal) S512x128 .f32) :: L)
        (⟨![cls, 0], ![128, 128], ![4, 1], inbc⟩ : LoadRect S512x128)))
      (proj x0 x1 x2 r j) := by
  intro x hx
  have h0 : (x 0).val < 1 := (x 0).isLt
  have h1 : q.val = 0 + (x 1).val := hx 1
  have h2 : n.val = lane + (x 2).val := hx 2
  have hl : (x 2).val < 128 := (x 2).isLt
  obtain ⟨hr, hj⟩ := h (x 2).val hl h2
  have e : x = ix3 (n0 := 1) (n1 := 128) (n2 := 128) 0 (x 1) (x 2) := by
    funext a
    match a with
    | 0 => exact Fin.ext (by show (x 0).val = 0; omega)
    | 1 => rfl
    | 2 => rfl
  rw [e]
  refine Eq.trans (b := (View.whole cc0_scratch0).readCov
        ((⟨Rect.unit (s := S512x128) ![0, 0] ![512, 128] inbs, k0_pay9 (k0_pay3 x0 x1 (cols x2 base inb))⟩ : View.Piece (Elt Ideal) S512x128 .f32) :: L)
        (⟨![cls, 0], ![128, 128], ![4, 1], inbc⟩ : LoadRect S512x128) (ix2 (n0 := 128) (n1 := 128) (x 1) (x 2))) ?_ ?_
  · unfold k0_pay5
    pointwise
  · refine (stage_apply _ L inbs _ _ r (x 2) ?_ ?_).trans ((second_half x0 x1 x2 base inb r (x 2)).trans
      (proj_congr x0 x1 x2 rfl hj.symm))
    · show cls + 4 * (x 1).val = r.val
      omega
    · show 0 + 1 * (x 2).val = (x 2).val
      omega

theorem class16_lo (W : ℕ) (base : ℕ) (inb) (L : List (View.Piece (Elt Ideal) S512x128 .f32)) (cls lane : ℕ) (inbs) (inbc)
    (q : Fin 32) (n : Fin W) (r : Fin 512) (j : Fin 3072)
    (h : ∀ l : ℕ, l < 128 → n.val = lane + l → r.val = 16 * q.val + cls ∧ j.val = base + (l)) :
    View.TileAt (Val := Elt Ideal) (e := .f32) (S := ⟨3, ![1, 32, W]⟩) (ix3 (0 : Fin 1) q n) ![0, 0, lane] ![1, 32, 128]
      (k0_pay16 (F := Ideal) ((View.whole cc0_scratch0).readCov
        ((⟨Rect.unit (s := S512x128) ![0, 0] ![512, 128] inbs, k0_pay4 x0 x1 (cols x2 base inb)⟩ : View.Piece (Elt Ideal) S512x128 .f32) :: L)
        (⟨![cls, 0], ![32, 128], ![16, 1], inbc⟩ : LoadRect S512x128)))
      (proj x0 x1 x2 r j) := by
  intro x hx
  have h0 : (x 0).val < 1 := (x 0).isLt
  have h1 : q.val = 0 + (x 1).val := hx 1
  have h2 : n.val = lane + (x 2).val := hx 2
  have hl : (x 2).val < 128 := (x 2).isLt
  obtain ⟨hr, hj⟩ := h (x 2).val hl h2
  have e : x = ix3 (n0 := 1) (n1 := 32) (n2 := 128) 0 (x 1) (x 2) := by
    funext a
    match a with
    | 0 => exact Fin.ext (by show (x 0).val = 0; omega)
    | 1 => rfl
    | 2 => rfl
  rw [e]
  refine Eq.trans (b := (View.whole cc0_scratch0).readCov
        ((⟨Rect.unit (s := S512x128) ![0, 0] ![512, 128] inbs, k0_pay4 x0 x1 (cols x2 base inb)⟩ : View.Piece (Elt Ideal) S512x128 .f32) :: L)
        (⟨![cls, 0], ![32, 128], ![16, 1], inbc⟩ : LoadRect S512x128) (ix2 (n0 := 32) (n1 := 128) (x 1) (x 2))) ?_ ?_
  · unfold k0_pay16
    pointwise
  · refine (stage_apply _ L inbs _ _ r (x 2) ?_ ?_).trans ((first_half x0 x1 x2 base inb r (x 2)).trans
      (proj_congr x0 x1 x2 rfl hj.symm))
    · show cls + 16 * (x 1).val = r.val
      omega
    · show 0 + 1 * (x 2).val = (x 2).val
      omega

theorem class16_hi (W : ℕ) (base : ℕ) (inb) (L : List (View.Piece (Elt Ideal) S512x128 .f32)) (cls lane : ℕ) (inbs) (inbc)
    (q : Fin 32) (n : Fin W) (r : Fin 512) (j : Fin 3072)
    (h : ∀ l : ℕ, l < 128 → n.val = lane + l → r.val = 16 * q.val + cls ∧ j.val = base + (128 + l)) :
    View.TileAt (Val := Elt Ideal) (e := .f32) (S := ⟨3, ![1, 32, W]⟩) (ix3 (0 : Fin 1) q n) ![0, 0, lane] ![1, 32, 128]
      (k0_pay16 (F := Ideal) ((View.whole cc0_scratch0).readCov
        ((⟨Rect.unit (s := S512x128) ![0, 0] ![512, 128] inbs, k0_pay9 (k0_pay3 x0 x1 (cols x2 base inb))⟩ : View.Piece (Elt Ideal) S512x128 .f32) :: L)
        (⟨![cls, 0], ![32, 128], ![16, 1], inbc⟩ : LoadRect S512x128)))
      (proj x0 x1 x2 r j) := by
  intro x hx
  have h0 : (x 0).val < 1 := (x 0).isLt
  have h1 : q.val = 0 + (x 1).val := hx 1
  have h2 : n.val = lane + (x 2).val := hx 2
  have hl : (x 2).val < 128 := (x 2).isLt
  obtain ⟨hr, hj⟩ := h (x 2).val hl h2
  have e : x = ix3 (n0 := 1) (n1 := 32) (n2 := 128) 0 (x 1) (x 2) := by
    funext a
    match a with
    | 0 => exact Fin.ext (by show (x 0).val = 0; omega)
    | 1 => rfl
    | 2 => rfl
  rw [e]
  refine Eq.trans (b := (View.whole cc0_scratch0).readCov
        ((⟨Rect.unit (s := S512x128) ![0, 0] ![512, 128] inbs, k0_pay9 (k0_pay3 x0 x1 (cols x2 base inb))⟩ : View.Piece (Elt Ideal) S512x128 .f32) :: L)
        (⟨![cls, 0], ![32, 128], ![16, 1], inbc⟩ : LoadRect S512x128) (ix2 (n0 := 32) (n1 := 128) (x 1) (x 2))) ?_ ?_
  · unfold k0_pay16
    pointwise
  · refine (stage_apply _ L inbs _ _ r (x 2) ?_ ?_).trans ((second_half x0 x1 x2 base inb r (x 2)).trans
      (proj_congr x0 x1 x2 rfl hj.symm))
    · show cls + 16 * (x 1).val = r.val
      omega
    · show 0 + 1 * (x 2).val = (x 2).val
      omega

/-- Products side by side in a block of two. -/
theorem flat_tile (base : ℕ) (inb) (lane : ℕ) (r : Fin 512) (n : Fin 512) (j : Fin 3072)
    (h : ∀ l : ℕ, l < 256 → n.val = lane + l → j.val = base + l) :
    View.TileAt (Val := Elt Ideal) (e := .f32) (S := S512x512) (ix2 r n) ![0, lane] ![512, 256]
      (k0_pay3 (F := Ideal) x0 x1 (cols x2 base inb)) (proj x0 x1 x2 r j) := by
  intro x hx
  have h1 : r.val = 0 + (x 0).val := hx 0
  have h2 : n.val = lane + (x 1).val := hx 1
  have hl : (x 1).val < 256 := (x 1).isLt
  have hj := h (x 1).val hl h2
  rw [eq_ix2 (n0 := 512) (n1 := 256) x]
  exact (product_apply x0 x1 x2 base inb (x 0) (x 1)).trans
    (proj_congr x0 x1 x2 (by omega) hj.symm)

/-- Products one above the other, columns first. -/
theorem turned_tile (base : ℕ) (inb) (lane : ℕ) (n : Fin 512) (r : Fin 512) (j : Fin 3072)
    (h : ∀ l : ℕ, l < 256 → n.val = lane + l → j.val = base + l) :
    View.TileAt (Val := Elt Ideal) (e := .f32) (S := S1x512x512) (ix3 (0 : Fin 1) n r) ![0, lane, 0] ![1, 256, 512]
      (k0_pay151 (F := Ideal) (k0_pay3 (F := Ideal) x0 x1 (cols x2 base inb))) (proj x0 x1 x2 r j) := by
  intro x hx
  have h0 : (x 0).val < 1 := (x 0).isLt
  have h1 : n.val = lane + (x 1).val := hx 1
  have h2 : r.val = 0 + (x 2).val := hx 2
  have hl : (x 1).val < 256 := (x 1).isLt
  have hj := h (x 1).val hl h1
  have e : x = ix3 (n0 := 1) (n1 := 256) (n2 := 512) 0 (x 1) (x 2) := by
    funext a
    match a with
    | 0 => exact Fin.ext (by show (x 0).val = 0; omega)
    | 1 => rfl
    | 2 => rfl
  rw [e]
  refine Eq.trans ?_ ((product_apply x0 x1 x2 base inb (x 2) (x 1)).trans (proj_congr x0 x1 x2 (by omega) hj.symm))
  unfold k0_pay151
  generalize k0_pay3 x0 x1 (cols x2 base inb) = p
  pointwise

theorem gate_apply (r : Fin 512) (j : Fin 512) (inb) :
    k0_pay153 (F := Ideal) (k0_pay1 x0 x1) (View.ld x2 (Rect.unit (s := S1024x3072) ![0, 2560] ![1024, 512] inb)) (ix2 r j) =
      proj x0 x1 x2 r ⟨2560 + j.val, by omega⟩ := by
  unfold k0_pay153 k0_pay1
  pointwise
  rfl

end Pieces

variable (m : (ℓ : Loc nD τ sig) → Buf (Elt Ideal) ℓ) (ρ : Dev nD → PrngReg)

/-- The block's row against a column, at a point of the grid. -/
def at_ (c : Dev nD) (t : Fin cfg0.N) (r : Fin 512) (j : Fin 3072) : EReal :=
  proj (iblk m c 0 t) (iblk m c 1 t) (iblk m c 2 t) r j

theorem out3 (c : Dev nD) (t : Fin cfg0.N) (r : Fin 512) (j : Fin 256) :
    (outsAt0 m c t).1 (ix2 r j) = at_ m c t r ⟨j.val, by omega⟩ := by
  unfold outsAt0
  frame_out
  exact (product_apply _ _ _ 0 _ r j).trans (proj_congr _ _ _ rfl (Nat.zero_add _))

theorem out9 (c : Dev nD) (t : Fin cfg0.N) (r : Fin 512) (j : Fin 256) :
    (outsAt0 m c t).2.2.2.2.2.2.1 (ix2 r j) = at_ m c t r ⟨2304 + j.val, by omega⟩ := by
  unfold outsAt0
  frame_out
  exact product_apply _ _ _ 2304 _ r j

theorem out10 (c : Dev nD) (t : Fin cfg0.N) (r : Fin 512) (j : Fin 512) :
    (outsAt0 m c t).2.2.2.2.2.2.2.1 (ix2 r j) = at_ m c t r ⟨2560 + j.val, by omega⟩ := by
  unfold outsAt0
  frame_out
  exact gate_apply _ _ _ r j _

/-- The column of group `g` that place `n` of the keys and values holds. -/
def pair (g n : ℕ) : ℕ := 768 + 256 * g + 768 * (n % 512 / 256) + n % 256

theorem pair_lt (g n : ℕ) (hg : g < 3) : pair g n < 3072 := by
  unfold pair
  omega

theorem out6 (c : Dev nD) (t : Fin cfg0.N) (r : Fin 512) (n : Fin 512) :
    (outsAt0 m c t).2.2.2.1 (ix2 r n) = at_ m c t r ⟨pair 0 n.val, pair_lt 0 _ (by decide)⟩ := by
  unfold outsAt0
  frame_out
  refine View.canon_eq_of_allAt _ _ _ (View.cover_of_tiled_head _ _ _ rfl _) ?_
  refine View.allAt_cons_unit _ _ _ _ _ (flat_tile _ _ _ 1536 _ _ _ _ _ (by intro l hl hn; dsimp only [pair] at hn ⊢; omega)) ?_
  refine View.allAt_cons_unit _ _ _ _ _ (flat_tile _ _ _ 768 _ _ _ _ _ (by intro l hl hn; dsimp only [pair] at hn ⊢; omega)) ?_
  exact View.allAt_nil _ _

theorem out11 (c : Dev nD) (t : Fin cfg0.N) (n : Fin 512) (r : Fin 512) :
    (outsAt0 m c t).2.2.2.2.2.2.2.2.1 (ix3 (0 : Fin 1) n r) = at_ m c t r ⟨pair 0 n.val, pair_lt 0 _ (by decide)⟩ := by
  unfold outsAt0
  frame_out
  refine View.canon_eq_of_allAt _ _ _ (View.cover_of_tiled_head _ _ _ rfl _) ?_
  refine View.allAt_cons_unit _ _ _ _ _ (turned_tile _ _ _ 1536 _ _ _ _ _ (by intro l hl hn; dsimp only [pair] at hn ⊢; omega)) ?_
  refine View.allAt_cons_unit _ _ _ _ _ (turned_tile _ _ _ 768 _ _ _ _ _ (by intro l hl hn; dsimp only [pair] at hn ⊢; omega)) ?_
  exact View.allAt_nil _ _

theorem out12 (c : Dev nD) (t : Fin cfg0.N) (n : Fin 512) (r : Fin 512) :
    (outsAt0 m c t).2.2.2.2.2.2.2.2.2.1 (ix3 (0 : Fin 1) n r) = at_ m c t r ⟨pair 1 n.val, pair_lt 1 _ (by decide)⟩ := by
  unfold outsAt0
  frame_out
  refine View.canon_eq_of_allAt _ _ _ (View.cover_of_tiled_head _ _ _ rfl _) ?_
  refine View.allAt_cons_unit _ _ _ _ _ (turned_tile _ _ _ 1792 _ _ _ _ _ (by intro l hl hn; dsimp only [pair] at hn ⊢; omega)) ?_
  refine View.allAt_cons_unit _ _ _ _ _ (turned_tile _ _ _ 1024 _ _ _ _ _ (by intro l hl hn; dsimp only [pair] at hn ⊢; omega)) ?_
  exact View.allAt_nil _ _

theorem out13 (c : Dev nD) (t : Fin cfg0.N) (n : Fin 512) (r : Fin 512) :
    (outsAt0 m c t).2.2.2.2.2.2.2.2.2.2 (ix3 (0 : Fin 1) n r) = at_ m c t r ⟨pair 2 n.val, pair_lt 2 _ (by decide)⟩ := by
  unfold outsAt0
  frame_out
  refine View.canon_eq_of_allAt _ _ _ (View.cover_of_tiled_head _ _ _ rfl _) ?_
  refine View.allAt_cons_unit _ _ _ _ _ (turned_tile _ _ _ 2048 _ _ _ _ _ (by intro l hl hn; dsimp only [pair] at hn ⊢; omega)) ?_
  refine View.allAt_cons_unit _ _ _ _ _ (turned_tile _ _ _ 1280 _ _ _ _ _ (by intro l hl hn; dsimp only [pair] at hn ⊢; omega)) ?_
  exact View.allAt_nil _ _

theorem out4 (c : Dev nD) (t : Fin cfg0.N) (q : Fin 128) (n : Fin 1024) :
    (outsAt0 m c t).2.1 (ix3 (0 : Fin 1) q n) =
      at_ m c t ⟨4 * q.val + n.val / 256, by omega⟩ ⟨256 + n.val % 256, by omega⟩ := by
  unfold outsAt0
  frame_out
  refine View.canon_eq_of_allAt _ _ _ (View.cover_of_tiled_head _ _ _ rfl _) ?_
  refine View.allAt_cons_unit _ _ _ _ _ (class4_hi _ _ _ _ 256 _ _ _ _ _ _ _ _ _ _ (by intro l hl hn; dsimp only at hn ⊢; omega)) ?_
  refine View.allAt_cons_unit _ _ _ _ _ (class4_hi _ _ _ _ 256 _ _ _ _ _ _ _ _ _ _ (by intro l hl hn; dsimp only at hn ⊢; omega)) ?_
  refine View.allAt_cons_unit _ _ _ _ _ (class4_hi _ _ _ _ 256 _ _ _ _ _ _ _ _ _ _ (by intro l hl hn; dsimp only at hn ⊢; omega)) ?_
  refine View.allAt_cons_unit _ _ _ _ _ (class4_hi _ _ _ _ 256 _ _ _ _ _ _ _ _ _ _ (by intro l hl hn; dsimp only at hn ⊢; omega)) ?_
  refine View.allAt_cons_unit _ _ _ _ _ (class4_lo _ _ _ _ 256 _ _ _ _ _ _ _ _ _ _ (by intro l hl hn; dsimp only at hn ⊢; omega)) ?_
  refine View.allAt_cons_unit _ _ _ _ _ (class4_lo _ _ _ _ 256 _ _ _ _ _ _ _ _ _ _ (by intro l hl hn; dsimp only at hn ⊢; omega)) ?_
  refine View.allAt_cons_unit _ _ _ _ _ (class4_lo _ _ _ _ 256 _ _ _ _ _ _ _ _ _ _ (by intro l hl hn; dsimp only at hn ⊢; omega)) ?_
  refine View.allAt_cons_unit _ _ _ _ _ (class4_lo _ _ _ _ 256 _ _ _ _ _ _ _ _ _ _ (by intro l hl hn; dsimp only at hn ⊢; omega)) ?_
  exact View.allAt_nil _ _

theorem out5 (c : Dev nD) (t : Fin cfg0.N) (q : Fin 32) (n : Fin 4096) :
    (outsAt0 m c t).2.2.1 (ix3 (0 : Fin 1) q n) =
      at_ m c t ⟨16 * q.val + n.val / 256, by omega⟩ ⟨512 + n.val % 256, by omega⟩ := by
  unfold outsAt0
  frame_out
  refine View.canon_eq_of_allAt _ _ _ (View.cover_of_tiled_head _ _ _ rfl _) ?_
  refine View.allAt_cons_unit _ _ _ _ _ (class16_hi _ _ _ _ 512 _ _ _ _ _ _ _ _ _ _ (by intro l hl hn; dsimp only at hn ⊢; omega)) ?_
  refine View.allAt_cons_unit _ _ _ _ _ (class16_hi _ _ _ _ 512 _ _ _ _ _ _ _ _ _ _ (by intro l hl hn; dsimp only at hn ⊢; omega)) ?_
  refine View.allAt_cons_unit _ _ _ _ _ (class16_hi _ _ _ _ 512 _ _ _ _ _ _ _ _ _ _ (by intro l hl hn; dsimp only at hn ⊢; omega)) ?_
  refine View.allAt_cons_unit _ _ _ _ _ (class16_hi _ _ _ _ 512 _ _ _ _ _ _ _ _ _ _ (by intro l hl hn; dsimp only at hn ⊢; omega)) ?_
  refine View.allAt_cons_unit _ _ _ _ _ (class16_hi _ _ _ _ 512 _ _ _ _ _ _ _ _ _ _ (by intro l hl hn; dsimp only at hn ⊢; omega)) ?_
  refine View.allAt_cons_unit _ _ _ _ _ (class16_hi _ _ _ _ 512 _ _ _ _ _ _ _ _ _ _ (by intro l hl hn; dsimp only at hn ⊢; omega)) ?_
  refine View.allAt_cons_unit _ _ _ _ _ (class16_hi _ _ _ _ 512 _ _ _ _ _ _ _ _ _ _ (by intro l hl hn; dsimp only at hn ⊢; omega)) ?_
  refine View.allAt_cons_unit _ _ _ _ _ (class16_hi _ _ _ _ 512 _ _ _ _ _ _ _ _ _ _ (by intro l hl hn; dsimp only at hn ⊢; omega)) ?_
  refine View.allAt_cons_unit _ _ _ _ _ (class16_hi _ _ _ _ 512 _ _ _ _ _ _ _ _ _ _ (by intro l hl hn; dsimp only at hn ⊢; omega)) ?_
  refine View.allAt_cons_unit _ _ _ _ _ (class16_hi _ _ _ _ 512 _ _ _ _ _ _ _ _ _ _ (by intro l hl hn; dsimp only at hn ⊢; omega)) ?_
  refine View.allAt_cons_unit _ _ _ _ _ (class16_hi _ _ _ _ 512 _ _ _ _ _ _ _ _ _ _ (by intro l hl hn; dsimp only at hn ⊢; omega)) ?_
  refine View.allAt_cons_unit _ _ _ _ _ (class16_hi _ _ _ _ 512 _ _ _ _ _ _ _ _ _ _ (by intro l hl hn; dsimp only at hn ⊢; omega)) ?_
  refine View.allAt_cons_unit _ _ _ _ _ (class16_hi _ _ _ _ 512 _ _ _ _ _ _ _ _ _ _ (by intro l hl hn; dsimp only at hn ⊢; omega)) ?_
  refine View.allAt_cons_unit _ _ _ _ _ (class16_hi _ _ _ _ 512 _ _ _ _ _ _ _ _ _ _ (by intro l hl hn; dsimp only at hn ⊢; omega)) ?_
  refine View.allAt_cons_unit _ _ _ _ _ (class16_hi _ _ _ _ 512 _ _ _ _ _ _ _ _ _ _ (by intro l hl hn; dsimp only at hn ⊢; omega)) ?_
  refine View.allAt_cons_unit _ _ _ _ _ (class16_hi _ _ _ _ 512 _ _ _ _ _ _ _ _ _ _ (by intro l hl hn; dsimp only at hn ⊢; omega)) ?_
  refine View.allAt_cons_unit _ _ _ _ _ (class16_lo _ _ _ _ 512 _ _ _ _ _ _ _ _ _ _ (by intro l hl hn; dsimp only at hn ⊢; omega)) ?_
  refine View.allAt_cons_unit _ _ _ _ _ (class16_lo _ _ _ _ 512 _ _ _ _ _ _ _ _ _ _ (by intro l hl hn; dsimp only at hn ⊢; omega)) ?_
  refine View.allAt_cons_unit _ _ _ _ _ (class16_lo _ _ _ _ 512 _ _ _ _ _ _ _ _ _ _ (by intro l hl hn; dsimp only at hn ⊢; omega)) ?_
  refine View.allAt_cons_unit _ _ _ _ _ (class16_lo _ _ _ _ 512 _ _ _ _ _ _ _ _ _ _ (by intro l hl hn; dsimp only at hn ⊢; omega)) ?_
  refine View.allAt_cons_unit _ _ _ _ _ (class16_lo _ _ _ _ 512 _ _ _ _ _ _ _ _ _ _ (by intro l hl hn; dsimp only at hn ⊢; omega)) ?_
  refine View.allAt_cons_unit _ _ _ _ _ (class16_lo _ _ _ _ 512 _ _ _ _ _ _ _ _ _ _ (by intro l hl hn; dsimp only at hn ⊢; omega)) ?_
  refine View.allAt_cons_unit _ _ _ _ _ (class16_lo _ _ _ _ 512 _ _ _ _ _ _ _ _ _ _ (by intro l hl hn; dsimp only at hn ⊢; omega)) ?_
  refine View.allAt_cons_unit _ _ _ _ _ (class16_lo _ _ _ _ 512 _ _ _ _ _ _ _ _ _ _ (by intro l hl hn; dsimp only at hn ⊢; omega)) ?_
  refine View.allAt_cons_unit _ _ _ _ _ (class16_lo _ _ _ _ 512 _ _ _ _ _ _ _ _ _ _ (by intro l hl hn; dsimp only at hn ⊢; omega)) ?_
  refine View.allAt_cons_unit _ _ _ _ _ (class16_lo _ _ _ _ 512 _ _ _ _ _ _ _ _ _ _ (by intro l hl hn; dsimp only at hn ⊢; omega)) ?_
  refine View.allAt_cons_unit _ _ _ _ _ (class16_lo _ _ _ _ 512 _ _ _ _ _ _ _ _ _ _ (by intro l hl hn; dsimp only at hn ⊢; omega)) ?_
  refine View.allAt_cons_unit _ _ _ _ _ (class16_lo _ _ _ _ 512 _ _ _ _ _ _ _ _ _ _ (by intro l hl hn; dsimp only at hn ⊢; omega)) ?_
  refine View.allAt_cons_unit _ _ _ _ _ (class16_lo _ _ _ _ 512 _ _ _ _ _ _ _ _ _ _ (by intro l hl hn; dsimp only at hn ⊢; omega)) ?_
  refine View.allAt_cons_unit _ _ _ _ _ (class16_lo _ _ _ _ 512 _ _ _ _ _ _ _ _ _ _ (by intro l hl hn; dsimp only at hn ⊢; omega)) ?_
  refine View.allAt_cons_unit _ _ _ _ _ (class16_lo _ _ _ _ 512 _ _ _ _ _ _ _ _ _ _ (by intro l hl hn; dsimp only at hn ⊢; omega)) ?_
  refine View.allAt_cons_unit _ _ _ _ _ (class16_lo _ _ _ _ 512 _ _ _ _ _ _ _ _ _ _ (by intro l hl hn; dsimp only at hn ⊢; omega)) ?_
  exact View.allAt_nil _ _

theorem out7 (c : Dev nD) (t : Fin cfg0.N) (q : Fin 128) (n : Fin 2048) :
    (outsAt0 m c t).2.2.2.2.1 (ix3 (0 : Fin 1) q n) =
      at_ m c t ⟨4 * q.val + n.val / 512, by omega⟩ ⟨pair 1 n.val, pair_lt 1 _ (by decide)⟩ := by
  unfold outsAt0
  frame_out
  refine View.canon_eq_of_allAt _ _ _ (View.cover_of_tiled_head _ _ _ rfl _) ?_
  refine View.allAt_cons_unit _ _ _ _ _ (class4_hi _ _ _ _ 1792 _ _ _ _ _ _ _ _ _ _ (by intro l hl hn; dsimp only [pair] at hn ⊢; omega)) ?_
  refine View.allAt_cons_unit _ _ _ _ _ (class4_hi _ _ _ _ 1792 _ _ _ _ _ _ _ _ _ _ (by intro l hl hn; dsimp only [pair] at hn ⊢; omega)) ?_
  refine View.allAt_cons_unit _ _ _ _ _ (class4_hi _ _ _ _ 1792 _ _ _ _ _ _ _ _ _ _ (by intro l hl hn; dsimp only [pair] at hn ⊢; omega)) ?_
  refine View.allAt_cons_unit _ _ _ _ _ (class4_hi _ _ _ _ 1792 _ _ _ _ _ _ _ _ _ _ (by intro l hl hn; dsimp only [pair] at hn ⊢; omega)) ?_
  refine View.allAt_cons_unit _ _ _ _ _ (class4_lo _ _ _ _ 1792 _ _ _ _ _ _ _ _ _ _ (by intro l hl hn; dsimp only [pair] at hn ⊢; omega)) ?_
  refine View.allAt_cons_unit _ _ _ _ _ (class4_lo _ _ _ _ 1792 _ _ _ _ _ _ _ _ _ _ (by intro l hl hn; dsimp only [pair] at hn ⊢; omega)) ?_
  refine View.allAt_cons_unit _ _ _ _ _ (class4_lo _ _ _ _ 1792 _ _ _ _ _ _ _ _ _ _ (by intro l hl hn; dsimp only [pair] at hn ⊢; omega)) ?_
  refine View.allAt_cons_unit _ _ _ _ _ (class4_lo _ _ _ _ 1792 _ _ _ _ _ _ _ _ _ _ (by intro l hl hn; dsimp only [pair] at hn ⊢; omega)) ?_
  refine View.allAt_cons_unit _ _ _ _ _ (class4_hi _ _ _ _ 1024 _ _ _ _ _ _ _ _ _ _ (by intro l hl hn; dsimp only [pair] at hn ⊢; omega)) ?_
  refine View.allAt_cons_unit _ _ _ _ _ (class4_hi _ _ _ _ 1024 _ _ _ _ _ _ _ _ _ _ (by intro l hl hn; dsimp only [pair] at hn ⊢; omega)) ?_
  refine View.allAt_cons_unit _ _ _ _ _ (class4_hi _ _ _ _ 1024 _ _ _ _ _ _ _ _ _ _ (by intro l hl hn; dsimp only [pair] at hn ⊢; omega)) ?_
  refine View.allAt_cons_unit _ _ _ _ _ (class4_hi _ _ _ _ 1024 _ _ _ _ _ _ _ _ _ _ (by intro l hl hn; dsimp only [pair] at hn ⊢; omega)) ?_
  refine View.allAt_cons_unit _ _ _ _ _ (class4_lo _ _ _ _ 1024 _ _ _ _ _ _ _ _ _ _ (by intro l hl hn; dsimp only [pair] at hn ⊢; omega)) ?_
  refine View.allAt_cons_unit _ _ _ _ _ (class4_lo _ _ _ _ 1024 _ _ _ _ _ _ _ _ _ _ (by intro l hl hn; dsimp only [pair] at hn ⊢; omega)) ?_
  refine View.allAt_cons_unit _ _ _ _ _ (class4_lo _ _ _ _ 1024 _ _ _ _ _ _ _ _ _ _ (by intro l hl hn; dsimp only [pair] at hn ⊢; omega)) ?_
  refine View.allAt_cons_unit _ _ _ _ _ (class4_lo _ _ _ _ 1024 _ _ _ _ _ _ _ _ _ _ (by intro l hl hn; dsimp only [pair] at hn ⊢; omega)) ?_
  exact View.allAt_nil _ _

theorem out8 (c : Dev nD) (t : Fin cfg0.N) (q : Fin 32) (n : Fin 8192) :
    (outsAt0 m c t).2.2.2.2.2.1 (ix3 (0 : Fin 1) q n) =
      at_ m c t ⟨16 * q.val + n.val / 512, by omega⟩ ⟨pair 2 n.val, pair_lt 2 _ (by decide)⟩ := by
  unfold outsAt0
  frame_out
  refine View.canon_eq_of_allAt _ _ _ (View.cover_of_tiled_head _ _ _ rfl _) ?_
  refine View.allAt_cons_unit _ _ _ _ _ (class16_hi _ _ _ _ 2048 _ _ _ _ _ _ _ _ _ _ (by intro l hl hn; dsimp only [pair] at hn ⊢; omega)) ?_
  refine View.allAt_cons_unit _ _ _ _ _ (class16_hi _ _ _ _ 2048 _ _ _ _ _ _ _ _ _ _ (by intro l hl hn; dsimp only [pair] at hn ⊢; omega)) ?_
  refine View.allAt_cons_unit _ _ _ _ _ (class16_hi _ _ _ _ 2048 _ _ _ _ _ _ _ _ _ _ (by intro l hl hn; dsimp only [pair] at hn ⊢; omega)) ?_
  refine View.allAt_cons_unit _ _ _ _ _ (class16_hi _ _ _ _ 2048 _ _ _ _ _ _ _ _ _ _ (by intro l hl hn; dsimp only [pair] at hn ⊢; omega)) ?_
  refine View.allAt_cons_unit _ _ _ _ _ (class16_hi _ _ _ _ 2048 _ _ _ _ _ _ _ _ _ _ (by intro l hl hn; dsimp only [pair] at hn ⊢; omega)) ?_
  refine View.allAt_cons_unit _ _ _ _ _ (class16_hi _ _ _ _ 2048 _ _ _ _ _ _ _ _ _ _ (by intro l hl hn; dsimp only [pair] at hn ⊢; omega)) ?_
  refine View.allAt_cons_unit _ _ _ _ _ (class16_hi _ _ _ _ 2048 _ _ _ _ _ _ _ _ _ _ (by intro l hl hn; dsimp only [pair] at hn ⊢; omega)) ?_
  refine View.allAt_cons_unit _ _ _ _ _ (class16_hi _ _ _ _ 2048 _ _ _ _ _ _ _ _ _ _ (by intro l hl hn; dsimp only [pair] at hn ⊢; omega)) ?_
  refine View.allAt_cons_unit _ _ _ _ _ (class16_hi _ _ _ _ 2048 _ _ _ _ _ _ _ _ _ _ (by intro l hl hn; dsimp only [pair] at hn ⊢; omega)) ?_
  refine View.allAt_cons_unit _ _ _ _ _ (class16_hi _ _ _ _ 2048 _ _ _ _ _ _ _ _ _ _ (by intro l hl hn; dsimp only [pair] at hn ⊢; omega)) ?_
  refine View.allAt_cons_unit _ _ _ _ _ (class16_hi _ _ _ _ 2048 _ _ _ _ _ _ _ _ _ _ (by intro l hl hn; dsimp only [pair] at hn ⊢; omega)) ?_
  refine View.allAt_cons_unit _ _ _ _ _ (class16_hi _ _ _ _ 2048 _ _ _ _ _ _ _ _ _ _ (by intro l hl hn; dsimp only [pair] at hn ⊢; omega)) ?_
  refine View.allAt_cons_unit _ _ _ _ _ (class16_hi _ _ _ _ 2048 _ _ _ _ _ _ _ _ _ _ (by intro l hl hn; dsimp only [pair] at hn ⊢; omega)) ?_
  refine View.allAt_cons_unit _ _ _ _ _ (class16_hi _ _ _ _ 2048 _ _ _ _ _ _ _ _ _ _ (by intro l hl hn; dsimp only [pair] at hn ⊢; omega)) ?_
  refine View.allAt_cons_unit _ _ _ _ _ (class16_hi _ _ _ _ 2048 _ _ _ _ _ _ _ _ _ _ (by intro l hl hn; dsimp only [pair] at hn ⊢; omega)) ?_
  refine View.allAt_cons_unit _ _ _ _ _ (class16_hi _ _ _ _ 2048 _ _ _ _ _ _ _ _ _ _ (by intro l hl hn; dsimp only [pair] at hn ⊢; omega)) ?_
  refine View.allAt_cons_unit _ _ _ _ _ (class16_lo _ _ _ _ 2048 _ _ _ _ _ _ _ _ _ _ (by intro l hl hn; dsimp only [pair] at hn ⊢; omega)) ?_
  refine View.allAt_cons_unit _ _ _ _ _ (class16_lo _ _ _ _ 2048 _ _ _ _ _ _ _ _ _ _ (by intro l hl hn; dsimp only [pair] at hn ⊢; omega)) ?_
  refine View.allAt_cons_unit _ _ _ _ _ (class16_lo _ _ _ _ 2048 _ _ _ _ _ _ _ _ _ _ (by intro l hl hn; dsimp only [pair] at hn ⊢; omega)) ?_
  refine View.allAt_cons_unit _ _ _ _ _ (class16_lo _ _ _ _ 2048 _ _ _ _ _ _ _ _ _ _ (by intro l hl hn; dsimp only [pair] at hn ⊢; omega)) ?_
  refine View.allAt_cons_unit _ _ _ _ _ (class16_lo _ _ _ _ 2048 _ _ _ _ _ _ _ _ _ _ (by intro l hl hn; dsimp only [pair] at hn ⊢; omega)) ?_
  refine View.allAt_cons_unit _ _ _ _ _ (class16_lo _ _ _ _ 2048 _ _ _ _ _ _ _ _ _ _ (by intro l hl hn; dsimp only [pair] at hn ⊢; omega)) ?_
  refine View.allAt_cons_unit _ _ _ _ _ (class16_lo _ _ _ _ 2048 _ _ _ _ _ _ _ _ _ _ (by intro l hl hn; dsimp only [pair] at hn ⊢; omega)) ?_
  refine View.allAt_cons_unit _ _ _ _ _ (class16_lo _ _ _ _ 2048 _ _ _ _ _ _ _ _ _ _ (by intro l hl hn; dsimp only [pair] at hn ⊢; omega)) ?_
  refine View.allAt_cons_unit _ _ _ _ _ (class16_lo _ _ _ _ 2048 _ _ _ _ _ _ _ _ _ _ (by intro l hl hn; dsimp only [pair] at hn ⊢; omega)) ?_
  refine View.allAt_cons_unit _ _ _ _ _ (class16_lo _ _ _ _ 2048 _ _ _ _ _ _ _ _ _ _ (by intro l hl hn; dsimp only [pair] at hn ⊢; omega)) ?_
  refine View.allAt_cons_unit _ _ _ _ _ (class16_lo _ _ _ _ 2048 _ _ _ _ _ _ _ _ _ _ (by intro l hl hn; dsimp only [pair] at hn ⊢; omega)) ?_
  refine View.allAt_cons_unit _ _ _ _ _ (class16_lo _ _ _ _ 2048 _ _ _ _ _ _ _ _ _ _ (by intro l hl hn; dsimp only [pair] at hn ⊢; omega)) ?_
  refine View.allAt_cons_unit _ _ _ _ _ (class16_lo _ _ _ _ 2048 _ _ _ _ _ _ _ _ _ _ (by intro l hl hn; dsimp only [pair] at hn ⊢; omega)) ?_
  refine View.allAt_cons_unit _ _ _ _ _ (class16_lo _ _ _ _ 2048 _ _ _ _ _ _ _ _ _ _ (by intro l hl hn; dsimp only [pair] at hn ⊢; omega)) ?_
  refine View.allAt_cons_unit _ _ _ _ _ (class16_lo _ _ _ _ 2048 _ _ _ _ _ _ _ _ _ _ (by intro l hl hn; dsimp only [pair] at hn ⊢; omega)) ?_
  refine View.allAt_cons_unit _ _ _ _ _ (class16_lo _ _ _ _ 2048 _ _ _ _ _ _ _ _ _ _ (by intro l hl hn; dsimp only [pair] at hn ⊢; omega)) ?_
  refine View.allAt_cons_unit _ _ _ _ _ (class16_hi _ _ _ _ 1280 _ _ _ _ _ _ _ _ _ _ (by intro l hl hn; dsimp only [pair] at hn ⊢; omega)) ?_
  refine View.allAt_cons_unit _ _ _ _ _ (class16_hi _ _ _ _ 1280 _ _ _ _ _ _ _ _ _ _ (by intro l hl hn; dsimp only [pair] at hn ⊢; omega)) ?_
  refine View.allAt_cons_unit _ _ _ _ _ (class16_hi _ _ _ _ 1280 _ _ _ _ _ _ _ _ _ _ (by intro l hl hn; dsimp only [pair] at hn ⊢; omega)) ?_
  refine View.allAt_cons_unit _ _ _ _ _ (class16_hi _ _ _ _ 1280 _ _ _ _ _ _ _ _ _ _ (by intro l hl hn; dsimp only [pair] at hn ⊢; omega)) ?_
  refine View.allAt_cons_unit _ _ _ _ _ (class16_hi _ _ _ _ 1280 _ _ _ _ _ _ _ _ _ _ (by intro l hl hn; dsimp only [pair] at hn ⊢; omega)) ?_
  refine View.allAt_cons_unit _ _ _ _ _ (class16_hi _ _ _ _ 1280 _ _ _ _ _ _ _ _ _ _ (by intro l hl hn; dsimp only [pair] at hn ⊢; omega)) ?_
  refine View.allAt_cons_unit _ _ _ _ _ (class16_hi _ _ _ _ 1280 _ _ _ _ _ _ _ _ _ _ (by intro l hl hn; dsimp only [pair] at hn ⊢; omega)) ?_
  refine View.allAt_cons_unit _ _ _ _ _ (class16_hi _ _ _ _ 1280 _ _ _ _ _ _ _ _ _ _ (by intro l hl hn; dsimp only [pair] at hn ⊢; omega)) ?_
  refine View.allAt_cons_unit _ _ _ _ _ (class16_hi _ _ _ _ 1280 _ _ _ _ _ _ _ _ _ _ (by intro l hl hn; dsimp only [pair] at hn ⊢; omega)) ?_
  refine View.allAt_cons_unit _ _ _ _ _ (class16_hi _ _ _ _ 1280 _ _ _ _ _ _ _ _ _ _ (by intro l hl hn; dsimp only [pair] at hn ⊢; omega)) ?_
  refine View.allAt_cons_unit _ _ _ _ _ (class16_hi _ _ _ _ 1280 _ _ _ _ _ _ _ _ _ _ (by intro l hl hn; dsimp only [pair] at hn ⊢; omega)) ?_
  refine View.allAt_cons_unit _ _ _ _ _ (class16_hi _ _ _ _ 1280 _ _ _ _ _ _ _ _ _ _ (by intro l hl hn; dsimp only [pair] at hn ⊢; omega)) ?_
  refine View.allAt_cons_unit _ _ _ _ _ (class16_hi _ _ _ _ 1280 _ _ _ _ _ _ _ _ _ _ (by intro l hl hn; dsimp only [pair] at hn ⊢; omega)) ?_
  refine View.allAt_cons_unit _ _ _ _ _ (class16_hi _ _ _ _ 1280 _ _ _ _ _ _ _ _ _ _ (by intro l hl hn; dsimp only [pair] at hn ⊢; omega)) ?_
  refine View.allAt_cons_unit _ _ _ _ _ (class16_hi _ _ _ _ 1280 _ _ _ _ _ _ _ _ _ _ (by intro l hl hn; dsimp only [pair] at hn ⊢; omega)) ?_
  refine View.allAt_cons_unit _ _ _ _ _ (class16_hi _ _ _ _ 1280 _ _ _ _ _ _ _ _ _ _ (by intro l hl hn; dsimp only [pair] at hn ⊢; omega)) ?_
  refine View.allAt_cons_unit _ _ _ _ _ (class16_lo _ _ _ _ 1280 _ _ _ _ _ _ _ _ _ _ (by intro l hl hn; dsimp only [pair] at hn ⊢; omega)) ?_
  refine View.allAt_cons_unit _ _ _ _ _ (class16_lo _ _ _ _ 1280 _ _ _ _ _ _ _ _ _ _ (by intro l hl hn; dsimp only [pair] at hn ⊢; omega)) ?_
  refine View.allAt_cons_unit _ _ _ _ _ (class16_lo _ _ _ _ 1280 _ _ _ _ _ _ _ _ _ _ (by intro l hl hn; dsimp only [pair] at hn ⊢; omega)) ?_
  refine View.allAt_cons_unit _ _ _ _ _ (class16_lo _ _ _ _ 1280 _ _ _ _ _ _ _ _ _ _ (by intro l hl hn; dsimp only [pair] at hn ⊢; omega)) ?_
  refine View.allAt_cons_unit _ _ _ _ _ (class16_lo _ _ _ _ 1280 _ _ _ _ _ _ _ _ _ _ (by intro l hl hn; dsimp only [pair] at hn ⊢; omega)) ?_
  refine View.allAt_cons_unit _ _ _ _ _ (class16_lo _ _ _ _ 1280 _ _ _ _ _ _ _ _ _ _ (by intro l hl hn; dsimp only [pair] at hn ⊢; omega)) ?_
  refine View.allAt_cons_unit _ _ _ _ _ (class16_lo _ _ _ _ 1280 _ _ _ _ _ _ _ _ _ _ (by intro l hl hn; dsimp only [pair] at hn ⊢; omega)) ?_
  refine View.allAt_cons_unit _ _ _ _ _ (class16_lo _ _ _ _ 1280 _ _ _ _ _ _ _ _ _ _ (by intro l hl hn; dsimp only [pair] at hn ⊢; omega)) ?_
  refine View.allAt_cons_unit _ _ _ _ _ (class16_lo _ _ _ _ 1280 _ _ _ _ _ _ _ _ _ _ (by intro l hl hn; dsimp only [pair] at hn ⊢; omega)) ?_
  refine View.allAt_cons_unit _ _ _ _ _ (class16_lo _ _ _ _ 1280 _ _ _ _ _ _ _ _ _ _ (by intro l hl hn; dsimp only [pair] at hn ⊢; omega)) ?_
  refine View.allAt_cons_unit _ _ _ _ _ (class16_lo _ _ _ _ 1280 _ _ _ _ _ _ _ _ _ _ (by intro l hl hn; dsimp only [pair] at hn ⊢; omega)) ?_
  refine View.allAt_cons_unit _ _ _ _ _ (class16_lo _ _ _ _ 1280 _ _ _ _ _ _ _ _ _ _ (by intro l hl hn; dsimp only [pair] at hn ⊢; omega)) ?_
  refine View.allAt_cons_unit _ _ _ _ _ (class16_lo _ _ _ _ 1280 _ _ _ _ _ _ _ _ _ _ (by intro l hl hn; dsimp only [pair] at hn ⊢; omega)) ?_
  refine View.allAt_cons_unit _ _ _ _ _ (class16_lo _ _ _ _ 1280 _ _ _ _ _ _ _ _ _ _ (by intro l hl hn; dsimp only [pair] at hn ⊢; omega)) ?_
  refine View.allAt_cons_unit _ _ _ _ _ (class16_lo _ _ _ _ 1280 _ _ _ _ _ _ _ _ _ _ (by intro l hl hn; dsimp only [pair] at hn ⊢; omega)) ?_
  refine View.allAt_cons_unit _ _ _ _ _ (class16_lo _ _ _ _ 1280 _ _ _ _ _ _ _ _ _ _ (by intro l hl hn; dsimp only [pair] at hn ⊢; omega)) ?_
  exact View.allAt_nil _ _

end Cert.Proof.Grouped

end
-- ==== Proof.GroupedRun.lean ====
/- The first layer's projection at the prompt: what the run leaves in every result. -/
module

public import proofs.«01_k».proof.Proof.Entry
public import proofs.«01_k».proof.Proof.Grouped
public import Idealize.ShloMosaic.Lib.StableHlo.ReadAt

@[expose] public section

set_option maxRecDepth 16384

noncomputable section

namespace Cert.Proof.Grouped

open Idealize.ShloMosaic Idealize.ShloMosaic.TcCoe Idealize.ShloMosaic.Tactic Idealize.SL.Sem
open Cert.Kernel2Ideal Cert.Kernel2Ideal.Gen

variable (m : (ℓ : Loc nD τ sig) → Buf (Elt Ideal) ℓ) (ρ : Dev nD → PrngReg)

/-- The rows in one list. -/
def rows (x : (⟨S8x2048x1024, .f32⟩ : BufTy).Contents (Elt Ideal)) : (⟨S16384x1024, .f32⟩ : BufTy).Contents (Elt Ideal) :=
  shapeCast S16384x1024 x shapeCasts_S8x2048x1024_S16384x1024

/-- The first layer's scales. -/
def scales (g : (⟨S2x1024, .f32⟩ : BufTy).Contents (Elt Ideal)) : (⟨S1x1024, .f32⟩ : BufTy).Contents (Elt Ideal) :=
  shapeCast S1x1024 (shapeCast S1024 (extractStridedSlice S1x1024 ![0, 0] g slices_S2x1024_S1x1024_0_0) shapeCasts_S1x1024_S1024)
    shapeCasts_S1024_S1x1024

/-- The weights. -/
def weights (w : (⟨S1x1024x3072, .f32⟩ : BufTy).Contents (Elt Ideal)) : (⟨S1024x3072, .bf16⟩ : BufTy).Contents (Elt Ideal) :=
  truncf (F := Ideal) .bf16 (shapeCast S1024x3072 w shapeCasts_S1x1024x3072_S1024x3072) bitsLt_bf16_f32

theorem rows_apply (x : (⟨S8x2048x1024, .f32⟩ : BufTy).Contents (Elt Ideal)) (r : Fin 16384) (k : Fin 1024) :
    rows x (ix2 r k) = x (ix3 (⟨r.val / 2048, by omega⟩ : Fin 8) (⟨r.val % 2048, by omega⟩ : Fin 2048) k) := by
  unfold rows
  pointwise

theorem scales_apply (g : (⟨S2x1024, .f32⟩ : BufTy).Contents (Elt Ideal)) (k : Fin 1024) :
    scales g (ix2 0 k) = g (ix2 0 k) := by
  unfold scales
  pointwise

theorem weights_apply (w : (⟨S1x1024x3072, .f32⟩ : BufTy).Contents (Elt Ideal)) (k : Fin 1024) (j : Fin 3072) :
    weights w (ix2 k j) = w (ix3 0 k j) := by
  unfold weights
  pointwise

def point (t : Fin cfg0.N) : Fin 32 := ⟨(grid0.coords t 0).val, (grid0.coords t 0).isLt⟩

/-- The batch of a point of the grid, and the tile of 512 rows in it. -/
def batch (t : Fin cfg0.N) : Fin 8 := ⟨(point t).val / 4, by omega⟩
def tile (t : Fin cfg0.N) : Fin 4 := ⟨(point t).val % 4, by omega⟩

theorem point_eq (t : Fin cfg0.N) : (point t).val = 4 * (batch t).val + (tile t).val := by
  show (point t).val = 4 * ((point t).val / 4) + (point t).val % 4
  omega

theorem index0 : ∀ t : Fin cfg0.N, win0_0.index t = ![(point t).val, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![(point t).val, 0] := by decide +kernel
theorem index4 : ∀ t : Fin cfg0.N, win0_4.index t = ![(batch t).val, (tile t).val, 0] := by decide +kernel
theorem index5 : ∀ t : Fin cfg0.N, win0_5.index t = ![(batch t).val, (tile t).val, 0] := by decide +kernel
theorem index6 : ∀ t : Fin cfg0.N, win0_6.index t = ![(point t).val, 0] := by decide +kernel
theorem index7 : ∀ t : Fin cfg0.N, win0_7.index t = ![(batch t).val, (tile t).val, 0] := by decide +kernel
theorem index8 : ∀ t : Fin cfg0.N, win0_8.index t = ![(batch t).val, (tile t).val, 0] := by decide +kernel
theorem index9 : ∀ t : Fin cfg0.N, win0_9.index t = ![(point t).val, 0] := by decide +kernel
theorem index10 : ∀ t : Fin cfg0.N, win0_10.index t = ![(point t).val, 0] := by decide +kernel
theorem index11 : ∀ t : Fin cfg0.N, win0_11.index t = ![(batch t).val, 0, (tile t).val] := by decide +kernel
theorem index12 : ∀ t : Fin cfg0.N, win0_12.index t = ![(batch t).val, 0, (tile t).val] := by decide +kernel
theorem index13 : ∀ t : Fin cfg0.N, win0_13.index t = ![(batch t).val, 0, (tile t).val] := by decide +kernel

theorem block0 (c : Dev nD) (t : Fin cfg0.N) (r : Fin 512) (k : Fin 1024) :
    iblk m c 0 t (ix2 r k) = rows (m (c.tc.loc main_arg0)) (ix2 (⟨512 * (point t).val + r.val, by omega⟩ : Fin 16384) k) := by
  have e : V m c main_v0 = rows (m (c.tc.loc main_arg0)) := rfl
  rw [← e]
  blk_simp [iblk]
  refine congrArg (V m c main_v0) ?_
  blk_ext [index0]

theorem block1 (c : Dev nD) (t : Fin cfg0.N) (k : Fin 1024) :
    iblk m c 1 t (ix2 (0 : Fin 1) k) = m (c.tc.loc main_arg1) (ix2 0 k) := by
  have e : V m c main_v4 = scales (m (c.tc.loc main_arg1)) := rfl
  rw [← scales_apply (m (c.tc.loc main_arg1)), ← e]
  blk_simp [iblk]
  refine congrArg (V m c main_v4) ?_
  blk_ext [index1]

theorem block2 (c : Dev nD) (t : Fin cfg0.N) (k : Fin 1024) (j : Fin 3072) :
    iblk m c 2 t (ix2 k j) = m (c.tc.loc main_arg2) (ix3 0 k j) := by
  have e : V m c main_v5 = weights (m (c.tc.loc main_arg2)) := rfl
  rw [← weights_apply (m (c.tc.loc main_arg2)), ← e]
  blk_simp [iblk]
  refine congrArg (V m c main_v5) ?_
  blk_ext [index2]

/-- A point's row against a column, as the entry of its batch and row there. -/
theorem at_eq (c : Dev nD) (t : Fin cfg0.N) (r : Fin 512) (j : Fin 3072) (b : Fin 8) (s : Fin 2048) (j' : Fin 3072)
    (hb : b.val = (batch t).val) (hs : s.val = 512 * (tile t).val + r.val) (hj : j.val = j'.val) :
    at_ m c t r j = Entry.entry (m (c.tc.loc main_arg0)) (m (c.tc.loc main_arg1)) (m (c.tc.loc main_arg2)) b s j' := by
  have hp := point_eq t
  have ht : (tile t).val < 4 := (tile t).isLt
  have hr : r.val < 512 := r.isLt
  have e : ∀ k : Fin 1024, iblk m c 0 t (ix2 r k) = m (c.tc.loc main_arg0) (ix3 b s k) := fun k => by
    refine (block0 m c t r k).trans ((rows_apply _ _ k).trans ?_)
    rw [show (⟨(512 * (point t).val + r.val) / 2048, by omega⟩ : Fin 8) = b from Fin.ext (by show (512 * (point t).val + r.val) / 2048 = b.val; omega),
      show (⟨(512 * (point t).val + r.val) % 2048, by omega⟩ : Fin 2048) = s from Fin.ext (by show (512 * (point t).val + r.val) % 2048 = s.val; omega)]
  rw [Fin.ext hj]
  unfold at_ proj Entry.entry
  exact Norm.column_congr e (fun k => block1 m c t k) (fun k => block2 m c t k j')

theorem array3 (c : Dev nD) : (dats m 0 c).arrAt 3 cfg0.N = Entry.res3 (m (c.tc.loc main_arg0)) (m (c.tc.loc main_arg1)) (m (c.tc.loc main_arg2)) := by
  refine (dats m 0 c).arrAt_eq_of_covers 3 _ (by decide +kernel) fun t hf y => ?_
  rw [after0_3]
  blk_simp [index3]
  have hp := point_eq t
  have ht : (tile t).val < 4 := (tile t).isLt
  have b0 : (y 0).val < 512 := (y 0).isLt
  have b1 : (y 1).val < 256 := (y 1).isLt
  refine (congrArg (outsAt0 m c t).1 (eq_ix2 (n0 := 512) (n1 := 256) y)).trans ((out3 m c t (y 0) (y 1)).trans ?_)
  have e : (win0_3.blk t).view.emb y = ix2 (n0 := 16384) (n1 := 256) ⟨512 * (point t).val + (y 0).val, by omega⟩ (y 1) := by
    blk_ext [index3]
  rw [e]
  refine at_eq m c t _ _ _ _ _ ?_ ?_ ?_
  · show (512 * (point t).val + (y 0).val) / 2048 = (batch t).val
    omega
  · show (512 * (point t).val + (y 0).val) % 2048 = 512 * (tile t).val + (y 0).val
    omega
  · rfl

theorem array4 (c : Dev nD) : (dats m 0 c).arrAt 4 cfg0.N = Entry.res4 (m (c.tc.loc main_arg0)) (m (c.tc.loc main_arg1)) (m (c.tc.loc main_arg2)) := by
  refine (dats m 0 c).arrAt_eq_of_covers 4 _ (by decide +kernel) fun t hf y => ?_
  rw [after0_4]
  blk_simp [index4]
  have hp := point_eq t
  have ht : (tile t).val < 4 := (tile t).isLt
  have b0 : (y 0).val < 1 := (y 0).isLt
  have b1 : (y 1).val < 128 := (y 1).isLt
  have b2 : (y 2).val < 1024 := (y 2).isLt
  have e0 : y = ix3 (n0 := 1) (n1 := 128) (n2 := 1024) 0 (y 1) (y 2) := by
    funext a
    match a with
    | 0 => exact Fin.ext (by show (y 0).val = 0; omega)
    | 1 => rfl
    | 2 => rfl
  refine (congrArg (outsAt0 m c t).2.1 e0).trans ((out4 m c t (y 1) (y 2)).trans ?_)
  have e : (win0_4.blk t).view.emb y = ix3 (n0 := 8) (n1 := 512) (n2 := 1024) (batch t) ⟨128 * (tile t).val + (y 1).val, by omega⟩ (y 2) := by
    blk_ext [index4]
  rw [e]
  refine at_eq m c t _ _ _ _ _ rfl ?_ rfl
  show 4 * (128 * (tile t).val + (y 1).val) + (y 2).val / 256 = 512 * (tile t).val + (4 * (y 1).val + (y 2).val / 256)
  omega

theorem array5 (c : Dev nD) : (dats m 0 c).arrAt 5 cfg0.N = Entry.res5 (m (c.tc.loc main_arg0)) (m (c.tc.loc main_arg1)) (m (c.tc.loc main_arg2)) := by
  refine (dats m 0 c).arrAt_eq_of_covers 5 _ (by decide +kernel) fun t hf y => ?_
  rw [after0_5]
  blk_simp [index5]
  have hp := point_eq t
  have ht : (tile t).val < 4 := (tile t).isLt
  have b0 : (y 0).val < 1 := (y 0).isLt
  have b1 : (y 1).val < 32 := (y 1).isLt
  have b2 : (y 2).val < 4096 := (y 2).isLt
  have e0 : y = ix3 (n0 := 1) (n1 := 32) (n2 := 4096) 0 (y 1) (y 2) := by
    funext a
    match a with
    | 0 => exact Fin.ext (by show (y 0).val = 0; omega)
    | 1 => rfl
    | 2 => rfl
  refine (congrArg (outsAt0 m c t).2.2.1 e0).trans ((out5 m c t (y 1) (y 2)).trans ?_)
  have e : (win0_5.blk t).view.emb y = ix3 (n0 := 8) (n1 := 128) (n2 := 4096) (batch t) ⟨32 * (tile t).val + (y 1).val, by omega⟩ (y 2) := by
    blk_ext [index5]
  rw [e]
  refine at_eq m c t _ _ _ _ _ rfl ?_ rfl
  show 16 * (32 * (tile t).val + (y 1).val) + (y 2).val / 256 = 512 * (tile t).val + (16 * (y 1).val + (y 2).val / 256)
  omega

theorem array6 (c : Dev nD) : (dats m 0 c).arrAt 6 cfg0.N = Entry.res6 (m (c.tc.loc main_arg0)) (m (c.tc.loc main_arg1)) (m (c.tc.loc main_arg2)) := by
  refine (dats m 0 c).arrAt_eq_of_covers 6 _ (by decide +kernel) fun t hf y => ?_
  rw [after0_6]
  blk_simp [index6]
  have hp := point_eq t
  have ht : (tile t).val < 4 := (tile t).isLt
  have b0 : (y 0).val < 512 := (y 0).isLt
  have b1 : (y 1).val < 512 := (y 1).isLt
  refine (congrArg (outsAt0 m c t).2.2.2.1 (eq_ix2 (n0 := 512) (n1 := 512) y)).trans ((out6 m c t (y 0) (y 1)).trans ?_)
  have e : (win0_6.blk t).view.emb y = ix2 (n0 := 16384) (n1 := 512) ⟨512 * (point t).val + (y 0).val, by omega⟩ (y 1) := by
    blk_ext [index6]
  rw [e]
  refine at_eq m c t _ _ _ _ _ ?_ ?_ ?_
  · show (512 * (point t).val + (y 0).val) / 2048 = (batch t).val
    omega
  · show (512 * (point t).val + (y 0).val) % 2048 = 512 * (tile t).val + (y 0).val
    omega
  · rfl

theorem array7 (c : Dev nD) : (dats m 0 c).arrAt 7 cfg0.N = Entry.res7 (m (c.tc.loc main_arg0)) (m (c.tc.loc main_arg1)) (m (c.tc.loc main_arg2)) := by
  refine (dats m 0 c).arrAt_eq_of_covers 7 _ (by decide +kernel) fun t hf y => ?_
  rw [after0_7]
  blk_simp [index7]
  have hp := point_eq t
  have ht : (tile t).val < 4 := (tile t).isLt
  have b0 : (y 0).val < 1 := (y 0).isLt
  have b1 : (y 1).val < 128 := (y 1).isLt
  have b2 : (y 2).val < 2048 := (y 2).isLt
  have e0 : y = ix3 (n0 := 1) (n1 := 128) (n2 := 2048) 0 (y 1) (y 2) := by
    funext a
    match a with
    | 0 => exact Fin.ext (by show (y 0).val = 0; omega)
    | 1 => rfl
    | 2 => rfl
  refine (congrArg (outsAt0 m c t).2.2.2.2.1 e0).trans ((out7 m c t (y 1) (y 2)).trans ?_)
  have e : (win0_7.blk t).view.emb y = ix3 (n0 := 8) (n1 := 512) (n2 := 2048) (batch t) ⟨128 * (tile t).val + (y 1).val, by omega⟩ (y 2) := by
    blk_ext [index7]
  rw [e]
  refine at_eq m c t _ _ _ _ _ rfl ?_ rfl
  show 4 * (128 * (tile t).val + (y 1).val) + (y 2).val / 512 = 512 * (tile t).val + (4 * (y 1).val + (y 2).val / 512)
  omega

theorem array8 (c : Dev nD) : (dats m 0 c).arrAt 8 cfg0.N = Entry.res8 (m (c.tc.loc main_arg0)) (m (c.tc.loc main_arg1)) (m (c.tc.loc main_arg2)) := by
  refine (dats m 0 c).arrAt_eq_of_covers 8 _ (by decide +kernel) fun t hf y => ?_
  rw [after0_8]
  blk_simp [index8]
  have hp := point_eq t
  have ht : (tile t).val < 4 := (tile t).isLt
  have b0 : (y 0).val < 1 := (y 0).isLt
  have b1 : (y 1).val < 32 := (y 1).isLt
  have b2 : (y 2).val < 8192 := (y 2).isLt
  have e0 : y = ix3 (n0 := 1) (n1 := 32) (n2 := 8192) 0 (y 1) (y 2) := by
    funext a
    match a with
    | 0 => exact Fin.ext (by show (y 0).val = 0; omega)
    | 1 => rfl
    | 2 => rfl
  refine (congrArg (outsAt0 m c t).2.2.2.2.2.1 e0).trans ((out8 m c t (y 1) (y 2)).trans ?_)
  have e : (win0_8.blk t).view.emb y = ix3 (n0 := 8) (n1 := 128) (n2 := 8192) (batch t) ⟨32 * (tile t).val + (y 1).val, by omega⟩ (y 2) := by
    blk_ext [index8]
  rw [e]
  refine at_eq m c t _ _ _ _ _ rfl ?_ rfl
  show 16 * (32 * (tile t).val + (y 1).val) + (y 2).val / 512 = 512 * (tile t).val + (16 * (y 1).val + (y 2).val / 512)
  omega

theorem array9 (c : Dev nD) : (dats m 0 c).arrAt 9 cfg0.N = Entry.res9 (m (c.tc.loc main_arg0)) (m (c.tc.loc main_arg1)) (m (c.tc.loc main_arg2)) := by
  refine (dats m 0 c).arrAt_eq_of_covers 9 _ (by decide +kernel) fun t hf y => ?_
  rw [after0_9]
  blk_simp [index9]
  have hp := point_eq t
  have ht : (tile t).val < 4 := (tile t).isLt
  have b0 : (y 0).val < 512 := (y 0).isLt
  have b1 : (y 1).val < 256 := (y 1).isLt
  refine (congrArg (outsAt0 m c t).2.2.2.2.2.2.1 (eq_ix2 (n0 := 512) (n1 := 256) y)).trans ((out9 m c t (y 0) (y 1)).trans ?_)
  have e : (win0_9.blk t).view.emb y = ix2 (n0 := 16384) (n1 := 256) ⟨512 * (point t).val + (y 0).val, by omega⟩ (y 1) := by
    blk_ext [index9]
  rw [e]
  refine at_eq m c t _ _ _ _ _ ?_ ?_ ?_
  · show (512 * (point t).val + (y 0).val) / 2048 = (batch t).val
    omega
  · show (512 * (point t).val + (y 0).val) % 2048 = 512 * (tile t).val + (y 0).val
    omega
  · rfl

theorem array10 (c : Dev nD) : (dats m 0 c).arrAt 10 cfg0.N = Entry.res10 (m (c.tc.loc main_arg0)) (m (c.tc.loc main_arg1)) (m (c.tc.loc main_arg2)) := by
  refine (dats m 0 c).arrAt_eq_of_covers 10 _ (by decide +kernel) fun t hf y => ?_
  rw [after0_10]
  blk_simp [index10]
  have hp := point_eq t
  have ht : (tile t).val < 4 := (tile t).isLt
  have b0 : (y 0).val < 512 := (y 0).isLt
  have b1 : (y 1).val < 512 := (y 1).isLt
  refine (congrArg (outsAt0 m c t).2.2.2.2.2.2.2.1 (eq_ix2 (n0 := 512) (n1 := 512) y)).trans ((out10 m c t (y 0) (y 1)).trans ?_)
  have e : (win0_10.blk t).view.emb y = ix2 (n0 := 16384) (n1 := 512) ⟨512 * (point t).val + (y 0).val, by omega⟩ (y 1) := by
    blk_ext [index10]
  rw [e]
  refine at_eq m c t _ _ _ _ _ ?_ ?_ ?_
  · show (512 * (point t).val + (y 0).val) / 2048 = (batch t).val
    omega
  · show (512 * (point t).val + (y 0).val) % 2048 = 512 * (tile t).val + (y 0).val
    omega
  · rfl

theorem array11 (c : Dev nD) : (dats m 0 c).arrAt 11 cfg0.N = Entry.res11 (m (c.tc.loc main_arg0)) (m (c.tc.loc main_arg1)) (m (c.tc.loc main_arg2)) := by
  refine (dats m 0 c).arrAt_eq_of_covers 11 _ (by decide +kernel) fun t hf y => ?_
  rw [after0_11]
  blk_simp [index11]
  have hp := point_eq t
  have ht : (tile t).val < 4 := (tile t).isLt
  have b0 : (y 0).val < 1 := (y 0).isLt
  have b1 : (y 1).val < 512 := (y 1).isLt
  have b2 : (y 2).val < 512 := (y 2).isLt
  have e0 : y = ix3 (n0 := 1) (n1 := 512) (n2 := 512) 0 (y 1) (y 2) := by
    funext a
    match a with
    | 0 => exact Fin.ext (by show (y 0).val = 0; omega)
    | 1 => rfl
    | 2 => rfl
  refine (congrArg (outsAt0 m c t).2.2.2.2.2.2.2.2.1 e0).trans ((out11 m c t (y 1) (y 2)).trans ?_)
  have e : (win0_11.blk t).view.emb y = ix3 (n0 := 8) (n1 := 512) (n2 := 2048) (batch t) (y 1) ⟨512 * (tile t).val + (y 2).val, by omega⟩ := by
    blk_ext [index11]
  rw [e]
  exact at_eq m c t _ _ _ _ _ rfl rfl rfl

theorem array12 (c : Dev nD) : (dats m 0 c).arrAt 12 cfg0.N = Entry.res12 (m (c.tc.loc main_arg0)) (m (c.tc.loc main_arg1)) (m (c.tc.loc main_arg2)) := by
  refine (dats m 0 c).arrAt_eq_of_covers 12 _ (by decide +kernel) fun t hf y => ?_
  rw [after0_12]
  blk_simp [index12]
  have hp := point_eq t
  have ht : (tile t).val < 4 := (tile t).isLt
  have b0 : (y 0).val < 1 := (y 0).isLt
  have b1 : (y 1).val < 512 := (y 1).isLt
  have b2 : (y 2).val < 512 := (y 2).isLt
  have e0 : y = ix3 (n0 := 1) (n1 := 512) (n2 := 512) 0 (y 1) (y 2) := by
    funext a
    match a with
    | 0 => exact Fin.ext (by show (y 0).val = 0; omega)
    | 1 => rfl
    | 2 => rfl
  refine (congrArg (outsAt0 m c t).2.2.2.2.2.2.2.2.2.1 e0).trans ((out12 m c t (y 1) (y 2)).trans ?_)
  have e : (win0_12.blk t).view.emb y = ix3 (n0 := 8) (n1 := 512) (n2 := 2048) (batch t) (y 1) ⟨512 * (tile t).val + (y 2).val, by omega⟩ := by
    blk_ext [index12]
  rw [e]
  exact at_eq m c t _ _ _ _ _ rfl rfl rfl

theorem array13 (c : Dev nD) : (dats m 0 c).arrAt 13 cfg0.N = Entry.res13 (m (c.tc.loc main_arg0)) (m (c.tc.loc main_arg1)) (m (c.tc.loc main_arg2)) := by
  refine (dats m 0 c).arrAt_eq_of_covers 13 _ (by decide +kernel) fun t hf y => ?_
  rw [after0_13]
  blk_simp [index13]
  have hp := point_eq t
  have ht : (tile t).val < 4 := (tile t).isLt
  have b0 : (y 0).val < 1 := (y 0).isLt
  have b1 : (y 1).val < 512 := (y 1).isLt
  have b2 : (y 2).val < 512 := (y 2).isLt
  have e0 : y = ix3 (n0 := 1) (n1 := 512) (n2 := 512) 0 (y 1) (y 2) := by
    funext a
    match a with
    | 0 => exact Fin.ext (by show (y 0).val = 0; omega)
    | 1 => rfl
    | 2 => rfl
  refine (congrArg (outsAt0 m c t).2.2.2.2.2.2.2.2.2.2 e0).trans ((out13 m c t (y 1) (y 2)).trans ?_)
  have e : (win0_13.blk t).view.emb y = ix3 (n0 := 8) (n1 := 512) (n2 := 2048) (batch t) (y 1) ⟨512 * (tile t).val + (y 2).val, by omega⟩ := by
    blk_ext [index13]
  rw [e]
  exact at_eq m c t _ _ _ _ _ rfl rfl rfl

/-- The last 128 rows, before the columns split in keys or values, head and lane. -/
def window0 (a : (⟨S8x512x2048, .f32⟩ : BufTy).Contents (Elt Ideal)) : (⟨S1x8x128x2x4x64, .f32⟩ : BufTy).Contents (Elt Ideal) :=
  broadcastInDim S1x8x128x2x4x64 ![1, 2, 3, 4, 5] bcast_S8x128x2x4x64_S1x8x128x2x4x64_1_2_3_4_5
    (transpose S8x128x2x4x64 [0, 4, 1, 2, 3] (extractStridedSlice S8x2x4x64x128 ![0, 0, 0, 0, 1920] (shapeCast S8x2x4x64x2048 a shapeCasts_S8x512x2048_S8x2x4x64x2048) slices_S8x2x4x64x2048_S8x2x4x64x128_0_0_0_0_1920)
      transposes_S8x2x4x64x128_S8x128x2x4x64_0_4_1_2_3)

theorem window0_apply (a : (⟨S8x512x2048, .f32⟩ : BufTy).Contents (Elt Ideal)) (b : Fin 8) (n : Fin 128) (e : Fin 2) (h : Fin 4) (d : Fin 64) :
    window0 a (ix6 (0 : Fin 1) b n e h d) = a (ix3 b (⟨e.val * 256 + h.val * 64 + d.val, by omega⟩ : Fin 512) (⟨1920 + n.val, by omega⟩ : Fin 2048)) := by
  unfold window0
  pointwise

theorem tail0 (c : Dev nD) : Pipeline.afterTail₀ cfgs (dats m) 0 (V0 m) [hostOps1] c main_v10 = window0 (Entry.res11 (m (c.tc.loc main_arg0)) (m (c.tc.loc main_arg1)) (m (c.tc.loc main_arg2))) := by
  rw [← array11 m c]
  refine Eq.trans (b := window0 (Pipeline.withArrays spec0 c (V0 m c) (fun w => (dats m 0 c).arrAt w cfg0.N) (Proc.devRef .tc main_v6_8))) rfl ?_
  exact congrArg window0 (Pipeline.withArrays_arr spec0 launch0.win.arr_inj c _ _ 11)

/-- The last 512 rows, before the columns split in keys or values, head and lane. -/
def window1 (a : (⟨S8x512x2048, .f32⟩ : BufTy).Contents (Elt Ideal)) : (⟨S1x8x512x2x4x64, .f32⟩ : BufTy).Contents (Elt Ideal) :=
  broadcastInDim S1x8x512x2x4x64 ![1, 2, 3, 4, 5] bcast_S8x512x2x4x64_S1x8x512x2x4x64_1_2_3_4_5
    (transpose S8x512x2x4x64 [0, 4, 1, 2, 3] (extractStridedSlice S8x2x4x64x512 ![0, 0, 0, 0, 1536] (shapeCast S8x2x4x64x2048 a shapeCasts_S8x512x2048_S8x2x4x64x2048) slices_S8x2x4x64x2048_S8x2x4x64x512_0_0_0_0_1536)
      transposes_S8x2x4x64x512_S8x512x2x4x64_0_4_1_2_3)

theorem window1_apply (a : (⟨S8x512x2048, .f32⟩ : BufTy).Contents (Elt Ideal)) (b : Fin 8) (n : Fin 512) (e : Fin 2) (h : Fin 4) (d : Fin 64) :
    window1 a (ix6 (0 : Fin 1) b n e h d) = a (ix3 b (⟨e.val * 256 + h.val * 64 + d.val, by omega⟩ : Fin 512) (⟨1536 + n.val, by omega⟩ : Fin 2048)) := by
  unfold window1
  pointwise

theorem tail1 (c : Dev nD) : Pipeline.afterTail₀ cfgs (dats m) 0 (V0 m) [hostOps1] c main_v14 = window1 (Entry.res12 (m (c.tc.loc main_arg0)) (m (c.tc.loc main_arg1)) (m (c.tc.loc main_arg2))) := by
  rw [← array12 m c]
  refine Eq.trans (b := window1 (Pipeline.withArrays spec0 c (V0 m c) (fun w => (dats m 0 c).arrAt w cfg0.N) (Proc.devRef .tc main_v6_9))) rfl ?_
  exact congrArg window1 (Pipeline.withArrays_arr spec0 launch0.win.arr_inj c _ _ 12)

/-- The last 2048 rows, before the columns split in keys or values, head and lane. -/
def window2 (a : (⟨S8x512x2048, .f32⟩ : BufTy).Contents (Elt Ideal)) : (⟨S1x8x2048x2x4x64, .f32⟩ : BufTy).Contents (Elt Ideal) :=
  broadcastInDim S1x8x2048x2x4x64 ![1, 2, 3, 4, 5] bcast_S8x2048x2x4x64_S1x8x2048x2x4x64_1_2_3_4_5
    (transpose S8x2048x2x4x64 [0, 4, 1, 2, 3] (shapeCast S8x2x4x64x2048 a shapeCasts_S8x512x2048_S8x2x4x64x2048)
      transposes_S8x2x4x64x2048_S8x2048x2x4x64_0_4_1_2_3)

theorem window2_apply (a : (⟨S8x512x2048, .f32⟩ : BufTy).Contents (Elt Ideal)) (b : Fin 8) (n : Fin 2048) (e : Fin 2) (h : Fin 4) (d : Fin 64) :
    window2 a (ix6 (0 : Fin 1) b n e h d) = a (ix3 b (⟨e.val * 256 + h.val * 64 + d.val, by omega⟩ : Fin 512) (⟨0 + n.val, by omega⟩ : Fin 2048)) := by
  unfold window2
  pointwise

theorem tail2 (c : Dev nD) : Pipeline.afterTail₀ cfgs (dats m) 0 (V0 m) [hostOps1] c main_v17 = window2 (Entry.res13 (m (c.tc.loc main_arg0)) (m (c.tc.loc main_arg1)) (m (c.tc.loc main_arg2))) := by
  rw [← array13 m c]
  refine Eq.trans (b := window2 (Pipeline.withArrays spec0 c (V0 m c) (fun w => (dats m 0 c).arrAt w cfg0.N) (Proc.devRef .tc main_v6_10))) rfl ?_
  exact congrArg window2 (Pipeline.withArrays_arr spec0 launch0.win.arr_inj c _ _ 13)

/-- The run: the results are the arrays the pipeline leaves and the windows of the last three, and the arguments are as they were. -/
theorem run : θ_run defs (onTc (τ := τ) (main (F := Ideal))) ⟨m, fun _ => 0, ρ⟩ (fun r => ∀ c : Dev nD,
    r.2.mem ((c.tc : Thread nD τ).loc main_v6_0) = Entry.res3 (m (c.tc.loc main_arg0)) (m (c.tc.loc main_arg1)) (m (c.tc.loc main_arg2))
    ∧ r.2.mem ((c.tc : Thread nD τ).loc main_v6_1) = Entry.res4 (m (c.tc.loc main_arg0)) (m (c.tc.loc main_arg1)) (m (c.tc.loc main_arg2))
    ∧ r.2.mem ((c.tc : Thread nD τ).loc main_v6_2) = Entry.res5 (m (c.tc.loc main_arg0)) (m (c.tc.loc main_arg1)) (m (c.tc.loc main_arg2))
    ∧ r.2.mem ((c.tc : Thread nD τ).loc main_v6_3) = Entry.res6 (m (c.tc.loc main_arg0)) (m (c.tc.loc main_arg1)) (m (c.tc.loc main_arg2))
    ∧ r.2.mem ((c.tc : Thread nD τ).loc main_v6_4) = Entry.res7 (m (c.tc.loc main_arg0)) (m (c.tc.loc main_arg1)) (m (c.tc.loc main_arg2))
    ∧ r.2.mem ((c.tc : Thread nD τ).loc main_v6_5) = Entry.res8 (m (c.tc.loc main_arg0)) (m (c.tc.loc main_arg1)) (m (c.tc.loc main_arg2))
    ∧ r.2.mem ((c.tc : Thread nD τ).loc main_v6_6) = Entry.res9 (m (c.tc.loc main_arg0)) (m (c.tc.loc main_arg1)) (m (c.tc.loc main_arg2))
    ∧ r.2.mem ((c.tc : Thread nD τ).loc main_v6_7) = Entry.res10 (m (c.tc.loc main_arg0)) (m (c.tc.loc main_arg1)) (m (c.tc.loc main_arg2))
    ∧ r.2.mem ((c.tc : Thread nD τ).loc main_v10) = window0 (Entry.res11 (m (c.tc.loc main_arg0)) (m (c.tc.loc main_arg1)) (m (c.tc.loc main_arg2)))
    ∧ r.2.mem ((c.tc : Thread nD τ).loc main_v14) = window1 (Entry.res12 (m (c.tc.loc main_arg0)) (m (c.tc.loc main_arg1)) (m (c.tc.loc main_arg2)))
    ∧ r.2.mem ((c.tc : Thread nD τ).loc main_v17) = window2 (Entry.res13 (m (c.tc.loc main_arg0)) (m (c.tc.loc main_arg1)) (m (c.tc.loc main_arg2)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  refine θ_run_mono (run_main m ρ) fun r h c => ⟨?_, ?_, ?_, ?_, ?_, ?_, ?_, ?_, ?_, ?_, ?_, ?_, ?_, ?_⟩
  · exact ((h c).1 3).trans (array3 m c)
  · exact ((h c).1 4).trans (array4 m c)
  · exact ((h c).1 5).trans (array5 m c)
  · exact ((h c).1 6).trans (array6 m c)
  · exact ((h c).1 7).trans (array7 m c)
  · exact ((h c).1 8).trans (array8 m c)
  · exact ((h c).1 9).trans (array9 m c)
  · exact ((h c).1 10).trans (array10 m c)
  · exact ((h c).2 main_v10 (Pipeline.mem_restRefs_of main_v10 (by decide) (by decide))).trans (tail0 m c)
  · exact ((h c).2 main_v14 (Pipeline.mem_restRefs_of main_v14 (by decide) (by decide))).trans (tail1 m c)
  · exact ((h c).2 main_v17 (Pipeline.mem_restRefs_of main_v17 (by decide) (by decide))).trans (tail2 m c)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)

end Cert.Proof.Grouped

end
-- ==== Proof.GroupedRef.lean ====
/- The first layer's projection at the prompt: the reference's results, element by element, and that the run's are these. -/
module

public import proofs.«01_k».proof.Proof.GroupedRun
public import proofs.«01_k».proof.Proof.Gen.Reference2Ideal.Read

@[expose] public section

set_option maxRecDepth 16384

noncomputable section

namespace Cert.Proof.GroupedRef

open Idealize.ShloMosaic Cert.Reference2Ideal Cert.Reference2Ideal.Read

variable (x0 : Vec Ideal S8x2048x1024 .f32) (x1 : Vec Ideal S2x1024 .f32) (x2 : Vec Ideal S1x1024x3072 .f32)

theorem product (b : Fin 8) (s : Fin 2048) (j : Fin 3072) :
    val_main_v16 (F := Ideal) x0 x1 x2 (ix3 b s j) = Entry.entry x0 x1 x2 b s j := by
  unfold val_main_v16 val_main_v15 val_main_v14 val_main_v13 val_main_v12 val_main_v11 val_main_v10 val_main_v9
    val_main_v8 val_main_v7 val_main_v6 val_main_v5 val_main_v4 val_main_v3 val_main_v2 val_main_v1 val_main_v0 val_main_cst
    val_main_cst_0 val_main_cst_1
  pointwise
  rfl

theorem at_congr (p : Vec Ideal S8x2048x3072 .f32) {b b' : Fin 8} {s s' : Fin 2048} {j j' : Fin 3072} (hb : b.val = b'.val)
    (hs : s.val = s'.val) (hj : j.val = j'.val) : p (ix3 b s j) = p (ix3 b' s' j') := by
  rw [Fin.ext hb, Fin.ext hs, Fin.ext hj]

/-- The first columns, split in query, key or value, head and lane. -/
theorem split (b : Fin 8) (s : Fin 2048) (a : Fin 3) (h : Fin 12) (d : Fin 64) :
    val_main_v18 (F := Ideal) x0 x1 x2 (ix5 b s a h d) =
      val_main_v16 (F := Ideal) x0 x1 x2 (ix3 b s (⟨a.val * 768 + h.val * 64 + d.val, by omega⟩ : Fin 3072)) := by
  unfold val_main_v18
  refine (shapeCast_apply _ _ _
    (ix3 b s (⟨a.val * 768 + h.val * 64 + d.val, by omega⟩ : Fin 2304)) ?_).trans ?_
  · rewrite [Shape.rowMajor_val_three, Shape.rowMajor_val_five]
    show (b.val * 2048 + s.val) * 2304 + (a.val * 768 + h.val * 64 + d.val) =
      (((b.val * 2048 + s.val) * 3 + a.val) * 12 + h.val) * 64 + d.val
    omega
  · unfold val_main_v17
    generalize val_main_v16 (F := Ideal) x0 x1 x2 = p
    pointwise

theorem query0 (b : Fin 8) (s : Fin 2048) (h : Fin 4) (d : Fin 64) :
    val_main_v24 (F := Ideal) x0 x1 x2 (ix4 b s h d) =
      val_main_v16 (F := Ideal) x0 x1 x2 (ix3 b s (⟨(0 + h.val) * 64 + d.val, by omega⟩ : Fin 3072)) := by
  refine Eq.trans (b := val_main_v18 (F := Ideal) x0 x1 x2 (ix5 b s (0 : Fin 3) (⟨0 + h.val, by omega⟩ : Fin 12) d)) ?_
    ((split x0 x1 x2 b s 0 _ d).trans (at_congr _ rfl rfl ?_))
  · refine Eq.trans (b := val_main_v20 (F := Ideal) x0 x1 x2 (ix4 b s (⟨0 + h.val, by omega⟩ : Fin 12) d)) ?_ ?_
    · unfold val_main_v24
      refine extractStridedSlice_apply _ _ _ _ _ fun a => ?_
      match a with
      | 0 => exact (Nat.zero_add _).symm
      | 1 => exact (Nat.zero_add _).symm
      | 2 => rfl
      | 3 => exact (Nat.zero_add _).symm
    · unfold val_main_v20
      refine (shapeCast_apply _ _ _ (ix5 b s (0 : Fin 1) (⟨0 + h.val, by omega⟩ : Fin 12) d) ?_).trans ?_
      · rewrite [Shape.rowMajor_val_five, Shape.rowMajor_val_four]
        show (((b.val * 2048 + s.val) * 1 + 0) * 12 + (0 + h.val)) * 64 + d.val = ((b.val * 2048 + s.val) * 12 + (0 + h.val)) * 64 + d.val
        omega
      · unfold val_main_v19
        refine extractStridedSlice_apply _ _ _ _ _ fun a => ?_
        match a with
        | 0 => exact (Nat.zero_add _).symm
        | 1 => exact (Nat.zero_add _).symm
        | 2 => rfl
        | 3 => exact (Nat.zero_add _).symm
        | 4 => exact (Nat.zero_add _).symm
  · show 0 * 768 + (0 + h.val) * 64 + d.val = (0 + h.val) * 64 + d.val
    omega

theorem pairs0 (b : Fin 8) (s : Fin 2048) (e : Fin 2) (h : Fin 4) (d : Fin 64) :
    val_main_v27 (F := Ideal) x0 x1 x2 (ix5 b s e h d) =
      val_main_v16 (F := Ideal) x0 x1 x2 (ix3 b s (⟨768 + e.val * 768 + (0 + h.val) * 64 + d.val, by omega⟩ : Fin 3072)) := by
  refine Eq.trans (b := val_main_v18 (F := Ideal) x0 x1 x2 (ix5 b s (⟨1 + e.val, by omega⟩ : Fin 3) (⟨0 + h.val, by omega⟩ : Fin 12) d)) ?_
    ((split x0 x1 x2 b s _ _ d).trans (at_congr _ rfl rfl ?_))
  · unfold val_main_v27 val_main_v21
    generalize val_main_v18 (F := Ideal) x0 x1 x2 = p
    pointwise
  · show (1 + e.val) * 768 + (0 + h.val) * 64 + d.val = 768 + e.val * 768 + (0 + h.val) * 64 + d.val
    omega

theorem query1 (b : Fin 8) (s : Fin 2048) (h : Fin 4) (d : Fin 64) :
    val_main_v25 (F := Ideal) x0 x1 x2 (ix4 b s h d) =
      val_main_v16 (F := Ideal) x0 x1 x2 (ix3 b s (⟨(4 + h.val) * 64 + d.val, by omega⟩ : Fin 3072)) := by
  refine Eq.trans (b := val_main_v18 (F := Ideal) x0 x1 x2 (ix5 b s (0 : Fin 3) (⟨4 + h.val, by omega⟩ : Fin 12) d)) ?_
    ((split x0 x1 x2 b s 0 _ d).trans (at_congr _ rfl rfl ?_))
  · refine Eq.trans (b := val_main_v20 (F := Ideal) x0 x1 x2 (ix4 b s (⟨4 + h.val, by omega⟩ : Fin 12) d)) ?_ ?_
    · unfold val_main_v25
      refine extractStridedSlice_apply _ _ _ _ _ fun a => ?_
      match a with
      | 0 => exact (Nat.zero_add _).symm
      | 1 => exact (Nat.zero_add _).symm
      | 2 => rfl
      | 3 => exact (Nat.zero_add _).symm
    · unfold val_main_v20
      refine (shapeCast_apply _ _ _ (ix5 b s (0 : Fin 1) (⟨4 + h.val, by omega⟩ : Fin 12) d) ?_).trans ?_
      · rewrite [Shape.rowMajor_val_five, Shape.rowMajor_val_four]
        show (((b.val * 2048 + s.val) * 1 + 0) * 12 + (4 + h.val)) * 64 + d.val = ((b.val * 2048 + s.val) * 12 + (4 + h.val)) * 64 + d.val
        omega
      · unfold val_main_v19
        refine extractStridedSlice_apply _ _ _ _ _ fun a => ?_
        match a with
        | 0 => exact (Nat.zero_add _).symm
        | 1 => exact (Nat.zero_add _).symm
        | 2 => rfl
        | 3 => exact (Nat.zero_add _).symm
        | 4 => exact (Nat.zero_add _).symm
  · show 0 * 768 + (4 + h.val) * 64 + d.val = (4 + h.val) * 64 + d.val
    omega

theorem pairs1 (b : Fin 8) (s : Fin 2048) (e : Fin 2) (h : Fin 4) (d : Fin 64) :
    val_main_v28 (F := Ideal) x0 x1 x2 (ix5 b s e h d) =
      val_main_v16 (F := Ideal) x0 x1 x2 (ix3 b s (⟨768 + e.val * 768 + (4 + h.val) * 64 + d.val, by omega⟩ : Fin 3072)) := by
  refine Eq.trans (b := val_main_v18 (F := Ideal) x0 x1 x2 (ix5 b s (⟨1 + e.val, by omega⟩ : Fin 3) (⟨4 + h.val, by omega⟩ : Fin 12) d)) ?_
    ((split x0 x1 x2 b s _ _ d).trans (at_congr _ rfl rfl ?_))
  · unfold val_main_v28 val_main_v21
    generalize val_main_v18 (F := Ideal) x0 x1 x2 = p
    pointwise
  · show (1 + e.val) * 768 + (4 + h.val) * 64 + d.val = 768 + e.val * 768 + (4 + h.val) * 64 + d.val
    omega

theorem query2 (b : Fin 8) (s : Fin 2048) (h : Fin 4) (d : Fin 64) :
    val_main_v26 (F := Ideal) x0 x1 x2 (ix4 b s h d) =
      val_main_v16 (F := Ideal) x0 x1 x2 (ix3 b s (⟨(8 + h.val) * 64 + d.val, by omega⟩ : Fin 3072)) := by
  refine Eq.trans (b := val_main_v18 (F := Ideal) x0 x1 x2 (ix5 b s (0 : Fin 3) (⟨8 + h.val, by omega⟩ : Fin 12) d)) ?_
    ((split x0 x1 x2 b s 0 _ d).trans (at_congr _ rfl rfl ?_))
  · refine Eq.trans (b := val_main_v20 (F := Ideal) x0 x1 x2 (ix4 b s (⟨8 + h.val, by omega⟩ : Fin 12) d)) ?_ ?_
    · unfold val_main_v26
      refine extractStridedSlice_apply _ _ _ _ _ fun a => ?_
      match a with
      | 0 => exact (Nat.zero_add _).symm
      | 1 => exact (Nat.zero_add _).symm
      | 2 => rfl
      | 3 => exact (Nat.zero_add _).symm
    · unfold val_main_v20
      refine (shapeCast_apply _ _ _ (ix5 b s (0 : Fin 1) (⟨8 + h.val, by omega⟩ : Fin 12) d) ?_).trans ?_
      · rewrite [Shape.rowMajor_val_five, Shape.rowMajor_val_four]
        show (((b.val * 2048 + s.val) * 1 + 0) * 12 + (8 + h.val)) * 64 + d.val = ((b.val * 2048 + s.val) * 12 + (8 + h.val)) * 64 + d.val
        omega
      · unfold val_main_v19
        refine extractStridedSlice_apply _ _ _ _ _ fun a => ?_
        match a with
        | 0 => exact (Nat.zero_add _).symm
        | 1 => exact (Nat.zero_add _).symm
        | 2 => rfl
        | 3 => exact (Nat.zero_add _).symm
        | 4 => exact (Nat.zero_add _).symm
  · show 0 * 768 + (8 + h.val) * 64 + d.val = (8 + h.val) * 64 + d.val
    omega

theorem pairs2 (b : Fin 8) (s : Fin 2048) (e : Fin 2) (h : Fin 4) (d : Fin 64) :
    val_main_v29 (F := Ideal) x0 x1 x2 (ix5 b s e h d) =
      val_main_v16 (F := Ideal) x0 x1 x2 (ix3 b s (⟨768 + e.val * 768 + (8 + h.val) * 64 + d.val, by omega⟩ : Fin 3072)) := by
  refine Eq.trans (b := val_main_v18 (F := Ideal) x0 x1 x2 (ix5 b s (⟨1 + e.val, by omega⟩ : Fin 3) (⟨8 + h.val, by omega⟩ : Fin 12) d)) ?_
    ((split x0 x1 x2 b s _ _ d).trans (at_congr _ rfl rfl ?_))
  · unfold val_main_v29 val_main_v21
    generalize val_main_v18 (F := Ideal) x0 x1 x2 = p
    pointwise
  · show (1 + e.val) * 768 + (8 + h.val) * 64 + d.val = 768 + e.val * 768 + (8 + h.val) * 64 + d.val
    omega

theorem point3 (u0 : Fin 16384) (u1 : Fin 256) : val_main_v35 (F := Ideal) x0 x1 x2 (ix2 u0 u1) = Entry.res3 x0 x1 x2 (ix2 u0 u1) := by
  refine Eq.trans (b := val_main_v16 (F := Ideal) x0 x1 x2 (ix3 (n0 := 8) (n1 := 2048) (n2 := 3072) (⟨u0.val / 2048, by omega⟩ : Fin 8) (⟨u0.val % 2048, by omega⟩ : Fin 2048) ⟨u1.val, by omega⟩)) ?_ (product x0 x1 x2 _ _ _)
  unfold val_main_v35
  refine (shapeCast_apply _ _ _ (ix4 (⟨u0.val / 2048, by omega⟩ : Fin 8) (⟨u0.val % 2048, by omega⟩ : Fin 2048) (⟨u1.val % 256 / 64, by omega⟩ : Fin 4) (⟨u1.val % 64, by omega⟩ : Fin 64)) ?_).trans
    ((query0 x0 x1 x2 _ _ _ _).trans (at_congr _ rfl rfl ?_))
  · rewrite [Shape.rowMajor_val_four, Shape.rowMajor_val_two]
    show ((u0.val / 2048 * 2048 + u0.val % 2048) * 4 + u1.val % 256 / 64) * 64 + u1.val % 64 = u0.val * 256 + u1.val
    omega
  · show (0 + u1.val % 256 / 64) * 64 + u1.val % 64 = u1.val
    omega

theorem result3 : val_main_v35 (F := Ideal) x0 x1 x2 = Entry.res3 x0 x1 x2 := by
  funext y
  rw [eq_ix2 (n0 := 16384) (n1 := 256) y]
  exact point3 x0 x1 x2 (y 0) (y 1)

theorem point4 (u0 : Fin 8) (u1 : Fin 512) (u2 : Fin 1024) : val_main_v36 (F := Ideal) x0 x1 x2 (ix3 u0 u1 u2) = Entry.res4 x0 x1 x2 (ix3 u0 u1 u2) := by
  refine Eq.trans (b := val_main_v16 (F := Ideal) x0 x1 x2 (ix3 (n0 := 8) (n1 := 2048) (n2 := 3072) u0 (⟨4 * u1.val + u2.val / 256, by omega⟩ : Fin 2048) ⟨256 + u2.val % 256, by omega⟩)) ?_ (product x0 x1 x2 _ _ _)
  unfold val_main_v36
  refine (shapeCast_apply _ _ _ (ix4 u0 (⟨4 * u1.val + u2.val / 256, by omega⟩ : Fin 2048) (⟨u2.val % 256 / 64, by omega⟩ : Fin 4) (⟨u2.val % 64, by omega⟩ : Fin 64)) ?_).trans
    ((query1 x0 x1 x2 _ _ _ _).trans (at_congr _ rfl rfl ?_))
  · rewrite [Shape.rowMajor_val_four, Shape.rowMajor_val_three]
    show ((u0.val * 2048 + (4 * u1.val + u2.val / 256)) * 4 + u2.val % 256 / 64) * 64 + u2.val % 64 = (u0.val * 512 + u1.val) * 1024 + u2.val
    omega
  · show (4 + u2.val % 256 / 64) * 64 + u2.val % 64 = 256 + u2.val % 256
    omega

theorem result4 : val_main_v36 (F := Ideal) x0 x1 x2 = Entry.res4 x0 x1 x2 := by
  funext y
  rw [eq_ix3 (n0 := 8) (n1 := 512) (n2 := 1024) y]
  exact point4 x0 x1 x2 (y 0) (y 1) (y 2)

theorem point5 (u0 : Fin 8) (u1 : Fin 128) (u2 : Fin 4096) : val_main_v37 (F := Ideal) x0 x1 x2 (ix3 u0 u1 u2) = Entry.res5 x0 x1 x2 (ix3 u0 u1 u2) := by
  refine Eq.trans (b := val_main_v16 (F := Ideal) x0 x1 x2 (ix3 (n0 := 8) (n1 := 2048) (n2 := 3072) u0 (⟨16 * u1.val + u2.val / 256, by omega⟩ : Fin 2048) ⟨512 + u2.val % 256, by omega⟩)) ?_ (product x0 x1 x2 _ _ _)
  unfold val_main_v37
  refine (shapeCast_apply _ _ _ (ix4 u0 (⟨16 * u1.val + u2.val / 256, by omega⟩ : Fin 2048) (⟨u2.val % 256 / 64, by omega⟩ : Fin 4) (⟨u2.val % 64, by omega⟩ : Fin 64)) ?_).trans
    ((query2 x0 x1 x2 _ _ _ _).trans (at_congr _ rfl rfl ?_))
  · rewrite [Shape.rowMajor_val_four, Shape.rowMajor_val_three]
    show ((u0.val * 2048 + (16 * u1.val + u2.val / 256)) * 4 + u2.val % 256 / 64) * 64 + u2.val % 64 = (u0.val * 128 + u1.val) * 4096 + u2.val
    omega
  · show (8 + u2.val % 256 / 64) * 64 + u2.val % 64 = 512 + u2.val % 256
    omega

theorem result5 : val_main_v37 (F := Ideal) x0 x1 x2 = Entry.res5 x0 x1 x2 := by
  funext y
  rw [eq_ix3 (n0 := 8) (n1 := 128) (n2 := 4096) y]
  exact point5 x0 x1 x2 (y 0) (y 1) (y 2)

theorem point6 (u0 : Fin 16384) (u1 : Fin 512) : val_main_v38 (F := Ideal) x0 x1 x2 (ix2 u0 u1) = Entry.res6 x0 x1 x2 (ix2 u0 u1) := by
  refine Eq.trans (b := val_main_v16 (F := Ideal) x0 x1 x2 (ix3 (n0 := 8) (n1 := 2048) (n2 := 3072) (⟨u0.val / 2048, by omega⟩ : Fin 8) (⟨u0.val % 2048, by omega⟩ : Fin 2048) ⟨Entry.pair 0 u1.val, Entry.pair_lt _ _ (by decide)⟩)) ?_ (product x0 x1 x2 _ _ _)
  unfold val_main_v38
  refine (shapeCast_apply _ _ _ (ix5 (⟨u0.val / 2048, by omega⟩ : Fin 8) (⟨u0.val % 2048, by omega⟩ : Fin 2048) (⟨u1.val % 512 / 256, by omega⟩ : Fin 2) (⟨u1.val % 256 / 64, by omega⟩ : Fin 4) (⟨u1.val % 64, by omega⟩ : Fin 64)) ?_).trans
    ((pairs0 x0 x1 x2 _ _ _ _ _).trans (at_congr _ rfl rfl ?_))
  · rewrite [Shape.rowMajor_val_five, Shape.rowMajor_val_two]
    show (((u0.val / 2048 * 2048 + u0.val % 2048) * 2 + u1.val % 512 / 256) * 4 + u1.val % 256 / 64) * 64 + u1.val % 64 = u0.val * 512 + u1.val
    omega
  · show 768 + u1.val % 512 / 256 * 768 + (0 + u1.val % 256 / 64) * 64 + u1.val % 64 = Entry.pair 0 u1.val
    unfold Entry.pair
    omega

theorem result6 : val_main_v38 (F := Ideal) x0 x1 x2 = Entry.res6 x0 x1 x2 := by
  funext y
  rw [eq_ix2 (n0 := 16384) (n1 := 512) y]
  exact point6 x0 x1 x2 (y 0) (y 1)

theorem point7 (u0 : Fin 8) (u1 : Fin 512) (u2 : Fin 2048) : val_main_v39 (F := Ideal) x0 x1 x2 (ix3 u0 u1 u2) = Entry.res7 x0 x1 x2 (ix3 u0 u1 u2) := by
  refine Eq.trans (b := val_main_v16 (F := Ideal) x0 x1 x2 (ix3 (n0 := 8) (n1 := 2048) (n2 := 3072) u0 (⟨4 * u1.val + u2.val / 512, by omega⟩ : Fin 2048) ⟨Entry.pair 1 u2.val, Entry.pair_lt _ _ (by decide)⟩)) ?_ (product x0 x1 x2 _ _ _)
  unfold val_main_v39
  refine (shapeCast_apply _ _ _ (ix5 u0 (⟨4 * u1.val + u2.val / 512, by omega⟩ : Fin 2048) (⟨u2.val % 512 / 256, by omega⟩ : Fin 2) (⟨u2.val % 256 / 64, by omega⟩ : Fin 4) (⟨u2.val % 64, by omega⟩ : Fin 64)) ?_).trans
    ((pairs1 x0 x1 x2 _ _ _ _ _).trans (at_congr _ rfl rfl ?_))
  · rewrite [Shape.rowMajor_val_five, Shape.rowMajor_val_three]
    show (((u0.val * 2048 + (4 * u1.val + u2.val / 512)) * 2 + u2.val % 512 / 256) * 4 + u2.val % 256 / 64) * 64 + u2.val % 64 = (u0.val * 512 + u1.val) * 2048 + u2.val
    omega
  · show 768 + u2.val % 512 / 256 * 768 + (4 + u2.val % 256 / 64) * 64 + u2.val % 64 = Entry.pair 1 u2.val
    unfold Entry.pair
    omega

theorem result7 : val_main_v39 (F := Ideal) x0 x1 x2 = Entry.res7 x0 x1 x2 := by
  funext y
  rw [eq_ix3 (n0 := 8) (n1 := 512) (n2 := 2048) y]
  exact point7 x0 x1 x2 (y 0) (y 1) (y 2)

theorem point8 (u0 : Fin 8) (u1 : Fin 128) (u2 : Fin 8192) : val_main_v40 (F := Ideal) x0 x1 x2 (ix3 u0 u1 u2) = Entry.res8 x0 x1 x2 (ix3 u0 u1 u2) := by
  refine Eq.trans (b := val_main_v16 (F := Ideal) x0 x1 x2 (ix3 (n0 := 8) (n1 := 2048) (n2 := 3072) u0 (⟨16 * u1.val + u2.val / 512, by omega⟩ : Fin 2048) ⟨Entry.pair 2 u2.val, Entry.pair_lt _ _ (by decide)⟩)) ?_ (product x0 x1 x2 _ _ _)
  unfold val_main_v40
  refine (shapeCast_apply _ _ _ (ix5 u0 (⟨16 * u1.val + u2.val / 512, by omega⟩ : Fin 2048) (⟨u2.val % 512 / 256, by omega⟩ : Fin 2) (⟨u2.val % 256 / 64, by omega⟩ : Fin 4) (⟨u2.val % 64, by omega⟩ : Fin 64)) ?_).trans
    ((pairs2 x0 x1 x2 _ _ _ _ _).trans (at_congr _ rfl rfl ?_))
  · rewrite [Shape.rowMajor_val_five, Shape.rowMajor_val_three]
    show (((u0.val * 2048 + (16 * u1.val + u2.val / 512)) * 2 + u2.val % 512 / 256) * 4 + u2.val % 256 / 64) * 64 + u2.val % 64 = (u0.val * 128 + u1.val) * 8192 + u2.val
    omega
  · show 768 + u2.val % 512 / 256 * 768 + (8 + u2.val % 256 / 64) * 64 + u2.val % 64 = Entry.pair 2 u2.val
    unfold Entry.pair
    omega

theorem result8 : val_main_v40 (F := Ideal) x0 x1 x2 = Entry.res8 x0 x1 x2 := by
  funext y
  rw [eq_ix3 (n0 := 8) (n1 := 128) (n2 := 8192) y]
  exact point8 x0 x1 x2 (y 0) (y 1) (y 2)

theorem point9 (u0 : Fin 16384) (u1 : Fin 256) : val_main_v41 (F := Ideal) x0 x1 x2 (ix2 u0 u1) = Entry.res9 x0 x1 x2 (ix2 u0 u1) := by
  refine Eq.trans (b := val_main_v16 (F := Ideal) x0 x1 x2 (ix3 (n0 := 8) (n1 := 2048) (n2 := 3072) (⟨u0.val / 2048, by omega⟩ : Fin 8) (⟨u0.val % 2048, by omega⟩ : Fin 2048) ⟨2304 + u1.val, by omega⟩)) ?_ (product x0 x1 x2 _ _ _)
  unfold val_main_v41 val_main_v22
  generalize val_main_v16 (F := Ideal) x0 x1 x2 = p
  pointwise

theorem result9 : val_main_v41 (F := Ideal) x0 x1 x2 = Entry.res9 x0 x1 x2 := by
  funext y
  rw [eq_ix2 (n0 := 16384) (n1 := 256) y]
  exact point9 x0 x1 x2 (y 0) (y 1)

theorem point10 (u0 : Fin 16384) (u1 : Fin 512) : val_main_v42 (F := Ideal) x0 x1 x2 (ix2 u0 u1) = Entry.res10 x0 x1 x2 (ix2 u0 u1) := by
  refine Eq.trans (b := val_main_v16 (F := Ideal) x0 x1 x2 (ix3 (n0 := 8) (n1 := 2048) (n2 := 3072) (⟨u0.val / 2048, by omega⟩ : Fin 8) (⟨u0.val % 2048, by omega⟩ : Fin 2048) ⟨2560 + u1.val, by omega⟩)) ?_ (product x0 x1 x2 _ _ _)
  unfold val_main_v42 val_main_v23
  generalize val_main_v16 (F := Ideal) x0 x1 x2 = p
  pointwise

theorem result10 : val_main_v42 (F := Ideal) x0 x1 x2 = Entry.res10 x0 x1 x2 := by
  funext y
  rw [eq_ix2 (n0 := 16384) (n1 := 512) y]
  exact point10 x0 x1 x2 (y 0) (y 1)

theorem result11 (b : Fin 8) (n : Fin 128) (e : Fin 2) (h : Fin 4) (d : Fin 64) :
    val_main_v31 (F := Ideal) x0 x1 x2 (ix6 (0 : Fin 1) b n e h d) =
      Entry.res11 x0 x1 x2 (ix3 b (⟨e.val * 256 + h.val * 64 + d.val, by omega⟩ : Fin 512) (⟨1920 + n.val, by omega⟩ : Fin 2048)) := by
  refine Eq.trans (b := val_main_v16 (F := Ideal) x0 x1 x2 (ix3 (n0 := 8) (n1 := 2048) (n2 := 3072) b ⟨1920 + n.val, by omega⟩
    ⟨Entry.pair 0 (e.val * 256 + h.val * 64 + d.val), Entry.pair_lt _ _ (by decide)⟩)) ?_ (product x0 x1 x2 _ _ _)
  refine Eq.trans (b := val_main_v27 (F := Ideal) x0 x1 x2 (ix5 b (⟨1920 + n.val, by omega⟩ : Fin 2048) e h d)) ?_
    ((pairs0 x0 x1 x2 _ _ _ _ _).trans (at_congr _ rfl rfl ?_))
  · unfold val_main_v31 val_main_v30
    generalize val_main_v27 (F := Ideal) x0 x1 x2 = p
    pointwise
  · show 768 + e.val * 768 + (0 + h.val) * 64 + d.val = Entry.pair 0 (e.val * 256 + h.val * 64 + d.val)
    unfold Entry.pair
    omega

theorem result12 (b : Fin 8) (n : Fin 512) (e : Fin 2) (h : Fin 4) (d : Fin 64) :
    val_main_v33 (F := Ideal) x0 x1 x2 (ix6 (0 : Fin 1) b n e h d) =
      Entry.res12 x0 x1 x2 (ix3 b (⟨e.val * 256 + h.val * 64 + d.val, by omega⟩ : Fin 512) (⟨1536 + n.val, by omega⟩ : Fin 2048)) := by
  refine Eq.trans (b := val_main_v16 (F := Ideal) x0 x1 x2 (ix3 (n0 := 8) (n1 := 2048) (n2 := 3072) b ⟨1536 + n.val, by omega⟩
    ⟨Entry.pair 1 (e.val * 256 + h.val * 64 + d.val), Entry.pair_lt _ _ (by decide)⟩)) ?_ (product x0 x1 x2 _ _ _)
  refine Eq.trans (b := val_main_v28 (F := Ideal) x0 x1 x2 (ix5 b (⟨1536 + n.val, by omega⟩ : Fin 2048) e h d)) ?_
    ((pairs1 x0 x1 x2 _ _ _ _ _).trans (at_congr _ rfl rfl ?_))
  · unfold val_main_v33 val_main_v32
    generalize val_main_v28 (F := Ideal) x0 x1 x2 = p
    pointwise
  · show 768 + e.val * 768 + (4 + h.val) * 64 + d.val = Entry.pair 1 (e.val * 256 + h.val * 64 + d.val)
    unfold Entry.pair
    omega

theorem result13 (b : Fin 8) (n : Fin 2048) (e : Fin 2) (h : Fin 4) (d : Fin 64) :
    val_main_v34 (F := Ideal) x0 x1 x2 (ix6 (0 : Fin 1) b n e h d) =
      Entry.res13 x0 x1 x2 (ix3 b (⟨e.val * 256 + h.val * 64 + d.val, by omega⟩ : Fin 512) (⟨0 + n.val, by omega⟩ : Fin 2048)) := by
  refine Eq.trans (b := val_main_v16 (F := Ideal) x0 x1 x2 (ix3 (n0 := 8) (n1 := 2048) (n2 := 3072) b ⟨0 + n.val, by omega⟩
    ⟨Entry.pair 2 (e.val * 256 + h.val * 64 + d.val), Entry.pair_lt _ _ (by decide)⟩)) ?_ (product x0 x1 x2 _ _ _)
  refine Eq.trans (b := val_main_v29 (F := Ideal) x0 x1 x2 (ix5 b (⟨0 + n.val, by omega⟩ : Fin 2048) e h d)) ?_
    ((pairs2 x0 x1 x2 _ _ _ _ _).trans (at_congr _ rfl rfl ?_))
  · unfold val_main_v34
    generalize val_main_v29 (F := Ideal) x0 x1 x2 = p
    pointwise
  · show 768 + e.val * 768 + (8 + h.val) * 64 + d.val = Entry.pair 2 (e.val * 256 + h.val * 64 + d.val)
    unfold Entry.pair
    omega

end Cert.Proof.GroupedRef

namespace Cert.Proof.Grouped

open Idealize.ShloMosaic

variable (x0 : Vec Ideal Cert.Kernel2Ideal.S8x2048x1024 .f32) (x1 : Vec Ideal Cert.Kernel2Ideal.S2x1024 .f32)
  (x2 : Vec Ideal Cert.Kernel2Ideal.S1x1024x3072 .f32)

theorem agree11 : Cert.Reference2Ideal.Read.val_main_v31 (F := Ideal) x0 x1 x2 = window0 (Entry.res11 x0 x1 x2) := by
  funext y
  have b0 : (y 0).val < 1 := (y 0).isLt
  have e : y = ix6 (n0 := 1) (n1 := 8) (n2 := 128) (n3 := 2) (n4 := 4) (n5 := 64) 0 (y 1) (y 2) (y 3) (y 4) (y 5) := by
    funext a
    match a with
    | 0 => exact Fin.ext (by show (y 0).val = 0; omega)
    | 1 => rfl
    | 2 => rfl
    | 3 => rfl
    | 4 => rfl
    | 5 => rfl
  rw [e]
  exact (GroupedRef.result11 x0 x1 x2 (y 1) (y 2) (y 3) (y 4) (y 5)).trans
    (window0_apply (Entry.res11 x0 x1 x2) (y 1) (y 2) (y 3) (y 4) (y 5)).symm

theorem agree12 : Cert.Reference2Ideal.Read.val_main_v33 (F := Ideal) x0 x1 x2 = window1 (Entry.res12 x0 x1 x2) := by
  funext y
  have b0 : (y 0).val < 1 := (y 0).isLt
  have e : y = ix6 (n0 := 1) (n1 := 8) (n2 := 512) (n3 := 2) (n4 := 4) (n5 := 64) 0 (y 1) (y 2) (y 3) (y 4) (y 5) := by
    funext a
    match a with
    | 0 => exact Fin.ext (by show (y 0).val = 0; omega)
    | 1 => rfl
    | 2 => rfl
    | 3 => rfl
    | 4 => rfl
    | 5 => rfl
  rw [e]
  exact (GroupedRef.result12 x0 x1 x2 (y 1) (y 2) (y 3) (y 4) (y 5)).trans
    (window1_apply (Entry.res12 x0 x1 x2) (y 1) (y 2) (y 3) (y 4) (y 5)).symm

theorem agree13 : Cert.Reference2Ideal.Read.val_main_v34 (F := Ideal) x0 x1 x2 = window2 (Entry.res13 x0 x1 x2) := by
  funext y
  have b0 : (y 0).val < 1 := (y 0).isLt
  have e : y = ix6 (n0 := 1) (n1 := 8) (n2 := 2048) (n3 := 2) (n4 := 4) (n5 := 64) 0 (y 1) (y 2) (y 3) (y 4) (y 5) := by
    funext a
    match a with
    | 0 => exact Fin.ext (by show (y 0).val = 0; omega)
    | 1 => rfl
    | 2 => rfl
    | 3 => rfl
    | 4 => rfl
    | 5 => rfl
  rw [e]
  exact (GroupedRef.result13 x0 x1 x2 (y 1) (y 2) (y 3) (y 4) (y 5)).trans
    (window2_apply (Entry.res13 x0 x1 x2) (y 1) (y 2) (y 3) (y 4) (y 5)).symm

end Cert.Proof.Grouped

end
-- ==== Proof.Shift.lean ====
/- The second layer's projection that feeds the token shift: element by element the normalised row against a column of the
   weights, on both sides. -/
module

public import proofs.«01_k».proof.Proof.Norm
public import proofs.«01_k».proof.Proof.Gen.Kernel3Ideal.Frame
public import proofs.«01_k».proof.Proof.Gen.Reference3Ideal.Read
public import Idealize.ShloMosaic.Lib.StableHlo.ReadAt
public import Idealize.ShloMosaic.Lib.Pipeline.ValueKit

@[expose] public section

set_option maxRecDepth 16384

noncomputable section

namespace Cert.Proof.Shift

open Idealize.ShloMosaic Idealize.ShloMosaic.TcCoe Idealize.ShloMosaic.Tactic Idealize.SL.Sem
open Cert.Kernel3Ideal Cert.Kernel3Ideal.Gen

theorem payload (x : Vec Ideal S1024x1024 .f32) (g : Vec Ideal S1x1024 .f32) (w : Vec Ideal S1024x2432 .bf16)
    (r : Fin 1024) (j : Fin 2432) :
    k0_pay1 x g w (ix2 r j) =
      Norm.column (fun k => x (ix2 r k)) (fun k => g (ix2 0 k)) (fun k => w (ix2 k j)) := by
  unfold k0_pay1
  pointwise
  rfl

variable (m : (ℓ : Loc nD τ sig) → Buf (Elt Ideal) ℓ) (ρ : Dev nD → PrngReg)

theorem outs (c : Dev nD) (t : Fin cfg0.N) (r : Fin 1024) (j : Fin 2432) :
    outsAt0 m c t (ix2 r j) =
      Norm.column (fun k => iblk m c 0 t (ix2 r k)) (fun k => iblk m c 1 t (ix2 0 k)) (fun k => iblk m c 2 t (ix2 k j)) := by
  unfold outsAt0
  frame_out
  exact payload _ _ _ r j

/-- The rows in one list. -/
def rows (x : (⟨S8x2048x1024, .f32⟩ : BufTy).Contents (Elt Ideal)) : (⟨S16384x1024, .f32⟩ : BufTy).Contents (Elt Ideal) :=
  shapeCast S16384x1024 x shapeCasts_S8x2048x1024_S16384x1024

/-- The second layer's scales. -/
def scales (g : (⟨S2x1024, .f32⟩ : BufTy).Contents (Elt Ideal)) : (⟨S1x1024, .f32⟩ : BufTy).Contents (Elt Ideal) :=
  shapeCast S1x1024 (shapeCast S1024 (extractStridedSlice S1x1024 ![1, 0] g slices_S2x1024_S1x1024_1_0) shapeCasts_S1x1024_S1024)
    shapeCasts_S1024_S1x1024

/-- The columns of the weights that the shift takes. -/
def weights (w : (⟨S1x1024x3712, .f32⟩ : BufTy).Contents (Elt Ideal)) : (⟨S1024x2432, .bf16⟩ : BufTy).Contents (Elt Ideal) :=
  extractStridedSlice S1024x2432 ![0, 0] (truncf (F := Ideal) .bf16 (shapeCast S1024x3712 w shapeCasts_S1x1024x3712_S1024x3712)
    bitsLt_bf16_f32) slices_S1024x3712_S1024x2432_0_0

theorem rows_apply (x : (⟨S8x2048x1024, .f32⟩ : BufTy).Contents (Elt Ideal)) (r : Fin 16384) (k : Fin 1024) :
    rows x (ix2 r k) = x (ix3 (⟨r.val / 2048, by omega⟩ : Fin 8) (⟨r.val % 2048, by omega⟩ : Fin 2048) k) := by
  unfold rows
  pointwise

/-- A row of the list, by its batch and its place there. -/
theorem rows_at (x : (⟨S8x2048x1024, .f32⟩ : BufTy).Contents (Elt Ideal)) (b : Fin 8) (s : Fin 2048) (k : Fin 1024) :
    rows x (ix2 (⟨b.val * 2048 + s.val, by omega⟩ : Fin 16384) k) = x (ix3 b s k) := by
  rw [rows_apply]
  exact congrArg x (congrArg₂ (fun p q => ix3 p q k) (Fin.ext (by show (b.val * 2048 + s.val) / 2048 = b.val; omega))
    (Fin.ext (by show (b.val * 2048 + s.val) % 2048 = s.val; omega)))

theorem scales_apply (g : (⟨S2x1024, .f32⟩ : BufTy).Contents (Elt Ideal)) (k : Fin 1024) :
    scales g (ix2 0 k) = g (ix2 1 k) := by
  unfold scales
  pointwise

theorem weights_apply (w : (⟨S1x1024x3712, .f32⟩ : BufTy).Contents (Elt Ideal)) (k : Fin 1024) (j : Fin 2432) :
    weights w (ix2 k j) = w (ix3 0 k (⟨j.val, by omega⟩ : Fin 3712)) := by
  unfold weights
  pointwise

def point (t : Fin cfg0.N) : Fin 16 := ⟨(grid0.coords t 0).val, (grid0.coords t 0).isLt⟩

theorem index0 : ∀ t : Fin cfg0.N, win0_0.index t = ![(point t).val, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![(point t).val, 0] := by decide +kernel

theorem block0 (c : Dev nD) (t : Fin cfg0.N) (r : Fin 1024) (k : Fin 1024) :
    iblk m c 0 t (ix2 r k) = rows (m (c.tc.loc main_arg0)) (ix2 (⟨1024 * (point t).val + r.val, by omega⟩ : Fin 16384) k) := by
  have e : V m c main_v0 = rows (m (c.tc.loc main_arg0)) := rfl
  rw [← e]
  blk_simp [iblk]
  refine congrArg (V m c main_v0) ?_
  blk_ext [index0]

theorem block1 (c : Dev nD) (t : Fin cfg0.N) (k : Fin 1024) :
    iblk m c 1 t (ix2 (0 : Fin 1) k) = m (c.tc.loc main_arg1) (ix2 1 k) := by
  have e : V m c main_v6 = scales (m (c.tc.loc main_arg1)) := rfl
  rw [← scales_apply (m (c.tc.loc main_arg1)), ← e]
  blk_simp [iblk]
  refine congrArg (V m c main_v6) ?_
  blk_ext [index1]

theorem block2 (c : Dev nD) (t : Fin cfg0.N) (k : Fin 1024) (j : Fin 2432) :
    iblk m c 2 t (ix2 k j) = m (c.tc.loc main_arg2) (ix3 0 k (⟨j.val, by omega⟩ : Fin 3712)) := by
  have e : V m c main_v5 = weights (m (c.tc.loc main_arg2)) := rfl
  rw [← weights_apply (m (c.tc.loc main_arg2)), ← e]
  blk_simp [iblk]
  refine congrArg (V m c main_v5) ?_
  blk_ext [index2]

/-- What the pipeline leaves, by row and column. -/
def left (c : Dev nD) : S16384x2432.Idx → EReal := fun y =>
  Norm.column (fun k => rows (m (c.tc.loc main_arg0)) (ix2 (y 0) k)) (fun k => m (c.tc.loc main_arg1) (ix2 1 k))
    (fun k => m (c.tc.loc main_arg2) (ix3 0 k (⟨(y 1).val, lt_trans (y 1).isLt (by decide)⟩ : Fin 3712)))

theorem array (c : Dev nD) : (dats m 0 c).arrAt 3 cfg0.N = left m c := by
  refine (dats m 0 c).arrAt_eq_of_covers 3 _ (by decide +kernel) fun t hf y => ?_
  rw [after0_3]
  blk_simp [index3]
  refine (congrArg (outsAt0 m c t) (eq_ix2 (n0 := 1024) (n1 := 2432) y)).trans ((outs m c t (y 0) (y 1)).trans ?_)
  have e : (win0_3.blk t).view.emb y =
      ix2 (n0 := 16384) (n1 := 2432) ⟨1024 * (point t).val + (y 0).val, by have b0 : (y 0).val < 1024 := (y 0).isLt; omega⟩ (y 1) := by
    blk_ext [index3]
  rw [e]
  exact Norm.column_congr (fun k => block0 m c t _ k) (fun k => block1 m c t k) (fun k => block2 m c t k _)

/-- The rows back in their batches. -/
def batches (a : (⟨S16384x2432, .f32⟩ : BufTy).Contents (Elt Ideal)) : (⟨S8x2048x2432, .f32⟩ : BufTy).Contents (Elt Ideal) :=
  shapeCast S8x2048x2432 a shapeCasts_S16384x2432_S8x2048x2432

theorem batches_apply (a : (⟨S16384x2432, .f32⟩ : BufTy).Contents (Elt Ideal)) (b : Fin 8) (s : Fin 2048) (j : Fin 2432) :
    batches a (ix3 b s j) = a (ix2 (⟨b.val * 2048 + s.val, by omega⟩ : Fin 16384) j) := by
  unfold batches
  pointwise

theorem tail (c : Dev nD) : Pipeline.afterTail₀ cfgs (dats m) 0 (V0 m) [hostOps1] c main_v8 = batches (left m c) := by
  rw [← array m c]
  refine Eq.trans (b := batches (Pipeline.withArrays spec0 c (V0 m c) (fun w => (dats m 0 c).arrAt w cfg0.N) (Proc.devRef .tc main_v7))) rfl ?_
  exact congrArg batches (Pipeline.withArrays_arr spec0 launch0.win.arr_inj c _ _ 3)

/-- The run: the result is the array left by the pipeline, and the arguments are as they were. -/
theorem run : θ_run defs (onTc (τ := τ) (main (F := Ideal))) ⟨m, fun _ => 0, ρ⟩ (fun r => ∀ c : Dev nD,
    r.2.mem ((c.tc : Thread nD τ).loc main_v8) = batches (left m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  refine θ_run_mono (run_main m ρ) fun r h c => ⟨?_, ?_, ?_, ?_⟩
  · exact ((h c).2 main_v8 (Pipeline.mem_restRefs_of main_v8 (by decide) (by decide))).trans (tail m c)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)

end Cert.Proof.Shift

namespace Cert.Proof.ShiftRef

open Idealize.ShloMosaic Cert.Reference3Ideal Cert.Reference3Ideal.Read

theorem result (x0 : Vec Ideal S8x2048x1024 .f32) (x1 : Vec Ideal S2x1024 .f32) (x2 : Vec Ideal S1x1024x3712 .f32)
    (b : Fin 8) (s : Fin 2048) (j : Fin 2432) :
    val_main_v17 (F := Ideal) x0 x1 x2 (ix3 b s j) =
      Norm.column (fun k => x0 (ix3 b s k)) (fun k => x1 (ix2 1 k)) (fun k => x2 (ix3 0 k (⟨j.val, by omega⟩ : Fin 3712))) := by
  unfold val_main_v17 val_main_v16 val_main_v15 val_main_v14 val_main_v13 val_main_v12 val_main_v11 val_main_v10 val_main_v9
    val_main_v8 val_main_v7 val_main_v6 val_main_v5 val_main_v4 val_main_v3 val_main_v2 val_main_v1 val_main_v0 val_main_cst
    val_main_cst_0 val_main_cst_1
  pointwise
  rfl

end Cert.Proof.ShiftRef

namespace Cert.Proof.Shift

open Idealize.ShloMosaic Idealize.ShloMosaic.TcCoe Cert.Kernel3Ideal

/-- The kernel's result is the reference's. -/
theorem agree (m : (ℓ : Loc nD τ sig) → Buf (Elt Ideal) ℓ) (c : Dev nD) :
    Cert.Reference3Ideal.Read.val_main_v17 (F := Ideal) (m (c.tc.loc main_arg0)) (m (c.tc.loc main_arg1)) (m (c.tc.loc main_arg2))
      = batches (left m c) := by
  funext y
  rw [eq_ix3 (n0 := 8) (n1 := 2048) (n2 := 2432) y]
  refine (ShiftRef.result _ _ _ (y 0) (y 1) (y 2)).trans (Eq.trans ?_ (batches_apply (left m c) (y 0) (y 1) (y 2)).symm)
  exact Norm.column_congr (fun k => (rows_at _ (y 0) (y 1) k).symm) (fun _ => rfl) (fun _ => rfl)

end Cert.Proof.Shift

end
-- ==== Proof.Mem.lean ====
/- The memory's keys and values: each layer's projection of the normalised memory, element by element, on both sides. -/
module

public import proofs.«01_k».proof.Proof.Norm
public import proofs.«01_k».proof.Proof.Gen.Kernel4Ideal.Frame
public import proofs.«01_k».proof.Proof.Gen.Reference4Ideal.Read
public import Idealize.ShloMosaic.Lib.StableHlo.ReadAt
public import Idealize.ShloMosaic.Lib.Pipeline.ValueKit

@[expose] public section

set_option maxRecDepth 16384

noncomputable section

namespace Cert.Proof.Mem

open Idealize.ShloMosaic Idealize.ShloMosaic.TcCoe Idealize.ShloMosaic.Tactic Idealize.SL.Sem
open Cert.Kernel4Ideal Cert.Kernel4Ideal.Gen

section Block
variable (x0 : Vec Ideal S1x256x1024 .f32) (x1 : Vec Ideal S2x1x1024 .f32) (x2 : Vec Ideal S2x512x1024 .bf16)

theorem layer0 (x : Vec Ideal S1x256x1024 .f32) (w : Vec Ideal S1x512x1024 .bf16) (g : Vec Ideal S1x1x1024 .f32)
    (c : Fin 512) (n : Fin 256) :
    k0_pay3 x w g (ix4 0 0 c n) =
      Norm.column (fun k => x (ix3 0 n k)) (fun k => g (ix3 0 0 k)) (fun k => w (ix3 0 c k)) := by
  unfold k0_pay3 k0_pay2
  pointwise
  exact Norm.column_comm _ _ _

theorem layer1 (x : Vec Ideal S1x256x1024 .f32) (w : Vec Ideal S1x512x1024 .bf16) (g : Vec Ideal S1x1x1024 .f32)
    (c : Fin 512) (n : Fin 256) :
    k0_pay1 (k0_pay2 x) (k0_pay4 w) (k0_pay5 g) (k0_pay6 x) (Scalar.ofBits .f32 0x358637BD#32) (ix4 0 0 c n) =
      Norm.column (fun k => x (ix3 0 n k)) (fun k => g (ix3 0 0 k)) (fun k => w (ix3 0 c k)) := by
  unfold k0_pay1 k0_pay4 k0_pay5 k0_pay6 k0_pay2
  pointwise
  exact Norm.column_comm _ _ _

/-- A point's block: both layers' projections of one batch's memory. -/
theorem out_apply (l : Fin 2) (c : Fin 512) (n : Fin 256) :
    out0_3 x0 x1 x2 (ix4 l 0 c n) =
      Norm.column (fun k => x0 (ix3 0 n k)) (fun k => x1 (ix3 l 0 k)) (fun k => x2 (ix3 l c k)) := by
  unfold out0_3
  refine View.canon_eq_of_allAt _ _ _ (cover0_3 _ _ _) ?_
  refine View.allAt_cons_unit _ _ _ _ _ ?_ (View.allAt_cons_unit _ _ _ _ _ ?_ (View.allAt_nil _ _))
  all_goals
    intro y hy
    have h0 := hy 0
    have h1 := hy 1
    have h2 := hy 2
    have h3 := hy 3
    have b0 : (y 0).val < 1 := (y 0).isLt
    have b1 : (y 1).val < 1 := (y 1).isLt
  · change l.val = 1 + (y 0).val at h0
    change c.val = 0 + (y 2).val at h2
    change n.val = 0 + (y 3).val at h3
    obtain rfl : y = ix4 (0 : Fin 1) (0 : Fin 1) c n := by
      funext a
      match a with
      | 0 => exact Fin.ext (by show (y 0).val = 0; omega)
      | 1 => exact Fin.ext (by show (y 1).val = 0; omega)
      | 2 => exact Fin.ext (by show (y 2).val = c.val; omega)
      | 3 => exact Fin.ext (by show (y 3).val = n.val; omega)
    obtain rfl : l = 1 := Fin.ext (by show l.val = 1; omega)
    rw [layer1]
    refine Norm.column_congr (fun k => ?_) (fun k => ?_) (fun k => ?_) <;> pointwise
  · change l.val = 0 + (y 0).val at h0
    change c.val = 0 + (y 2).val at h2
    change n.val = 0 + (y 3).val at h3
    obtain rfl : y = ix4 (0 : Fin 1) (0 : Fin 1) c n := by
      funext a
      match a with
      | 0 => exact Fin.ext (by show (y 0).val = 0; omega)
      | 1 => exact Fin.ext (by show (y 1).val = 0; omega)
      | 2 => exact Fin.ext (by show (y 2).val = c.val; omega)
      | 3 => exact Fin.ext (by show (y 3).val = n.val; omega)
    obtain rfl : l = 0 := Fin.ext (by show l.val = 0; omega)
    rw [layer0]
    refine Norm.column_congr (fun k => ?_) (fun k => ?_) (fun k => ?_) <;> pointwise

end Block

variable (m : (ℓ : Loc nD τ sig) → Buf (Elt Ideal) ℓ) (ρ : Dev nD → PrngReg)

def batch (t : Fin cfg0.N) : Fin 8 := ⟨(grid0.coords t 0).val, (grid0.coords t 0).isLt⟩

theorem index0 : ∀ t : Fin cfg0.N, win0_0.index t = ![(batch t).val, 0, 0] := by decide +kernel
theorem index1 : ∀ t : Fin cfg0.N, win0_1.index t = ![0, 0, 0] := by decide +kernel
theorem index2 : ∀ t : Fin cfg0.N, win0_2.index t = ![0, 0, 0] := by decide +kernel
theorem index3 : ∀ t : Fin cfg0.N, win0_3.index t = ![0, (batch t).val, 0, 0] := by decide +kernel

theorem scales (c : Dev nD) (l : Fin 2) (k : Fin 1024) :
    V m c main_v0 (ix3 l 0 k) = m (c.tc.loc main_arg1) (ix2 l k) := by
  have e : V m c main_v0 = shapeCast S2x1x1024 (m (c.tc.loc main_arg1)) shapeCasts_S2x1024_S2x1x1024 := rfl
  rw [e]
  pointwise

/-- The weights as the kernel's window holds them: columns first. -/
def stored (w : (⟨S2x1024x512, .f32⟩ : BufTy).Contents (Elt Ideal)) : (⟨S2x512x1024, .bf16⟩ : BufTy).Contents (Elt Ideal) :=
  truncf (F := Ideal) .bf16 (transpose S2x512x1024 [0, 2, 1] w transposes_S2x1024x512_S2x512x1024_0_2_1) bitsLt_bf16_f32

theorem weights (c : Dev nD) (l : Fin 2) (j : Fin 512) (k : Fin 1024) :
    V m c main_v2 (ix3 l j k) = m (c.tc.loc main_arg2) (ix3 l k j) := by
  have e : V m c main_v2 = stored (m (c.tc.loc main_arg2)) := rfl
  rw [e]
  unfold stored
  pointwise

theorem block0 (c : Dev nD) (t : Fin cfg0.N) (n : Fin 256) (k : Fin 1024) :
    iblk m c 0 t (ix3 (0 : Fin 1) n k) = m (c.tc.loc main_arg0) (ix3 (batch t) n k) := by
  rw [← V_main_arg0 m c]
  blk_simp [iblk]
  refine congrArg (V m c main_arg0) ?_
  blk_ext [index0]

theorem block1 (c : Dev nD) (t : Fin cfg0.N) (l : Fin 2) (k : Fin 1024) :
    iblk m c 1 t (ix3 l (0 : Fin 1) k) = m (c.tc.loc main_arg1) (ix2 l k) := by
  rw [← scales m c]
  blk_simp [iblk]
  refine congrArg (V m c main_v0) ?_
  blk_ext [index1]

theorem block2 (c : Dev nD) (t : Fin cfg0.N) (l : Fin 2) (j : Fin 512) (k : Fin 1024) :
    iblk m c 2 t (ix3 l j k) = m (c.tc.loc main_arg2) (ix3 l k j) := by
  rw [← weights m c]
  blk_simp [iblk]
  refine congrArg (V m c main_v2) ?_
  blk_ext [index2]

/-- What the pipeline leaves: layer, batch, column, slot. -/
def left (c : Dev nD) : S2x8x512x256.Idx → EReal := fun y =>
  Norm.column (fun k => m (c.tc.loc main_arg0) (ix3 (y 1) (y 3) k)) (fun k => m (c.tc.loc main_arg1) (ix2 (y 0) k))
    (fun k => m (c.tc.loc main_arg2) (ix3 (y 0) k (y 2)))

theorem array (c : Dev nD) : (dats m 0 c).arrAt 3 cfg0.N = left m c := by
  refine (dats m 0 c).arrAt_eq_of_covers 3 _ (by decide +kernel) fun t hf y => ?_
  rw [after0_3]
  blk_simp [index3]
  have b1 : (y 1).val < 1 := (y 1).isLt
  refine (congrArg (out0_3 _ _ _) (show y = ix4 (n0 := 2) (n1 := 1) (n2 := 512) (n3 := 256) (y 0) 0 (y 2) (y 3) from ?_)).trans
    ((out_apply _ _ _ (y 0) (y 2) (y 3)).trans ?_)
  · funext a
    match a with
    | 0 => rfl
    | 1 => exact Fin.ext (by show (y 1).val = 0; omega)
    | 2 => rfl
    | 3 => rfl
  · have e : (win0_3.blk t).view.emb y = ix4 (n0 := 2) (n1 := 8) (n2 := 512) (n3 := 256) (y 0) (batch t) (y 2) (y 3) := by
      blk_ext [index3]
    rw [e]
    exact Norm.column_congr (fun k => block0 m c t _ k) (fun k => block1 m c t _ k) (fun k => block2 m c t _ _ k)

/-- The returned array: what the pipeline leaves, the columns split in keys or values, head and lane, the slots before. -/
def turned (a : (⟨S2x8x512x256, .f32⟩ : BufTy).Contents (Elt Ideal)) : (⟨S2x8x256x2x4x64, .f32⟩ : BufTy).Contents (Elt Ideal) :=
  transpose S2x8x256x2x4x64 [0, 1, 5, 2, 3, 4] (shapeCast S2x8x2x4x64x256 a shapeCasts_S2x8x512x256_S2x8x2x4x64x256)
    transposes_S2x8x2x4x64x256_S2x8x256x2x4x64_0_1_5_2_3_4

theorem turned_apply (a : (⟨S2x8x512x256, .f32⟩ : BufTy).Contents (Elt Ideal)) (l : Fin 2) (b : Fin 8) (n : Fin 256) (e : Fin 2)
    (h : Fin 4) (d : Fin 64) :
    turned a (ix6 l b n e h d) = a (ix4 l b (⟨e.val * 256 + h.val * 64 + d.val, by omega⟩ : Fin 512) n) := by
  unfold turned
  pointwise

theorem tail (c : Dev nD) : Pipeline.afterTail₀ cfgs (dats m) 0 (V0 m) [hostOps1] c main_v5 = turned (left m c) := by
  rw [← array m c]
  refine Eq.trans (b := turned (Pipeline.withArrays spec0 c (V0 m c) (fun w => (dats m 0 c).arrAt w cfg0.N) (Proc.devRef .tc main_v3))) rfl ?_
  exact congrArg turned (Pipeline.withArrays_arr spec0 launch0.win.arr_inj c _ _ 3)

/-- The run: the result is the array left by the pipeline, turned, and the arguments are as they were. -/
theorem run : θ_run defs (onTc (τ := τ) (main (F := Ideal))) ⟨m, fun _ => 0, ρ⟩ (fun r => ∀ c : Dev nD,
    r.2.mem ((c.tc : Thread nD τ).loc main_v5) = turned (left m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  refine θ_run_mono (run_main m ρ) fun r h c => ⟨?_, ?_, ?_, ?_⟩
  · exact ((h c).2 main_v5 (Pipeline.mem_restRefs_of main_v5 (by decide) (by decide))).trans (tail m c)
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)

end Cert.Proof.Mem
namespace Cert.Proof.MemRef
open Idealize.ShloMosaic Cert.Reference4Ideal Cert.Reference4Ideal.Read

variable (x0 : Vec Ideal S8x256x1024 .f32) (x1 : Vec Ideal S2x1024 .f32) (x2 : Vec Ideal S2x1024x512 .f32)

theorem first (b : Fin 8) (n : Fin 256) (j : Fin 512) :
    val_main_v17 (F := Ideal) x0 x1 x2 (ix3 b n j) =
      Norm.column (fun k => x0 (ix3 b n k)) (fun k => x1 (ix2 0 k)) (fun k => x2 (ix3 0 k j)) := by
  unfold val_main_v17 val_main_v16 val_main_v15 val_main_v14 val_main_v13 val_main_v12 val_main_v11 val_main_v10 val_main_v9
    val_main_v8 val_main_v7 val_main_v6 val_main_v5 val_main_v4 val_main_v3 val_main_v2 val_main_v1 val_main_v0 val_main_cst
    val_main_cst_0 val_main_cst_1
  pointwise
  rfl

theorem second (b : Fin 8) (n : Fin 256) (j : Fin 512) :
    val_main_v36 (F := Ideal) x0 x1 x2 (ix3 b n j) =
      Norm.column (fun k => x0 (ix3 b n k)) (fun k => x1 (ix2 1 k)) (fun k => x2 (ix3 1 k j)) := by
  unfold val_main_v36 val_main_v35 val_main_v34 val_main_v33 val_main_v32 val_main_v31 val_main_v30 val_main_v29 val_main_v28
    val_main_v27 val_main_v26 val_main_v25 val_main_v24 val_main_v23 val_main_v22 val_main_v21 val_main_v20 val_main_v19
    val_main_cst_2 val_main_cst_3 val_main_cst_4
  pointwise
  rfl

theorem result (l : Fin 2) (b : Fin 8) (n : Fin 256) (e : Fin 2) (h : Fin 4) (d : Fin 64) :
    val_main_v40 (F := Ideal) x0 x1 x2 (ix6 l b n e h d) =
      Norm.column (fun k => x0 (ix3 b n k)) (fun k => x1 (ix2 l k))
        (fun k => x2 (ix3 l k (⟨e.val * 256 + h.val * 64 + d.val, by omega⟩ : Fin 512))) := by
  match l with
  | 0 =>
    unfold val_main_v40 val_main_v38 val_main_v18
    pointwise
    exact first x0 x1 x2 _ _ _
  | 1 =>
    unfold val_main_v40 val_main_v39 val_main_v37
    pointwise
    exact second x0 x1 x2 _ _ _

end Cert.Proof.MemRef

namespace Cert.Proof.Mem

open Idealize.ShloMosaic Idealize.ShloMosaic.TcCoe Cert.Kernel4Ideal

/-- The kernel's result is the reference's. -/
theorem agree (m : (ℓ : Loc nD τ sig) → Buf (Elt Ideal) ℓ) (c : Dev nD) :
    Cert.Reference4Ideal.Read.val_main_v40 (F := Ideal) (m (c.tc.loc main_arg0)) (m (c.tc.loc main_arg1)) (m (c.tc.loc main_arg2))
      = turned (left m c) := by
  funext y
  rw [eq_ix6 (n0 := 2) (n1 := 8) (n2 := 256) (n3 := 2) (n4 := 4) (n5 := 64) y]
  exact (MemRef.result _ _ _ _ _ _ _ _ _).trans (turned_apply (left m c) _ _ _ _ _ _).symm

end Cert.Proof.Mem

end
-- ==== Proof.Sample.lean ====
/- The first layer's projection at the sample rows: the new rows of the keys and values, group by group, on both sides. The rows are
   padded from four to eight in every sample; the results leave the padding out. -/
module

public import proofs.«01_k».proof.Proof.Entry
public import proofs.«01_k».proof.Proof.Gen.Kernel5Ideal.Frame
public import proofs.«01_k».proof.Proof.Gen.Reference5Ideal.Read
public import Idealize.ShloMosaic.Lib.StableHlo.ReadAt
public import Idealize.ShloMosaic.Lib.KernelVsHost
public import Idealize.ShloMosaic.Lib.Pipeline.ValueKit

@[expose] public section

set_option maxRecDepth 16384

noncomputable section

namespace Cert.Proof.Sample

open Idealize.ShloMosaic Idealize.ShloMosaic.TcCoe Idealize.ShloMosaic.Tactic Idealize.SL.Sem
open Cert.Kernel5Ideal Cert.Kernel5Ideal.Gen

section Pieces
variable (x0 : Vec Ideal S256x1024 .f32) (x1 : Vec Ideal S1x1024 .f32) (x2 : Vec Ideal S1024x3072 .bf16)

/-- A row of the block against a column of the weights. -/
def proj (r : Fin 256) (j : Fin 3072) : EReal :=
  Norm.column (fun k => x0 (ix2 r k)) (fun k => x1 (ix2 0 k)) (fun k => x2 (ix2 k j))

theorem proj_congr {r r' : Fin 256} {j j' : Fin 3072} (hr : r.val = r'.val) (hj : j.val = j'.val) :
    proj x0 x1 x2 r j = proj x0 x1 x2 r' j' := by
  rw [Fin.ext hr, Fin.ext hj]

/-- The columns from `base` on. -/
def cols (base : ℕ) (inb : ∀ a, (![0, base] : Fin 2 → ℕ) a + (![1024, 256] : Fin 2 → ℕ) a ≤ S1024x3072.size a) : Vec Ideal S1024x256 .bf16 :=
  View.ld x2 (Rect.unit (s := S1024x3072) ![0, base] ![1024, 256] inb)

theorem base_le {base : ℕ} (inb : ∀ a, (![0, base] : Fin 2 → ℕ) a + (![1024, 256] : Fin 2 → ℕ) a ≤ S1024x3072.size a) :
    base + 256 ≤ 3072 := inb 1

theorem cols_apply (base : ℕ) (inb) (k : Fin 1024) (j : Fin 256) :
    cols x2 base inb (ix2 k j) = x2 (ix2 k ⟨base + j.val, by have := base_le inb; omega⟩) := by
  refine congrArg x2 ?_
  funext a
  match a with
  | 0 => exact Fin.ext (by show 0 + 1 * k.val = k.val; omega)
  | 1 => exact Fin.ext (by show base + 1 * j.val = base + j.val; omega)

theorem product_apply (base : ℕ) (inb) (r : Fin 256) (j : Fin 256) :
    k0_pay9 (F := Ideal) (k0_pay3 x0 x1) (cols x2 base inb) (ix2 r j) =
      proj x0 x1 x2 r ⟨base + j.val, by have := base_le inb; omega⟩ := by
  have e : k0_pay9 (F := Ideal) (k0_pay3 x0 x1) (cols x2 base inb) (ix2 r j) =
      Norm.column (fun k => x0 (ix2 r k)) (fun k => x1 (ix2 0 k)) (fun k => cols x2 base inb (ix2 k j)) := by
    generalize cols x2 base inb = w
    unfold k0_pay9 k0_pay3
    pointwise
    rfl
  exact e.trans (Norm.column_congr (fun _ => rfl) (fun _ => rfl) (fun k => cols_apply x2 base inb k j))

/-- Products side by side in a block of two. -/
theorem flat_tile (base : ℕ) (inb) (lane : ℕ) (r : Fin 256) (n : Fin 512) (j : Fin 3072)
    (h : ∀ l : ℕ, l < 256 → n.val = lane + l → j.val = base + l) :
    View.TileAt (Val := Elt Ideal) (e := .f32) (S := S256x512) (ix2 r n) ![0, lane] ![256, 256]
      (k0_pay9 (F := Ideal) (k0_pay3 x0 x1) (cols x2 base inb)) (proj x0 x1 x2 r j) := by
  intro x hx
  have h1 : r.val = 0 + (x 0).val := hx 0
  have h2 : n.val = lane + (x 1).val := hx 1
  have hl : (x 1).val < 256 := (x 1).isLt
  have hj := h (x 1).val hl h2
  rw [eq_ix2 (n0 := 256) (n1 := 256) x]
  exact (product_apply x0 x1 x2 base inb (x 0) (x 1)).trans
    (proj_congr x0 x1 x2 (by omega) hj.symm)

end Pieces

variable (m : (ℓ : Loc nD τ sig) → Buf (Elt Ideal) ℓ) (ρ : Dev nD → PrngReg)

/-- The block's row against a column, at a point of the grid. -/
def at_ (c : Dev nD) (t : Fin cfg0.N) (r : Fin 256) (j : Fin 3072) : EReal :=
  proj (iblk m c 0 t) (iblk m c 1 t) (iblk m c 2 t) r j

theorem out6 (c : Dev nD) (t : Fin cfg0.N) (r : Fin 256) (n : Fin 512) :
    (outsAt0 m c t).2.2.2.1 (ix2 r n) = at_ m c t r ⟨Entry.pair 0 n.val, Entry.pair_lt _ _ (by decide)⟩ := by
  unfold outsAt0
  frame_out
  refine View.canon_eq_of_allAt _ _ _ (View.cover_of_tiled_head _ _ _ rfl _) ?_
  refine View.allAt_cons_unit _ _ _ _ _ (flat_tile _ _ _ 1536 _ _ _ _ _ (by intro l hl hn; dsimp only [Entry.pair] at hn ⊢; omega)) ?_
  refine View.allAt_cons_unit _ _ _ _ _ (flat_tile _ _ _ 768 _ _ _ _ _ (by intro l hl hn; dsimp only [Entry.pair] at hn ⊢; omega)) ?_
  exact View.allAt_nil _ _

theorem out7 (c : Dev nD) (t : Fin cfg0.N) (r : Fin 256) (n : Fin 512) :
    (outsAt0 m c t).2.2.2.2.1 (ix2 r n) = at_ m c t r ⟨Entry.pair 1 n.val, Entry.pair_lt _ _ (by decide)⟩ := by
  unfold outsAt0
  frame_out
  refine View.canon_eq_of_allAt _ _ _ (View.cover_of_tiled_head _ _ _ rfl _) ?_
  refine View.allAt_cons_unit _ _ _ _ _ (flat_tile _ _ _ 1792 _ _ _ _ _ (by intro l hl hn; dsimp only [Entry.pair] at hn ⊢; omega)) ?_
  refine View.allAt_cons_unit _ _ _ _ _ (flat_tile _ _ _ 1024 _ _ _ _ _ (by intro l hl hn; dsimp only [Entry.pair] at hn ⊢; omega)) ?_
  exact View.allAt_nil _ _

theorem out8 (c : Dev nD) (t : Fin cfg0.N) (r : Fin 256) (n : Fin 512) :
    (outsAt0 m c t).2.2.2.2.2.1 (ix2 r n) = at_ m c t r ⟨Entry.pair 2 n.val, Entry.pair_lt _ _ (by decide)⟩ := by
  unfold outsAt0
  frame_out
  refine View.canon_eq_of_allAt _ _ _ (View.cover_of_tiled_head _ _ _ rfl _) ?_
  refine View.allAt_cons_unit _ _ _ _ _ (flat_tile _ _ _ 2048 _ _ _ _ _ (by intro l hl hn; dsimp only [Entry.pair] at hn ⊢; omega)) ?_
  refine View.allAt_cons_unit _ _ _ _ _ (flat_tile _ _ _ 1280 _ _ _ _ _ (by intro l hl hn; dsimp only [Entry.pair] at hn ⊢; omega)) ?_
  exact View.allAt_nil _ _

/-- The rows, padded to eight in every sample, in one list. -/
def rows (x : (⟨S32x4x1024, .f32⟩ : BufTy).Contents (Elt Ideal)) : (⟨S256x1024, .f32⟩ : BufTy).Contents (Elt Ideal) :=
  shapeCast S256x1024 (pad S32x8x1024 ![0, 0, 0] ![0, 4, 0] ![0, 0, 0] x (sitofp (F := Ideal) .f32 (constantI S_ 32 0#32))
    pads_S32x4x1024_S32x8x1024_000_040_000 h_S_) shapeCasts_S32x8x1024_S256x1024

/-- The first layer's scales. -/
def scales (g : (⟨S2x1024, .f32⟩ : BufTy).Contents (Elt Ideal)) : (⟨S1x1024, .f32⟩ : BufTy).Contents (Elt Ideal) :=
  shapeCast S1x1024 (shapeCast S1024 (extractStridedSlice S1x1024 ![0, 0] g slices_S2x1024_S1x1024_0_0) shapeCasts_S1x1024_S1024)
    shapeCasts_S1024_S1x1024

/-- The weights. -/
def weights (w : (⟨S1x1024x3072, .f32⟩ : BufTy).Contents (Elt Ideal)) : (⟨S1024x3072, .bf16⟩ : BufTy).Contents (Elt Ideal) :=
  truncf (F := Ideal) .bf16 (shapeCast S1024x3072 w shapeCasts_S1x1024x3072_S1024x3072) bitsLt_bf16_f32

theorem rows_at (x : (⟨S32x4x1024, .f32⟩ : BufTy).Contents (Elt Ideal)) (b : Fin 32) (n : Fin 4) (k : Fin 1024) :
    rows x (ix2 (⟨b.val * 8 + n.val, by omega⟩ : Fin 256) k) = x (ix3 b n k) := by
  unfold rows
  refine (shapeCast_apply _ _ _ (ix3 b (⟨n.val, by omega⟩ : Fin 8) k) ?_).trans ?_
  · rewrite [Shape.rowMajor_val_three, Shape.rowMajor_val_two]
    show (b.val * 8 + n.val) * 1024 + k.val = (b.val * 8 + n.val) * 1024 + k.val
    rfl
  · refine pad_apply_of_inside _ _ _ _ _ _ _ _ (ix3 b n k) fun a => ?_
    match a with
    | 0 => show b.val = 0 + b.val * (0 + 1); omega
    | 1 => show n.val = 0 + n.val * (0 + 1); omega
    | 2 => show k.val = 0 + k.val * (0 + 1); omega

theorem scales_apply (g : (⟨S2x1024, .f32⟩ : BufTy).Contents (Elt Ideal)) (k : Fin 1024) :
    scales g (ix2 0 k) = g (ix2 0 k) := by
  unfold scales
  pointwise

theorem weights_apply (w : (⟨S1x1024x3072, .f32⟩ : BufTy).Contents (Elt Ideal)) (k : Fin 1024) (j : Fin 3072) :
    weights w (ix2 k j) = w (ix3 0 k j) := by
  unfold weights
  pointwise

theorem index0 : ∀ t : Fin cfg0.N, win0_0.index t = ![0, 0] := by decide +kernel
theorem index1 : ∀ t : Fin cfg0.N, win0_1.index t = ![0, 0] := by decide +kernel
theorem index2 : ∀ t : Fin cfg0.N, win0_2.index t = ![0, 0] := by decide +kernel
theorem index6 : ∀ t : Fin cfg0.N, win0_6.index t = ![0, 0] := by decide +kernel
theorem index7 : ∀ t : Fin cfg0.N, win0_7.index t = ![0, 0] := by decide +kernel
theorem index8 : ∀ t : Fin cfg0.N, win0_8.index t = ![0, 0] := by decide +kernel

theorem block0 (c : Dev nD) (t : Fin cfg0.N) (r : Fin 256) (k : Fin 1024) :
    iblk m c 0 t (ix2 r k) = rows (m (c.tc.loc main_arg0)) (ix2 r k) := by
  have e : V m c main_v1 = rows (m (c.tc.loc main_arg0)) := rfl
  rw [← e]
  blk_simp [iblk]
  refine congrArg (V m c main_v1) ?_
  blk_ext [index0]

theorem block1 (c : Dev nD) (t : Fin cfg0.N) (k : Fin 1024) :
    iblk m c 1 t (ix2 (0 : Fin 1) k) = m (c.tc.loc main_arg1) (ix2 0 k) := by
  have e : V m c main_v5 = scales (m (c.tc.loc main_arg1)) := rfl
  rw [← scales_apply (m (c.tc.loc main_arg1)), ← e]
  blk_simp [iblk]
  refine congrArg (V m c main_v5) ?_
  blk_ext [index1]

theorem block2 (c : Dev nD) (t : Fin cfg0.N) (k : Fin 1024) (j : Fin 3072) :
    iblk m c 2 t (ix2 k j) = m (c.tc.loc main_arg2) (ix3 0 k j) := by
  have e : V m c main_v6 = weights (m (c.tc.loc main_arg2)) := rfl
  rw [← weights_apply (m (c.tc.loc main_arg2)), ← e]
  blk_simp [iblk]
  refine congrArg (V m c main_v6) ?_
  blk_ext [index2]

/-- What the pipeline leaves of group `i`'s keys and values. -/
def left (c : Dev nD) (i : Fin 3) : S256x512.Idx → EReal := fun y =>
  Norm.column (fun k => rows (m (c.tc.loc main_arg0)) (ix2 (y 0) k)) (fun k => m (c.tc.loc main_arg1) (ix2 0 k))
    (fun k => m (c.tc.loc main_arg2) (ix3 0 k (⟨Entry.pair i.val (y 1).val, Entry.pair_lt _ _ i.isLt⟩ : Fin 3072)))

theorem at_eq (c : Dev nD) (t : Fin cfg0.N) (r : Fin 256) (j : Fin 3072) :
    at_ m c t r j = Norm.column (fun k => rows (m (c.tc.loc main_arg0)) (ix2 r k)) (fun k => m (c.tc.loc main_arg1) (ix2 0 k))
      (fun k => m (c.tc.loc main_arg2) (ix3 0 k j)) := by
  unfold at_ proj
  exact Norm.column_congr (fun k => block0 m c t r k) (fun k => block1 m c t k) (fun k => block2 m c t k j)

/-- The new rows of every sample, the columns split in keys or values, head and lane. -/
def newest (a : (⟨S256x512, .f32⟩ : BufTy).Contents (Elt Ideal)) : (⟨S1x32x4x2x4x64, .f32⟩ : BufTy).Contents (Elt Ideal) :=
  broadcastInDim S1x32x4x2x4x64 ![1, 2, 3, 4, 5] bcast_S32x4x2x4x64_S1x32x4x2x4x64_1_2_3_4_5
    (extractStridedSlice S32x4x2x4x64 ![0, 0, 0, 0, 0] (shapeCast S32x8x2x4x64 a shapeCasts_S256x512_S32x8x2x4x64)
      slices_S32x8x2x4x64_S32x4x2x4x64_0_0_0_0_0)

theorem newest_apply (a : (⟨S256x512, .f32⟩ : BufTy).Contents (Elt Ideal)) (b : Fin 32) (n : Fin 4) (e : Fin 2) (h : Fin 4) (d : Fin 64) :
    newest a (ix6 (0 : Fin 1) b n e h d) =
      a (ix2 (⟨b.val * 8 + n.val, by omega⟩ : Fin 256) (⟨e.val * 256 + h.val * 64 + d.val, by omega⟩ : Fin 512)) := by
  have f : shapeCast S32x8x2x4x64 a shapeCasts_S256x512_S32x8x2x4x64 (ix5 b (⟨n.val, by omega⟩ : Fin 8) e h d) =
      a (ix2 (⟨b.val * 8 + n.val, by omega⟩ : Fin 256) (⟨e.val * 256 + h.val * 64 + d.val, by omega⟩ : Fin 512)) := by
    refine shapeCast_apply _ _ _ _ ?_
    rewrite [Shape.rowMajor_val_two, Shape.rowMajor_val_five]
    show (b.val * 8 + n.val) * 512 + (e.val * 256 + h.val * 64 + d.val) = (((b.val * 8 + n.val) * 2 + e.val) * 4 + h.val) * 64 + d.val
    omega
  refine Eq.trans ?_ f
  unfold newest
  generalize shapeCast S32x8x2x4x64 a shapeCasts_S256x512_S32x8x2x4x64 = p
  pointwise

theorem array0 (c : Dev nD) : (dats m 0 c).arrAt 6 cfg0.N = left m c 0 := by
  refine (dats m 0 c).arrAt_eq_of_covers 6 _ (by decide +kernel) fun t hf y => ?_
  rw [after0_6]
  blk_simp [index6]
  refine (congrArg (outsAt0 m c t).2.2.2.1 (eq_ix2 (n0 := 256) (n1 := 512) y)).trans ((out6 m c t (y 0) (y 1)).trans ?_)
  have e : (win0_6.blk t).view.emb y = ix2 (n0 := 256) (n1 := 512) (y 0) (y 1) := by
    blk_ext [index6]
  rw [e]
  exact at_eq m c t _ _

theorem tail0 (c : Dev nD) : Pipeline.afterTail₀ cfgs (dats m) 0 (V0 m) [hostOps1] c main_v10 = newest (left m c 0) := by
  rw [← array0 m c]
  refine Eq.trans (b := newest (Pipeline.withArrays spec0 c (V0 m c) (fun w => (dats m 0 c).arrAt w cfg0.N) (Proc.devRef .tc main_v7_3))) rfl ?_
  exact congrArg newest (Pipeline.withArrays_arr spec0 launch0.win.arr_inj c _ _ 6)

theorem array1 (c : Dev nD) : (dats m 0 c).arrAt 7 cfg0.N = left m c 1 := by
  refine (dats m 0 c).arrAt_eq_of_covers 7 _ (by decide +kernel) fun t hf y => ?_
  rw [after0_7]
  blk_simp [index7]
  refine (congrArg (outsAt0 m c t).2.2.2.2.1 (eq_ix2 (n0 := 256) (n1 := 512) y)).trans ((out7 m c t (y 0) (y 1)).trans ?_)
  have e : (win0_7.blk t).view.emb y = ix2 (n0 := 256) (n1 := 512) (y 0) (y 1) := by
    blk_ext [index7]
  rw [e]
  exact at_eq m c t _ _

theorem tail1 (c : Dev nD) : Pipeline.afterTail₀ cfgs (dats m) 0 (V0 m) [hostOps1] c main_v13 = newest (left m c 1) := by
  rw [← array1 m c]
  refine Eq.trans (b := newest (Pipeline.withArrays spec0 c (V0 m c) (fun w => (dats m 0 c).arrAt w cfg0.N) (Proc.devRef .tc main_v7_4))) rfl ?_
  exact congrArg newest (Pipeline.withArrays_arr spec0 launch0.win.arr_inj c _ _ 7)

theorem array2 (c : Dev nD) : (dats m 0 c).arrAt 8 cfg0.N = left m c 2 := by
  refine (dats m 0 c).arrAt_eq_of_covers 8 _ (by decide +kernel) fun t hf y => ?_
  rw [after0_8]
  blk_simp [index8]
  refine (congrArg (outsAt0 m c t).2.2.2.2.2.1 (eq_ix2 (n0 := 256) (n1 := 512) y)).trans ((out8 m c t (y 0) (y 1)).trans ?_)
  have e : (win0_8.blk t).view.emb y = ix2 (n0 := 256) (n1 := 512) (y 0) (y 1) := by
    blk_ext [index8]
  rw [e]
  exact at_eq m c t _ _

theorem tail2 (c : Dev nD) : Pipeline.afterTail₀ cfgs (dats m) 0 (V0 m) [hostOps1] c main_v16 = newest (left m c 2) := by
  rw [← array2 m c]
  refine Eq.trans (b := newest (Pipeline.withArrays spec0 c (V0 m c) (fun w => (dats m 0 c).arrAt w cfg0.N) (Proc.devRef .tc main_v7_5))) rfl ?_
  exact congrArg newest (Pipeline.withArrays_arr spec0 launch0.win.arr_inj c _ _ 8)

/-- The run: the results are the new rows of the last three arrays, and the arguments are as they were. -/
theorem run : θ_run defs (onTc (τ := τ) (main (F := Ideal))) ⟨m, fun _ => 0, ρ⟩ (fun r => ∀ c : Dev nD,
    r.2.mem ((c.tc : Thread nD τ).loc main_v10) = newest (left m c 0)
    ∧ r.2.mem ((c.tc : Thread nD τ).loc main_v13) = newest (left m c 1)
    ∧ r.2.mem ((c.tc : Thread nD τ).loc main_v16) = newest (left m c 2)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  refine θ_run_mono (run_main m ρ) fun r h c => ⟨?_, ?_, ?_, ?_, ?_, ?_⟩
  · exact ((h c).2 main_v10 (Pipeline.mem_restRefs_of main_v10 (by decide) (by decide))).trans (tail0 m c)
  · exact ((h c).2 main_v13 (Pipeline.mem_restRefs_of main_v13 (by decide) (by decide))).trans (tail1 m c)
  · exact ((h c).2 main_v16 (Pipeline.mem_restRefs_of main_v16 (by decide) (by decide))).trans (tail2 m c)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)

end Cert.Proof.Sample

namespace Cert.Proof.SampleRef

open Idealize.ShloMosaic Cert.Reference5Ideal Cert.Reference5Ideal.Read

variable (x0 : Vec Ideal S32x4x1024 .f32) (x1 : Vec Ideal S2x1024 .f32) (x2 : Vec Ideal S1x1024x3072 .f32)

theorem product (b : Fin 32) (n : Fin 4) (j : Fin 3072) :
    val_main_v16 (F := Ideal) x0 x1 x2 (ix3 b n j) =
      Norm.column (fun k => x0 (ix3 b n k)) (fun k => x1 (ix2 0 k)) (fun k => x2 (ix3 0 k j)) := by
  unfold val_main_v16 val_main_v15 val_main_v14 val_main_v13 val_main_v12 val_main_v11 val_main_v10 val_main_v9
    val_main_v8 val_main_v7 val_main_v6 val_main_v5 val_main_v4 val_main_v3 val_main_v2 val_main_v1 val_main_v0 val_main_cst
    val_main_cst_0 val_main_cst_1
  pointwise
  rfl

theorem at_congr (p : Vec Ideal S32x4x3072 .f32) {b : Fin 32} {n : Fin 4} {j j' : Fin 3072} (hj : j.val = j'.val) :
    p (ix3 b n j) = p (ix3 b n j') := by
  rw [Fin.ext hj]

/-- The first columns, split in query, key or value, head and lane. -/
theorem split (b : Fin 32) (n : Fin 4) (a : Fin 3) (h : Fin 12) (d : Fin 64) :
    val_main_v18 (F := Ideal) x0 x1 x2 (ix5 b n a h d) =
      val_main_v16 (F := Ideal) x0 x1 x2 (ix3 b n (⟨a.val * 768 + h.val * 64 + d.val, by omega⟩ : Fin 3072)) := by
  unfold val_main_v18
  refine (shapeCast_apply _ _ _ (ix3 b n (⟨a.val * 768 + h.val * 64 + d.val, by omega⟩ : Fin 2304)) ?_).trans ?_
  · rewrite [Shape.rowMajor_val_three, Shape.rowMajor_val_five]
    show (b.val * 4 + n.val) * 2304 + (a.val * 768 + h.val * 64 + d.val) =
      (((b.val * 4 + n.val) * 3 + a.val) * 12 + h.val) * 64 + d.val
    omega
  · unfold val_main_v17
    generalize val_main_v16 (F := Ideal) x0 x1 x2 = p
    pointwise

theorem result0 (b : Fin 32) (n : Fin 4) (e : Fin 2) (h : Fin 4) (d : Fin 64) :
    val_main_v21 (F := Ideal) x0 x1 x2 (ix6 (0 : Fin 1) b n e h d) =
      Norm.column (fun k => x0 (ix3 b n k)) (fun k => x1 (ix2 0 k))
        (fun k => x2 (ix3 0 k (⟨Entry.pair 0 (e.val * 256 + h.val * 64 + d.val), Entry.pair_lt _ _ (by decide)⟩ : Fin 3072))) := by
  refine Eq.trans ?_ (product x0 x1 x2 _ _ _)
  refine Eq.trans (b := val_main_v18 (F := Ideal) x0 x1 x2 (ix5 b n (⟨1 + e.val, by omega⟩ : Fin 3) (⟨0 + h.val, by omega⟩ : Fin 12) d)) ?_
    ((split x0 x1 x2 b n _ _ d).trans (at_congr _ ?_))
  · unfold val_main_v21 val_main_v20 val_main_v19
    generalize val_main_v18 (F := Ideal) x0 x1 x2 = p
    pointwise
  · show (1 + e.val) * 768 + (0 + h.val) * 64 + d.val = Entry.pair 0 (e.val * 256 + h.val * 64 + d.val)
    unfold Entry.pair
    omega

theorem result1 (b : Fin 32) (n : Fin 4) (e : Fin 2) (h : Fin 4) (d : Fin 64) :
    val_main_v23 (F := Ideal) x0 x1 x2 (ix6 (0 : Fin 1) b n e h d) =
      Norm.column (fun k => x0 (ix3 b n k)) (fun k => x1 (ix2 0 k))
        (fun k => x2 (ix3 0 k (⟨Entry.pair 1 (e.val * 256 + h.val * 64 + d.val), Entry.pair_lt _ _ (by decide)⟩ : Fin 3072))) := by
  refine Eq.trans ?_ (product x0 x1 x2 _ _ _)
  refine Eq.trans (b := val_main_v18 (F := Ideal) x0 x1 x2 (ix5 b n (⟨1 + e.val, by omega⟩ : Fin 3) (⟨4 + h.val, by omega⟩ : Fin 12) d)) ?_
    ((split x0 x1 x2 b n _ _ d).trans (at_congr _ ?_))
  · unfold val_main_v23 val_main_v22 val_main_v19
    generalize val_main_v18 (F := Ideal) x0 x1 x2 = p
    pointwise
  · show (1 + e.val) * 768 + (4 + h.val) * 64 + d.val = Entry.pair 1 (e.val * 256 + h.val * 64 + d.val)
    unfold Entry.pair
    omega

theorem result2 (b : Fin 32) (n : Fin 4) (e : Fin 2) (h : Fin 4) (d : Fin 64) :
    val_main_v25 (F := Ideal) x0 x1 x2 (ix6 (0 : Fin 1) b n e h d) =
      Norm.column (fun k => x0 (ix3 b n k)) (fun k => x1 (ix2 0 k))
        (fun k => x2 (ix3 0 k (⟨Entry.pair 2 (e.val * 256 + h.val * 64 + d.val), Entry.pair_lt _ _ (by decide)⟩ : Fin 3072))) := by
  refine Eq.trans ?_ (product x0 x1 x2 _ _ _)
  refine Eq.trans (b := val_main_v18 (F := Ideal) x0 x1 x2 (ix5 b n (⟨1 + e.val, by omega⟩ : Fin 3) (⟨8 + h.val, by omega⟩ : Fin 12) d)) ?_
    ((split x0 x1 x2 b n _ _ d).trans (at_congr _ ?_))
  · unfold val_main_v25 val_main_v24 val_main_v19
    generalize val_main_v18 (F := Ideal) x0 x1 x2 = p
    pointwise
  · show (1 + e.val) * 768 + (8 + h.val) * 64 + d.val = Entry.pair 2 (e.val * 256 + h.val * 64 + d.val)
    unfold Entry.pair
    omega

end Cert.Proof.SampleRef

namespace Cert.Proof.Sample

open Idealize.ShloMosaic Idealize.ShloMosaic.TcCoe Cert.Kernel5Ideal

theorem agree0 (m : (ℓ : Loc nD τ sig) → Buf (Elt Ideal) ℓ) (c : Dev nD) :
    Cert.Reference5Ideal.Read.val_main_v21 (F := Ideal) (m (c.tc.loc main_arg0)) (m (c.tc.loc main_arg1)) (m (c.tc.loc main_arg2)) = newest (left m c 0) := by
  funext y
  have b0 : (y 0).val < 1 := (y 0).isLt
  have e : y = ix6 (n0 := 1) (n1 := 32) (n2 := 4) (n3 := 2) (n4 := 4) (n5 := 64) 0 (y 1) (y 2) (y 3) (y 4) (y 5) := by
    funext a
    match a with
    | 0 => exact Fin.ext (by show (y 0).val = 0; omega)
    | 1 => rfl
    | 2 => rfl
    | 3 => rfl
    | 4 => rfl
    | 5 => rfl
  rw [e]
  refine (SampleRef.result0 _ _ _ (y 1) (y 2) (y 3) (y 4) (y 5)).trans
    (Eq.trans ?_ (newest_apply (left m c 0) (y 1) (y 2) (y 3) (y 4) (y 5)).symm)
  exact Norm.column_congr (fun k => (rows_at _ (y 1) (y 2) k).symm) (fun _ => rfl) (fun _ => rfl)

theorem agree1 (m : (ℓ : Loc nD τ sig) → Buf (Elt Ideal) ℓ) (c : Dev nD) :
    Cert.Reference5Ideal.Read.val_main_v23 (F := Ideal) (m (c.tc.loc main_arg0)) (m (c.tc.loc main_arg1)) (m (c.tc.loc main_arg2)) = newest (left m c 1) := by
  funext y
  have b0 : (y 0).val < 1 := (y 0).isLt
  have e : y = ix6 (n0 := 1) (n1 := 32) (n2 := 4) (n3 := 2) (n4 := 4) (n5 := 64) 0 (y 1) (y 2) (y 3) (y 4) (y 5) := by
    funext a
    match a with
    | 0 => exact Fin.ext (by show (y 0).val = 0; omega)
    | 1 => rfl
    | 2 => rfl
    | 3 => rfl
    | 4 => rfl
    | 5 => rfl
  rw [e]
  refine (SampleRef.result1 _ _ _ (y 1) (y 2) (y 3) (y 4) (y 5)).trans
    (Eq.trans ?_ (newest_apply (left m c 1) (y 1) (y 2) (y 3) (y 4) (y 5)).symm)
  exact Norm.column_congr (fun k => (rows_at _ (y 1) (y 2) k).symm) (fun _ => rfl) (fun _ => rfl)

theorem agree2 (m : (ℓ : Loc nD τ sig) → Buf (Elt Ideal) ℓ) (c : Dev nD) :
    Cert.Reference5Ideal.Read.val_main_v25 (F := Ideal) (m (c.tc.loc main_arg0)) (m (c.tc.loc main_arg1)) (m (c.tc.loc main_arg2)) = newest (left m c 2) := by
  funext y
  have b0 : (y 0).val < 1 := (y 0).isLt
  have e : y = ix6 (n0 := 1) (n1 := 32) (n2 := 4) (n3 := 2) (n4 := 4) (n5 := 64) 0 (y 1) (y 2) (y 3) (y 4) (y 5) := by
    funext a
    match a with
    | 0 => exact Fin.ext (by show (y 0).val = 0; omega)
    | 1 => rfl
    | 2 => rfl
    | 3 => rfl
    | 4 => rfl
    | 5 => rfl
  rw [e]
  refine (SampleRef.result2 _ _ _ (y 1) (y 2) (y 3) (y 4) (y 5)).trans
    (Eq.trans ?_ (newest_apply (left m c 2) (y 1) (y 2) (y 3) (y 4) (y 5)).symm)
  exact Norm.column_congr (fun k => (rows_at _ (y 1) (y 2) k).symm) (fun _ => rfl) (fun _ => rfl)

end Cert.Proof.Sample

end
-- ==== Proof.MemHead.lean ====
/- The end of the second layer, on tiles: one pair of the memory's heads on 128 rows, and the products, the gate and the
   normalisation on 256 rows, read at an element. -/
module

public import proofs.«01_k».proof.Proof.Norm
public import proofs.«01_k».proof.Proof.Rows
public import proofs.«01_k».proof.Proof.Gen.Kernel6Ideal.Frame
public import Idealize.ShloMosaic.Lib.Pointwise

@[expose] public section

set_option maxRecDepth 16384

noncomputable section

namespace Cert.Proof.MemHead

open Idealize.ShloMosaic Cert.Kernel6Ideal Cert.Kernel6Ideal.Gen

/-- The largest of a row of scores against the memory. -/
def topAt (f : Fin 256 → EReal) : EReal := Finset.univ.fold max ⊥ f

/-- The softmax of a row of scores, applied to a row of values: the weighted sum by the weights' sum. -/
def softAt (f v : Fin 256 → EReal) : EReal :=
  Ideal.div (∑ j, Ideal.exp (f j - topAt f) * v j) (∑ j, Ideal.exp (f j - topAt f))

theorem softAt_congr {f f' v v' : Fin 256 → EReal} (hf : ∀ j, f j = f' j) (hv : ∀ j, v j = v' j) : softAt f v = softAt f' v' := by
  rw [funext hf, funext hv]

/-- The scores of queries against the memory's keys. -/
def scores (off : ℕ) (h : S512x256.Slices ![off, 0] S128x256) (kv : FVec Ideal S512x256 .bf16) (q : FVec Ideal S128x128 .bf16) :
    FVec Ideal S128x256 .f32 :=
  matmul dot_S128x128_S128x256_S128x256_1_0_0_1_n_n none q (extractStridedSlice S128x256 ![off, 0] kv h)
    (constant S128x256 .f32 0x00000000#32)

/-- The weighted values of a row of scores by the weights' sum. -/
def attend (off : ℕ) (h : S512x256.Slices ![off, 0] S128x256) (kv : FVec Ideal S512x256 .bf16) (z : FVec Ideal S128x256 .f32) :
    FVec Ideal S128x128 .f32 :=
  divf (matmul dot_S128x256_S128x256_S128x128_1_1_0_0_n_n none (truncf .bf16 (k0_pay46 z) bitsLt_bf16_f32)
      (extractStridedSlice S128x256 ![off, 0] kv h) (constant S128x128 .f32 0x00000000#32))
    (broadcastTo S128x128 (k0_pay63 (k0_pay46 z)) broadcasts_S128x1_S128x128)

/-- A tile of a pair of heads: each half of the lanes is one head's. -/
def tile (ko vo : ℕ) (hk : S512x256.Slices ![ko, 0] S128x256) (hv : S512x256.Slices ![vo, 0] S128x256)
    (kv : FVec Ideal S512x256 .bf16) (q : FVec Ideal S128x128 .f32) : FVec Ideal S128x128 .f32 :=
  shapeCast S128x128 (select k0_pay9 (attend vo hv kv (scores ko hk kv (k0_pay10 q))) (attend vo hv kv (scores ko hk kv (k0_pay11 q))))
    shapeCasts_S128x128_S128x128

theorem low_apply (r c : Fin 128) : k0_pay9 (ix2 r c) = if c.val < 64 then 1#1 else 0#1 := by
  revert c; unfold k0_pay9; pointwise
  decide +kernel

theorem first_apply (q : FVec Ideal S128x128 .f32) (r c : Fin 128) :
    k0_pay10 (F := Ideal) q (ix2 r c) = if c.val < 64 then q (ix2 r c) * Scalar.ofBits (F := Ideal) .f32 0x3E000000#32 else 0 := by
  unfold k0_pay10
  pointwise
  rw [low_apply]
  by_cases h : c.val < 64 <;> simp [h, Scalar.select]

theorem second_apply (q : FVec Ideal S128x128 .f32) (r c : Fin 128) :
    k0_pay11 (F := Ideal) q (ix2 r c) = if c.val < 64 then 0 else q (ix2 r c) * Scalar.ofBits (F := Ideal) .f32 0x3E000000#32 := by
  unfold k0_pay11
  pointwise
  rw [low_apply]
  by_cases h : c.val < 64 <;> simp [h, Scalar.select, IntOp.xori]

theorem scores_apply (off : ℕ) (h : S512x256.Slices ![off, 0] S128x256) (ho : off + 128 ≤ 512) (kv : FVec Ideal S512x256 .bf16)
    (q : FVec Ideal S128x128 .bf16) (r : Fin 128) (j : Fin 256) :
    scores off h kv q (ix2 r j) = ∑ l : Fin 128, q (ix2 r l) * kv (ix2 (⟨off + l.val, by omega⟩ : Fin 512) j) := by
  unfold scores
  pointwise

theorem weights_apply (z : FVec Ideal S128x256 .f32) (r : Fin 128) (j : Fin 256) :
    k0_pay46 z (ix2 r j) = Ideal.exp (z (ix2 r j) - topAt fun k => z (ix2 r k)) := by
  unfold k0_pay46 topAt
  pointwise
  rw [show Ideal.ofBits .f32 0xFF800000#32 = ⊥ by simp [Ideal.ofBits, Ideal.ieee]]

theorem mass_apply (p : FVec Ideal S128x256 .f32) (r : Fin 128) : k0_pay63 p (ix2 r 0) = ∑ j, p (ix2 r j) := by
  unfold k0_pay63
  pointwise

theorem attend_apply (off : ℕ) (h : S512x256.Slices ![off, 0] S128x256) (ho : off + 128 ≤ 512) (kv : FVec Ideal S512x256 .bf16)
    (z : FVec Ideal S128x256 .f32) (r c : Fin 128) :
    attend off h kv z (ix2 r c) =
      softAt (fun j => z (ix2 r j)) (fun j => kv (ix2 (⟨off + c.val, by omega⟩ : Fin 512) j)) := by
  unfold attend softAt
  pointwise
  simp only [mass_apply, weights_apply]

theorem tile_apply (ko vo : ℕ) (hk hv) (hko : ko + 128 ≤ 512) (hvo : vo + 128 ≤ 512) (kv : FVec Ideal S512x256 .bf16)
    (q : FVec Ideal S128x128 .f32) (r c : Fin 128) :
    tile ko vo hk hv kv q (ix2 r c) =
      softAt (fun j => ∑ l : Fin 64, q (ix2 r (⟨c.val / 64 * 64 + l.val, by omega⟩ : Fin 128)) * Scalar.ofBits (F := Ideal) .f32 0x3E000000#32 *
          kv (ix2 (⟨ko + (c.val / 64 * 64 + l.val), by omega⟩ : Fin 512) j))
        (fun j => kv (ix2 (⟨vo + c.val, by omega⟩ : Fin 512) j)) := by
  have e : tile ko vo hk hv kv q (ix2 r c) = if c.val < 64 then attend vo hv kv (scores ko hk kv (k0_pay10 q)) (ix2 r c)
      else attend vo hv kv (scores ko hk kv (k0_pay11 q)) (ix2 r c) := by
    unfold tile
    generalize attend vo hv kv (scores ko hk kv (k0_pay10 q)) = a
    generalize attend vo hv kv (scores ko hk kv (k0_pay11 q)) = b
    pointwise
    rw [low_apply]
    by_cases h : c.val < 64 <;> simp [h, Scalar.select]
  rw [e]
  by_cases h : c.val < 64
  · rw [if_pos h, attend_apply _ _ hvo]
    refine softAt_congr (fun j => ?_) fun _ => rfl
    rw [scores_apply _ _ hko]
    simp only [first_apply]
    rw [Tiles.sum_low]
    refine Finset.sum_congr rfl fun l _ => ?_
    rw [show (⟨c.val / 64 * 64 + l.val, by omega⟩ : Fin 128) = ⟨l.val, by omega⟩ from Fin.ext (by show c.val / 64 * 64 + l.val = l.val; omega),
      show (⟨ko + (c.val / 64 * 64 + l.val), by omega⟩ : Fin 512) = ⟨ko + l.val, by omega⟩ from
        Fin.ext (by show ko + (c.val / 64 * 64 + l.val) = ko + l.val; omega)]
  · rw [if_neg h, attend_apply _ _ hvo]
    refine softAt_congr (fun j => ?_) fun _ => rfl
    rw [scores_apply _ _ hko]
    simp only [second_apply]
    rw [Tiles.sum_high]
    refine Finset.sum_congr rfl fun l _ => ?_
    rw [show (⟨c.val / 64 * 64 + l.val, by omega⟩ : Fin 128) = ⟨64 + l.val, by omega⟩ from
        Fin.ext (by show c.val / 64 * 64 + l.val = 64 + l.val; omega),
      show (⟨ko + (c.val / 64 * 64 + l.val), by omega⟩ : Fin 512) = ⟨ko + (64 + l.val), by omega⟩ from
        Fin.ext (by show ko + (c.val / 64 * 64 + l.val) = ko + (64 + l.val); omega)]

/-! ## The rows of a half block -/

theorem query_apply (x : FVec Ideal S256x1024 .f32) (g : FVec Ideal S1x1024 .f32) (w : FVec Ideal S1024x256 .bf16) (r n : Fin 256) :
    k0_pay4 (F := Ideal) x g w (ix2 r n) = Norm.column (fun k => x (ix2 r k)) (fun k => g (ix2 0 k)) (fun k => w (ix2 k n)) := by
  unfold k0_pay4 k0_pay2
  pointwise
  rfl

theorem gate_apply (x : FVec Ideal S256x1024 .f32) (g : FVec Ideal S1x1024 .f32) (w : FVec Ideal S1024x1024 .bf16) (r : Fin 256) (n : Fin 1024) :
    k0_pay6 (F := Ideal) (k0_pay2 x g) w (ix2 r n) = Norm.column (fun k => x (ix2 r k)) (fun k => g (ix2 0 k)) (fun k => w (ix2 k n)) := by
  unfold k0_pay6 k0_pay2
  pointwise
  rfl

/-- A gate's activation. -/
def act (z : EReal) : EReal := z * Ideal.logistic z

/-- The layer's product: a row of the mixer and a row of the memory's heads, gated, against a column of the weights. -/
def mixed (a : Fin 1024 → EReal) (y : Fin 768 → EReal) (o : Fin 256 → EReal) (u : Fin 768 → EReal) (v : Fin 256 → EReal) : EReal :=
  ∑ k : Fin 768, y k * act (a ⟨k.val, by omega⟩) * u k + ∑ k : Fin 256, o k * act (a ⟨768 + k.val, by omega⟩) * v k

theorem mixed_apply (a : FVec Ideal S256x1024 .f32) (y : FVec Ideal S256x768 .f32) (o : FVec Ideal S256x256 .f32)
    (u : FVec Ideal S768x1024 .bf16) (v : FVec Ideal S256x1024 .bf16) (r : Fin 256) (n : Fin 1024) :
    k0_pay108 a y o u v (ix2 r n) =
      mixed (fun k => a (ix2 r k)) (fun k => y (ix2 r k)) (fun k => o (ix2 r k)) (fun k => u (ix2 k n)) (fun k => v (ix2 k n)) := by
  unfold k0_pay108 mixed act
  pointwise

theorem end_apply (h : FVec Ideal S256x1024 .f32) (x : FVec Ideal S256x1024 .f32) (g : FVec Ideal S1x1024 .f32) (r : Fin 256) (n : Fin 1024) :
    k0_pay110 h x g (ix2 r n) = x (ix2 r n) + Norm.unit (fun k => h (ix2 r k)) n * g (ix2 0 n) := by
  unfold k0_pay110
  pointwise
  rfl

end Cert.Proof.MemHead

end
-- ==== Proof.PostBlock.lean ====
/- The end of the second layer, block by block: every row of a block is the row of the layer's input and the normalised product of
   the gated mixer and memory's heads. -/
module

public import proofs.«01_k».proof.Proof.MemHead
public import Idealize.ShloMosaic.Lib.WritesUnit
public import Idealize.ShloMosaic.Lib.Pipeline.ValueKit

@[expose] public section

set_option maxRecDepth 16384

noncomputable section

namespace Cert.Proof.PostB

open Idealize.ShloMosaic Idealize.ShloMosaic.TcCoe Idealize.ShloMosaic.Tactic Idealize.SL.Sem
open Cert.Kernel6Ideal Cert.Kernel6Ideal.Gen Cert.Proof.MemHead

variable (x0 : Vec Ideal S512x1024 .f32) (x1 : Vec Ideal S1x1024 .f32) (x2 : Vec Ideal S1024x1280 .bf16)
  (x3 : Vec Ideal S1x1x512x256 .f32) (x4 : Vec Ideal S1024x1024 .bf16) (x5 : Vec Ideal S1x1024 .f32) (x6 : Vec Ideal S512x768 .f32)

/-- The memory's query of a row. -/
def query (r : Fin 512) (n : Fin 256) : EReal :=
  Norm.column (fun k => x0 (ix2 r k)) (fun k => x1 (ix2 0 k)) (fun k => x2 (ix2 k (⟨n.val, by omega⟩ : Fin 1280)))

/-- The gate of a row. -/
def gateAt (r : Fin 512) (n : Fin 1024) : EReal :=
  Norm.column (fun k => x0 (ix2 r k)) (fun k => x1 (ix2 0 k)) (fun k => x2 (ix2 k (⟨256 + n.val, by omega⟩ : Fin 1280)))

/-- What a row takes from the memory: lane `n` is of head `n / 64`. -/
def memAt (r : Fin 512) (n : Fin 256) : EReal :=
  softAt (fun j => ∑ l : Fin 64, query x0 x1 x2 r ⟨n.val / 64 * 64 + l.val, by omega⟩ * Scalar.ofBits (F := Ideal) .f32 0x3E000000#32 *
      x3 (ix4 0 0 (⟨n.val / 64 * 64 + l.val, by omega⟩ : Fin 512) j))
    (fun j => x3 (ix4 0 0 (⟨256 + n.val, by omega⟩ : Fin 512) j))

/-- The layer's product. -/
def mixAt (r : Fin 512) (n : Fin 1024) : EReal :=
  mixed (gateAt x0 x1 x2 r) (fun k => x6 (ix2 r k)) (memAt x0 x1 x2 x3 r) (fun k => x4 (ix2 (⟨k.val, by omega⟩ : Fin 1024) n))
    (fun k => x4 (ix2 (⟨768 + k.val, by omega⟩ : Fin 1024) n))

/-- The row that the layer leaves. -/
def lastAt (r : Fin 512) (n : Fin 1024) : EReal :=
  x0 (ix2 r n) + Norm.unit (mixAt x0 x1 x2 x3 x4 x6 r) n * x5 (ix2 0 n)

theorem kv_apply (c : Fin 512) (j : Fin 256) : k0_pay8 (F := Ideal) x3 (ix2 c j) = x3 (ix4 0 0 c j) := by
  unfold k0_pay8
  pointwise

/-- A box read at an element. -/
theorem box_apply {a b c d : ℕ} {e : EltTy} (x : Vec Ideal ⟨2, ![a, b]⟩ e) (o p : ℕ)
    (inb : ∀ i, (![o, p] : Fin 2 → ℕ) i + (![c, d] : Fin 2 → ℕ) i ≤ (⟨2, ![a, b]⟩ : Shape).size i) (r : Fin c) (n : Fin d) (R : Fin a) (N : Fin b)
    (hR : R.val = o + r.val) (hN : N.val = p + n.val) :
    View.ld x (Rect.unit (s := ⟨2, ![a, b]⟩) ![o, p] ![c, d] inb) (ix2 r n) = x (ix2 R N) := by
  refine congrArg x ?_
  funext i
  match i with
  | 0 => exact Fin.ext (by show o + 1 * r.val = R.val; omega)
  | 1 => exact Fin.ext (by show p + 1 * n.val = N.val; omega)

/-- The queries of half a block. -/
def halfQ (o : ℕ) (inb : ∀ a, (![o, 0] : Fin 2 → ℕ) a + (![256, 1024] : Fin 2 → ℕ) a ≤ S512x1024.size a) : FVec Ideal S256x256 .f32 :=
  k0_pay4 (View.ld x0 (Rect.unit (s := S512x1024) ![o, 0] ![256, 1024] inb)) x1
    (View.ld x2 (Rect.unit (s := S1024x1280) ![0, 0] ![1024, 256] inb_S1024x1280_S1024x256_0_0))

theorem halfQ_at (o : ℕ) (inb) (R : Fin 512) (N : Fin 256) :
    View.TileAt (Val := Elt Ideal) (e := .f32) (S := S512x256) (ix2 R N) ![o, 0] ![256, 256] (halfQ x0 x1 x2 o inb) (query x0 x1 x2 R N) := by
  intro x hx
  have h0 : R.val = o + (x 0).val := hx 0
  have h1 : N.val = 0 + (x 1).val := hx 1
  have h2 : (x 1).val < 256 := (x 1).isLt
  rw [eq_ix2 (n0 := 256) (n1 := 256) x]
  unfold halfQ
  refine (query_apply _ _ _ (x 0) (x 1)).trans ?_
  unfold query
  exact Norm.column_congr (fun k => box_apply x0 o 0 inb (x 0) k R k h0 (by omega)) (fun _ => rfl)
    (fun k => box_apply x2 0 0 _ k (x 1) k ⟨N.val, by omega⟩ (by omega) h1)

/-- The queries' stage. -/
def queries : List (View.Piece (Elt Ideal) S512x256 .f32) :=
  [⟨Rect.unit (s := S512x256) ![256, 0] ![256, 256] inb_S512x256_S256x256_256_0, halfQ x0 x1 x2 256 inb_S512x1024_S256x1024_256_0⟩,
    ⟨Rect.unit (s := S512x256) ![0, 0] ![256, 256] inb_S512x256_S256x256_0_0, halfQ x0 x1 x2 0 inb_S512x1024_S256x1024_0_0⟩]

theorem queries_at (R : Fin 512) (N : Fin 256) : View.canon (queries x0 x1 x2) (ix2 R N) = query x0 x1 x2 R N := by
  unfold queries
  refine View.canon_eq_of_allAt _ _ _ (View.cover_of_tiled_head _ _ _ rfl _) ?_
  refine View.allAt_cons_unit _ _ _ _ _ (halfQ_at x0 x1 x2 256 _ R N) ?_
  refine View.allAt_cons_unit _ _ _ _ _ (halfQ_at x0 x1 x2 0 _ R N) ?_
  exact View.allAt_nil _ _

/-- A tile of the queries' stage. -/
def stage (o p : ℕ) (inb : ∀ a, (![o, p] : Fin 2 → ℕ) a + (![128, 128] : Fin 2 → ℕ) a ≤ S512x256.size a) : FVec Ideal S128x128 .f32 :=
  (View.whole cc0_scratch2).readCov (queries x0 x1 x2) (Rect.unit (s := S512x256) ![o, p] ![128, 128] inb).toLoadRect

theorem stage_apply (o p : ℕ) (inb) (r c : Fin 128) (R : Fin 512) (N : Fin 256) (hR : R.val = o + r.val) (hN : N.val = p + c.val) :
    stage x0 x1 x2 o p inb (ix2 r c) = query x0 x1 x2 R N := by
  unfold stage
  rw [View.readCov_eq_canon']
  refine Eq.trans (congrArg (View.canon (queries x0 x1 x2)) ?_) (queries_at x0 x1 x2 R N)
  funext i
  match i with
  | 0 => exact Fin.ext (by show o + 1 * r.val = R.val; omega)
  | 1 => exact Fin.ext (by show p + 1 * c.val = N.val; omega)

/-- A tile of what the rows take from the memory. -/
def pairTile (o p v : ℕ) (inb : ∀ a, (![o, p] : Fin 2 → ℕ) a + (![128, 128] : Fin 2 → ℕ) a ≤ S512x256.size a)
    (hk : S512x256.Slices ![p, 0] S128x256) (hv : S512x256.Slices ![v, 0] S128x256) : FVec Ideal S128x128 .f32 :=
  tile p v hk hv (k0_pay8 x3) (stage x0 x1 x2 o p inb)

theorem pairTile_at (o p v : ℕ) (inb hk hv) (hpv : v = 256 + p) (hp : p % 64 = 0 ∧ p + 128 ≤ 256) (R : Fin 512) (N : Fin 256) :
    View.TileAt (Val := Elt Ideal) (e := .f32) (S := S512x256) (ix2 R N) ![o, p] ![128, 128] (pairTile x0 x1 x2 x3 o p v inb hk hv)
      (memAt x0 x1 x2 x3 R N) := by
  intro x hx
  obtain ⟨hp, hp'⟩ := hp
  have h0 : R.val = o + (x 0).val := hx 0
  have h1 : N.val = p + (x 1).val := hx 1
  have h2 : (x 1).val < 128 := (x 1).isLt
  have h3 : N.val / 64 * 64 = p + (x 1).val / 64 * 64 := by omega
  rw [eq_ix2 (n0 := 128) (n1 := 128) x]
  unfold pairTile
  refine (tile_apply p v hk hv (by omega) (by omega) _ _ (x 0) (x 1)).trans ?_
  unfold memAt
  refine softAt_congr (fun j => Finset.sum_congr rfl fun l _ => ?_) (fun j => ?_)
  · rw [kv_apply, stage_apply x0 x1 x2 o p inb (x 0) _ R ⟨N.val / 64 * 64 + l.val, by omega⟩ h0
      (by show N.val / 64 * 64 + l.val = p + ((x 1).val / 64 * 64 + l.val); omega)]
    refine congrArg (fun c : Fin 512 => _ * x3 (ix4 0 0 c j)) (Fin.ext ?_)
    show p + ((x 1).val / 64 * 64 + l.val) = N.val / 64 * 64 + l.val
    omega
  · rw [kv_apply]
    refine congrArg (fun c : Fin 512 => x3 (ix4 0 0 c j)) (Fin.ext ?_)
    show v + (x 1).val = 256 + N.val
    omega

/-- What the rows take from the memory, tile by tile. -/
def taken : List (View.Piece (Elt Ideal) S512x256 .f32) :=
  [⟨Rect.unit (s := S512x256) ![384, 128] ![128, 128] (by decide), pairTile x0 x1 x2 x3 384 128 384 (by decide) (by decide) (by decide)⟩,
    ⟨Rect.unit (s := S512x256) ![384, 0] ![128, 128] (by decide), pairTile x0 x1 x2 x3 384 0 256 (by decide) (by decide) (by decide)⟩,
    ⟨Rect.unit (s := S512x256) ![256, 128] ![128, 128] (by decide), pairTile x0 x1 x2 x3 256 128 384 (by decide) (by decide) (by decide)⟩,
    ⟨Rect.unit (s := S512x256) ![256, 0] ![128, 128] (by decide), pairTile x0 x1 x2 x3 256 0 256 (by decide) (by decide) (by decide)⟩,
    ⟨Rect.unit (s := S512x256) ![128, 128] ![128, 128] (by decide), pairTile x0 x1 x2 x3 128 128 384 (by decide) (by decide) (by decide)⟩,
    ⟨Rect.unit (s := S512x256) ![128, 0] ![128, 128] (by decide), pairTile x0 x1 x2 x3 128 0 256 (by decide) (by decide) (by decide)⟩,
    ⟨Rect.unit (s := S512x256) ![0, 128] ![128, 128] (by decide), pairTile x0 x1 x2 x3 0 128 384 (by decide) (by decide) (by decide)⟩,
    ⟨Rect.unit (s := S512x256) ![0, 0] ![128, 128] (by decide), pairTile x0 x1 x2 x3 0 0 256 (by decide) (by decide) (by decide)⟩]

theorem taken_at (R : Fin 512) (N : Fin 256) : View.canon (taken x0 x1 x2 x3) (ix2 R N) = memAt x0 x1 x2 x3 R N := by
  unfold taken
  refine View.canon_eq_of_allAt _ _ _ (View.cover_of_tiled_head _ _ _ rfl _) ?_
  refine View.allAt_cons_unit _ _ _ _ _ (pairTile_at x0 x1 x2 x3 384 128 384 (by decide) (by decide) (by decide) rfl (by decide) R N) ?_
  refine View.allAt_cons_unit _ _ _ _ _ (pairTile_at x0 x1 x2 x3 384 0 256 (by decide) (by decide) (by decide) rfl (by decide) R N) ?_
  refine View.allAt_cons_unit _ _ _ _ _ (pairTile_at x0 x1 x2 x3 256 128 384 (by decide) (by decide) (by decide) rfl (by decide) R N) ?_
  refine View.allAt_cons_unit _ _ _ _ _ (pairTile_at x0 x1 x2 x3 256 0 256 (by decide) (by decide) (by decide) rfl (by decide) R N) ?_
  refine View.allAt_cons_unit _ _ _ _ _ (pairTile_at x0 x1 x2 x3 128 128 384 (by decide) (by decide) (by decide) rfl (by decide) R N) ?_
  refine View.allAt_cons_unit _ _ _ _ _ (pairTile_at x0 x1 x2 x3 128 0 256 (by decide) (by decide) (by decide) rfl (by decide) R N) ?_
  refine View.allAt_cons_unit _ _ _ _ _ (pairTile_at x0 x1 x2 x3 0 128 384 (by decide) (by decide) (by decide) rfl (by decide) R N) ?_
  refine View.allAt_cons_unit _ _ _ _ _ (pairTile_at x0 x1 x2 x3 0 0 256 (by decide) (by decide) (by decide) rfl (by decide) R N) ?_
  exact View.allAt_nil _ _

/-- Half a block of the result. -/
def half (o : ℕ) (inb : ∀ a, (![o, 0] : Fin 2 → ℕ) a + (![256, 1024] : Fin 2 → ℕ) a ≤ S512x1024.size a)
    (inb6 : ∀ a, (![o, 0] : Fin 2 → ℕ) a + (![256, 768] : Fin 2 → ℕ) a ≤ S512x768.size a)
    (inbm : ∀ a, (![o, 0] : Fin 2 → ℕ) a + (![256, 256] : Fin 2 → ℕ) a ≤ S512x256.size a) : FVec Ideal S256x1024 .f32 :=
  k0_pay110
    (k0_pay108
      (k0_pay6 (k0_pay2 (View.ld x0 (Rect.unit (s := S512x1024) ![o, 0] ![256, 1024] inb)) x1)
        (View.ld x2 (Rect.unit (s := S1024x1280) ![0, 256] ![1024, 1024] inb_S1024x1280_S1024x1024_0_256)))
      (View.ld x6 (Rect.unit (s := S512x768) ![o, 0] ![256, 768] inb6))
      ((View.whole cc0_scratch1).readCov (taken x0 x1 x2 x3) (Rect.unit (s := S512x256) ![o, 0] ![256, 256] inbm).toLoadRect)
      (View.ld x4 (Rect.unit (s := S1024x1024) ![0, 0] ![768, 1024] inb_S1024x1024_S768x1024_0_0))
      (View.ld x4 (Rect.unit (s := S1024x1024) ![768, 0] ![256, 1024] inb_S1024x1024_S256x1024_768_0)))
    (View.ld x0 (Rect.unit (s := S512x1024) ![o, 0] ![256, 1024] inb)) x5

theorem mixed_congr {a a' : Fin 1024 → EReal} {y y' : Fin 768 → EReal} {o o' : Fin 256 → EReal} {u u' : Fin 768 → EReal} {v v' : Fin 256 → EReal}
    (ha : ∀ k, a k = a' k) (hy : ∀ k, y k = y' k) (ho : ∀ k, o k = o' k) (hu : ∀ k, u k = u' k) (hv : ∀ k, v k = v' k) :
    mixed a y o u v = mixed a' y' o' u' v' := by
  rw [funext ha, funext hy, funext ho, funext hu, funext hv]

theorem unit_congr {x x' : Fin 1024 → EReal} (h : ∀ k, x k = x' k) (n : Fin 1024) : Norm.unit x n = Norm.unit x' n := by
  rw [funext h]

theorem taken_apply (o : ℕ) (inbm) (r c : Fin 256) (R : Fin 512) (hR : R.val = o + r.val) :
    (View.whole cc0_scratch1).readCov (taken x0 x1 x2 x3) (Rect.unit (s := S512x256) ![o, 0] ![256, 256] inbm).toLoadRect (ix2 r c) =
      memAt x0 x1 x2 x3 R c := by
  rw [View.readCov_eq_canon']
  refine Eq.trans (congrArg (View.canon (taken x0 x1 x2 x3)) ?_) (taken_at x0 x1 x2 x3 R c)
  funext i
  match i with
  | 0 => exact Fin.ext (by show o + 1 * r.val = R.val; omega)
  | 1 => exact Fin.ext (by show 0 + 1 * c.val = c.val; omega)

theorem half_at (o : ℕ) (inb inb6 inbm) (R : Fin 512) (n : Fin 1024) :
    View.TileAt (Val := Elt Ideal) (e := .f32) (S := S512x1024) (ix2 R n) ![o, 0] ![256, 1024]
      (half x0 x1 x2 x3 x4 x5 x6 o inb inb6 inbm) (lastAt x0 x1 x2 x3 x4 x5 x6 R n) := by
  intro x hx
  have h0 : R.val = o + (x 0).val := hx 0
  have h1 : n.val = 0 + (x 1).val := hx 1
  have hn : (x 1) = n := Fin.ext (by omega)
  rw [eq_ix2 (n0 := 256) (n1 := 1024) x]
  unfold half
  refine (end_apply _ _ _ (x 0) (x 1)).trans ?_
  unfold lastAt
  refine congrArg₂ (· + ·) (box_apply x0 o 0 inb (x 0) (x 1) R n h0 h1) (congrArg₂ (· * ·) ?_ (congrArg (fun c : Fin 1024 => x5 (ix2 0 c)) hn))
  rw [hn]
  refine unit_congr (fun k => ?_) n
  refine (mixed_apply _ _ _ _ _ (x 0) k).trans ?_
  unfold mixAt
  refine mixed_congr (fun q => ?_) (fun q => ?_) (fun q => ?_) (fun q => ?_) (fun q => ?_)
  · refine (gate_apply _ _ _ (x 0) q).trans ?_
    unfold gateAt
    exact Norm.column_congr (fun k => box_apply x0 o 0 inb (x 0) k R k h0 (by omega)) (fun _ => rfl)
      (fun k => box_apply x2 0 256 _ k q k ⟨256 + q.val, by omega⟩ (by omega) rfl)
  · exact box_apply x6 o 0 inb6 (x 0) q R q h0 (by omega)
  · exact taken_apply x0 x1 x2 x3 o inbm (x 0) q R h0
  · exact box_apply x4 0 0 _ q k ⟨q.val, by omega⟩ k (by show q.val = 0 + q.val; omega) (by omega)
  · exact box_apply x4 768 0 _ q k ⟨768 + q.val, by omega⟩ k rfl (by omega)

end Cert.Proof.PostB

end
-- ==== Proof.PostRun.lean ====
/- The end of the second layer at the prompt: what the kernel leaves, as one function of its arguments. -/
module

public import proofs.«01_k».proof.Proof.PostBlock

@[expose] public section

set_option maxRecDepth 16384

noncomputable section

namespace Cert.Proof.PostB

open Idealize.ShloMosaic Idealize.ShloMosaic.TcCoe Idealize.ShloMosaic.Tactic Idealize.SL.Sem
open Cert.Kernel6Ideal Cert.Kernel6Ideal.Gen Cert.Proof.MemHead

/-- A query against the memory: of its 256 lanes the ones of lane `n`'s head, and that head's keys and values (the values below the keys). -/
def memRow (q : Fin 256 → EReal) (kv : Fin 512 → Fin 256 → EReal) (n : Fin 256) : EReal :=
  softAt (fun j => ∑ l : Fin 64, q ⟨n.val / 64 * 64 + l.val, by omega⟩ * Scalar.ofBits (F := Ideal) .f32 0x3E000000#32 *
      kv ⟨n.val / 64 * 64 + l.val, by omega⟩ j)
    (fun j => kv ⟨256 + n.val, by omega⟩ j)

/-- The layer's product for one row. -/
def mixRow (x g : Fin 1024 → EReal) (w : Fin 1024 → Fin 1280 → EReal) (kv : Fin 512 → Fin 256 → EReal) (p : Fin 1024 → Fin 1024 → EReal)
    (y : Fin 768 → EReal) (n : Fin 1024) : EReal :=
  mixed (fun k => Norm.column x g (fun i => w i ⟨256 + k.val, by omega⟩)) y
    (memRow (fun k => Norm.column x g (fun i => w i ⟨k.val, by omega⟩)) kv) (fun k => p ⟨k.val, by omega⟩ n) (fun k => p ⟨768 + k.val, by omega⟩ n)

/-- The layer's result for one row. -/
def row (x g : Fin 1024 → EReal) (w : Fin 1024 → Fin 1280 → EReal) (kv : Fin 512 → Fin 256 → EReal) (p : Fin 1024 → Fin 1024 → EReal)
    (g' : Fin 1024 → EReal) (y : Fin 768 → EReal) (n : Fin 1024) : EReal :=
  x n + Norm.unit (mixRow x g w kv p y) n * g' n

theorem row_congr {x x' g a g' a' : Fin 1024 → EReal} {w w' : Fin 1024 → Fin 1280 → EReal} {kv kv' : Fin 512 → Fin 256 → EReal}
    {p p' : Fin 1024 → Fin 1024 → EReal} {y y' : Fin 768 → EReal} (hx : ∀ k, x k = x' k) (hg : ∀ k, g k = a k) (hw : ∀ k j, w k j = w' k j)
    (hkv : ∀ k j, kv k j = kv' k j) (hp : ∀ k j, p k j = p' k j) (hg' : ∀ k, g' k = a' k) (hy : ∀ k, y k = y' k) (n : Fin 1024) :
    row x g w kv p g' y n = row x' a w' kv' p' a' y' n := by
  rw [funext hx, funext hg, funext fun k => funext (hw k), funext fun k => funext (hkv k), funext fun k => funext (hp k), funext hg', funext hy]

variable (m : (ℓ : Loc nD τ sig) → Buf (Elt Ideal) ℓ) (ρ : Dev nD → PrngReg)

theorem outs (c : Dev nD) (t : Fin cfg0.N) (r : Fin 512) (n : Fin 1024) :
    outsAt0 m c t (ix2 r n) =
      row (fun k => iblk m c 0 t (ix2 r k)) (fun k => iblk m c 1 t (ix2 0 k)) (fun k j => iblk m c 2 t (ix2 k j))
        (fun k j => iblk m c 3 t (ix4 0 0 k j)) (fun k j => iblk m c 4 t (ix2 k j)) (fun k => iblk m c 5 t (ix2 0 k))
        (fun k => iblk m c 6 t (ix2 r k)) n := by
  refine Eq.trans (b := lastAt (iblk m c 0 t) (iblk m c 1 t) (iblk m c 2 t) (iblk m c 3 t) (iblk m c 4 t) (iblk m c 5 t) (iblk m c 6 t) r n) ?_ rfl
  unfold outsAt0
  frame_out
  refine View.canon_eq_of_allAt _ _ _ (View.cover_of_tiled_head _ _ _ rfl _) ?_
  refine View.allAt_cons_unit _ _ _ _ _ (half_at (iblk m c 0 t) (iblk m c 1 t) (iblk m c 2 t) (iblk m c 3 t) (iblk m c 4 t) (iblk m c 5 t) (iblk m c 6 t)
    256 (by decide) (by decide) (by decide) r n) ?_
  refine View.allAt_cons_unit _ _ _ _ _ (half_at (iblk m c 0 t) (iblk m c 1 t) (iblk m c 2 t) (iblk m c 3 t) (iblk m c 4 t) (iblk m c 5 t) (iblk m c 6 t)
    0 (by decide) (by decide) (by decide) r n) ?_
  exact View.allAt_nil _ _

/-- The rows in one list. -/
def rows (x : (⟨S8x2048x1024, .f32⟩ : BufTy).Contents (Elt Ideal)) : (⟨S16384x1024, .f32⟩ : BufTy).Contents (Elt Ideal) :=
  shapeCast S16384x1024 x shapeCasts_S8x2048x1024_S16384x1024

/-- The mixer's rows in one list. -/
def mixer (x : (⟨S8x2048x768, .f32⟩ : BufTy).Contents (Elt Ideal)) : (⟨S16384x768, .f32⟩ : BufTy).Contents (Elt Ideal) :=
  shapeCast S16384x768 x shapeCasts_S8x2048x768_S16384x768

/-- The second layer's scales. -/
def scales (g : (⟨S2x1024, .f32⟩ : BufTy).Contents (Elt Ideal)) : (⟨S1x1024, .f32⟩ : BufTy).Contents (Elt Ideal) :=
  shapeCast S1x1024 (shapeCast S1024 (extractStridedSlice S1x1024 ![1, 0] g slices_S2x1024_S1x1024_1_0) shapeCasts_S1x1024_S1024)
    shapeCasts_S1024_S1x1024

/-- The weights of the query and gate. -/
def weights (w : (⟨S1x1024x3712, .f32⟩ : BufTy).Contents (Elt Ideal)) : (⟨S1024x1280, .bf16⟩ : BufTy).Contents (Elt Ideal) :=
  extractStridedSlice S1024x1280 ![0, 2432] (truncf (F := Ideal) .bf16 (shapeCast S1024x3712 w shapeCasts_S1x1024x3712_S1024x3712) bitsLt_bf16_f32)
    slices_S1024x3712_S1024x1280_0_2432

/-- The weights of the layer's product. -/
def outWeights (w : (⟨S1x1024x1024, .f32⟩ : BufTy).Contents (Elt Ideal)) : (⟨S1024x1024, .bf16⟩ : BufTy).Contents (Elt Ideal) :=
  truncf (F := Ideal) .bf16 (shapeCast S1024x1024 w shapeCasts_S1x1024x1024_S1024x1024) bitsLt_bf16_f32

/-- The memory's keys and values, rows last. -/
def memory (w : (⟨S2x8x256x2x4x64, .f32⟩ : BufTy).Contents (Elt Ideal)) : (⟨S2x8x512x256, .f32⟩ : BufTy).Contents (Elt Ideal) :=
  shapeCast S2x8x512x256 (transpose S2x8x2x4x64x256 [0, 1, 3, 4, 5, 2] w transposes_S2x8x256x2x4x64_S2x8x2x4x64x256_0_1_3_4_5_2)
    shapeCasts_S2x8x2x4x64x256_S2x8x512x256

theorem rows_at (x : (⟨S8x2048x1024, .f32⟩ : BufTy).Contents (Elt Ideal)) (b : Fin 8) (t : Fin 2048) (k : Fin 1024) :
    rows x (ix2 (⟨b.val * 2048 + t.val, by omega⟩ : Fin 16384) k) = x (ix3 b t k) := by
  unfold rows
  refine shapeCast_apply _ _ _ (ix3 b t k) ?_
  rewrite [Shape.rowMajor_val_three, Shape.rowMajor_val_two]
  rfl

theorem mixer_at (x : (⟨S8x2048x768, .f32⟩ : BufTy).Contents (Elt Ideal)) (b : Fin 8) (t : Fin 2048) (k : Fin 768) :
    mixer x (ix2 (⟨b.val * 2048 + t.val, by omega⟩ : Fin 16384) k) = x (ix3 b t k) := by
  unfold mixer
  refine shapeCast_apply _ _ _ (ix3 b t k) ?_
  rewrite [Shape.rowMajor_val_three, Shape.rowMajor_val_two]
  rfl

theorem scales_apply (g : (⟨S2x1024, .f32⟩ : BufTy).Contents (Elt Ideal)) (k : Fin 1024) :
    scales g (ix2 0 k) = g (ix2 1 k) := by
  unfold scales
  pointwise

theorem weights_apply (w : (⟨S1x1024x3712, .f32⟩ : BufTy).Contents (Elt Ideal)) (k : Fin 1024) (j : Fin 1280) :
    weights w (ix2 k j) = w (ix3 0 k (⟨2432 + j.val, by omega⟩ : Fin 3712)) := by
  unfold weights
  pointwise

theorem outWeights_apply (w : (⟨S1x1024x1024, .f32⟩ : BufTy).Contents (Elt Ideal)) (k : Fin 1024) (j : Fin 1024) :
    outWeights w (ix2 k j) = w (ix3 0 k j) := by
  unfold outWeights
  pointwise

theorem memory_apply (w : (⟨S2x8x256x2x4x64, .f32⟩ : BufTy).Contents (Elt Ideal)) (b : Fin 8) (c : Fin 512) (j : Fin 256) :
    memory w (ix4 1 b c j) = w (ix6 1 b j (⟨c.val / 256, by omega⟩ : Fin 2) (⟨c.val % 256 / 64, by omega⟩ : Fin 4) (⟨c.val % 64, by omega⟩ : Fin 64)) := by
  unfold memory
  refine (shapeCast_apply _ _ _ (ix6 1 b (⟨c.val / 256, by omega⟩ : Fin 2) (⟨c.val % 256 / 64, by omega⟩ : Fin 4) (⟨c.val % 64, by omega⟩ : Fin 64) j) ?_).trans ?_
  · rewrite [Shape.rowMajor_val_six, Shape.rowMajor_val_four]
    show ((((1 * 8 + b.val) * 2 + c.val / 256) * 4 + c.val % 256 / 64) * 64 + c.val % 64) * 256 + j.val =
      ((1 * 8 + b.val) * 512 + c.val) * 256 + j.val
    omega
  · pointwise

def point (t : Fin cfg0.N) : Fin 32 := ⟨(grid0.coords t 0).val, (grid0.coords t 0).isLt⟩

theorem index0 : ∀ t : Fin cfg0.N, win0_0.index t = ![(point t).val, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![1, (point t).val / 4, 0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![(point t).val, 0] := by decide +kernel
theorem index7 : ∀ t : Fin cfg0.N, win0_7.index t = ![(point t).val, 0] := by decide +kernel

theorem block0 (c : Dev nD) (t : Fin cfg0.N) (r : Fin 512) (k : Fin 1024) :
    iblk m c 0 t (ix2 r k) = rows (m (c.tc.loc main_arg0)) (ix2 (⟨512 * (point t).val + r.val, by omega⟩ : Fin 16384) k) := by
  have e : V m c main_v5 = rows (m (c.tc.loc main_arg0)) := rfl
  rw [← e]
  blk_simp [iblk]
  refine congrArg (V m c main_v5) ?_
  blk_ext [index0]

theorem block1 (c : Dev nD) (t : Fin cfg0.N) (k : Fin 1024) :
    iblk m c 1 t (ix2 (0 : Fin 1) k) = m (c.tc.loc main_arg2) (ix2 1 k) := by
  have e : V m c main_v12 = scales (m (c.tc.loc main_arg2)) := rfl
  rw [← scales_apply (m (c.tc.loc main_arg2)), ← e]
  blk_simp [iblk]
  refine congrArg (V m c main_v12) ?_
  blk_ext [index1]

theorem block2 (c : Dev nD) (t : Fin cfg0.N) (k : Fin 1024) (j : Fin 1280) :
    iblk m c 2 t (ix2 k j) = m (c.tc.loc main_arg3) (ix3 0 k (⟨2432 + j.val, by omega⟩ : Fin 3712)) := by
  have e : V m c main_v2 = weights (m (c.tc.loc main_arg3)) := rfl
  rw [← weights_apply (m (c.tc.loc main_arg3)), ← e]
  blk_simp [iblk]
  refine congrArg (V m c main_v2) ?_
  blk_ext [index2]

theorem block3 (c : Dev nD) (t : Fin cfg0.N) (k : Fin 512) (j : Fin 256) :
    iblk m c 3 t (ix4 (0 : Fin 1) (0 : Fin 1) k j) =
      memory (m (c.tc.loc main_arg4)) (ix4 1 (⟨(point t).val / 4, by omega⟩ : Fin 8) k j) := by
  have e : V m c main_v4 = memory (m (c.tc.loc main_arg4)) := rfl
  rw [← e]
  blk_simp [iblk]
  refine congrArg (V m c main_v4) ?_
  blk_ext [index3]

theorem block4 (c : Dev nD) (t : Fin cfg0.N) (k : Fin 1024) (j : Fin 1024) :
    iblk m c 4 t (ix2 k j) = m (c.tc.loc main_arg5) (ix3 0 k j) := by
  have e : V m c main_v13 = outWeights (m (c.tc.loc main_arg5)) := rfl
  rw [← outWeights_apply (m (c.tc.loc main_arg5)), ← e]
  blk_simp [iblk]
  refine congrArg (V m c main_v13) ?_
  blk_ext [index4]

theorem block5 (c : Dev nD) (t : Fin cfg0.N) (k : Fin 1024) :
    iblk m c 5 t (ix2 (0 : Fin 1) k) = m (c.tc.loc main_arg6) (ix2 1 k) := by
  have e : V m c main_v14 = scales (m (c.tc.loc main_arg6)) := rfl
  rw [← scales_apply (m (c.tc.loc main_arg6)), ← e]
  blk_simp [iblk]
  refine congrArg (V m c main_v14) ?_
  blk_ext [index5]

theorem block6 (c : Dev nD) (t : Fin cfg0.N) (r : Fin 512) (k : Fin 768) :
    iblk m c 6 t (ix2 r k) = mixer (m (c.tc.loc main_arg1)) (ix2 (⟨512 * (point t).val + r.val, by omega⟩ : Fin 16384) k) := by
  have e : V m c main_v6 = mixer (m (c.tc.loc main_arg1)) := rfl
  rw [← e]
  blk_simp [iblk]
  refine congrArg (V m c main_v6) ?_
  blk_ext [index6]

/-- What the pipeline leaves at a row of the list. -/
def leftAt (c : Dev nD) (r : Fin 16384) (n : Fin 1024) : EReal :=
  row (fun k => rows (m (c.tc.loc main_arg0)) (ix2 r k)) (fun k => m (c.tc.loc main_arg2) (ix2 1 k))
    (fun k j => m (c.tc.loc main_arg3) (ix3 0 k (⟨2432 + j.val, by omega⟩ : Fin 3712)))
    (fun k j => memory (m (c.tc.loc main_arg4)) (ix4 1 (⟨r.val / 2048, by omega⟩ : Fin 8) k j))
    (fun k j => m (c.tc.loc main_arg5) (ix3 0 k j)) (fun k => m (c.tc.loc main_arg6) (ix2 1 k))
    (fun k => mixer (m (c.tc.loc main_arg1)) (ix2 r k)) n

def left (c : Dev nD) : S16384x1024.Idx → EReal := fun y => leftAt m c (y 0) (y 1)

theorem outs_left (c : Dev nD) (t : Fin cfg0.N) (r : Fin 512) (n : Fin 1024) :
    outsAt0 m c t (ix2 r n) = leftAt m c (⟨512 * (point t).val + r.val, by omega⟩ : Fin 16384) n := by
  refine (outs m c t r n).trans ?_
  unfold leftAt
  refine row_congr (fun k => block0 m c t r k) (fun k => block1 m c t k) (fun k j => block2 m c t k j)
    (fun k j => (block3 m c t k j).trans (congrArg (fun b : Fin 8 => memory (m (c.tc.loc main_arg4)) (ix4 1 b k j)) (Fin.ext ?_)))
    (fun k j => block4 m c t k j) (fun k => block5 m c t k) (fun k => block6 m c t r k) n
  show (point t).val / 4 = (512 * (point t).val + r.val) / 2048
  omega

theorem array (c : Dev nD) : (dats m 0 c).arrAt 7 cfg0.N = left m c := by
  refine (dats m 0 c).arrAt_eq_of_covers 7 _ (by decide +kernel) fun t hf y => ?_
  rw [after0_7]
  blk_simp [index7]
  have b0 : (y 0).val < 512 := (y 0).isLt
  refine (congrArg (outsAt0 m c t) (eq_ix2 (n0 := 512) (n1 := 1024) y)).trans ((outs_left m c t (y 0) (y 1)).trans ?_)
  have e : (win0_7.blk t).view.emb y = ix2 (n0 := 16384) (n1 := 1024) ⟨512 * (point t).val + (y 0).val, by omega⟩ (y 1) := by
    blk_ext [index7]
  rw [e]
  rfl

/-- The list as the batch's rows. -/
def batched (a : (⟨S16384x1024, .f32⟩ : BufTy).Contents (Elt Ideal)) : (⟨S8x2048x1024, .f32⟩ : BufTy).Contents (Elt Ideal) :=
  shapeCast S8x2048x1024 a shapeCasts_S16384x1024_S8x2048x1024

theorem batched_apply (a : (⟨S16384x1024, .f32⟩ : BufTy).Contents (Elt Ideal)) (b : Fin 8) (t : Fin 2048) (n : Fin 1024) :
    batched a (ix3 b t n) = a (ix2 (⟨b.val * 2048 + t.val, by omega⟩ : Fin 16384) n) := by
  unfold batched
  refine shapeCast_apply _ _ _ _ ?_
  rewrite [Shape.rowMajor_val_three, Shape.rowMajor_val_two]
  rfl

theorem tail (c : Dev nD) : Pipeline.afterTail₀ cfgs (dats m) 0 (V0 m) [hostOps1] c main_v16 = batched (left m c) := by
  rw [← array m c]
  refine Eq.trans (b := batched (Pipeline.withArrays spec0 c (V0 m c) (fun w => (dats m 0 c).arrAt w cfg0.N) (Proc.devRef .tc main_v15))) rfl ?_
  exact congrArg batched (Pipeline.withArrays_arr spec0 launch0.win.arr_inj c _ _ 7)

/-- The run: the result is the layer's rows, and the arguments are as they were. -/
theorem run : θ_run defs (onTc (τ := τ) (main (F := Ideal))) ⟨m, fun _ => 0, ρ⟩ (fun r => ∀ c : Dev nD,
    r.2.mem ((c.tc : Thread nD τ).loc main_v16) = batched (left m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) := by
  refine θ_run_mono (run_main m ρ) fun r h c => ⟨?_, ?_, ?_, ?_, ?_, ?_, ?_, ?_⟩
  · exact ((h c).2 main_v16 (Pipeline.mem_restRefs_of main_v16 (by decide) (by decide))).trans (tail m c)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)
  · exact ((h c).2 main_arg3 (Pipeline.mem_restRefs_of main_arg3 (by decide) (by decide))).trans (W_main_arg3 m (dats m) c)
  · exact ((h c).2 main_arg4 (Pipeline.mem_restRefs_of main_arg4 (by decide) (by decide))).trans (W_main_arg4 m (dats m) c)
  · exact ((h c).2 main_arg5 (Pipeline.mem_restRefs_of main_arg5 (by decide) (by decide))).trans (W_main_arg5 m (dats m) c)
  · exact ((h c).2 main_arg6 (Pipeline.mem_restRefs_of main_arg6 (by decide) (by decide))).trans (W_main_arg6 m (dats m) c)

/-- The kernel's result at a row of the batch. -/
theorem result (c : Dev nD) (b : Fin 8) (t : Fin 2048) (n : Fin 1024) : batched (left m c) (ix3 b t n) =
    row (fun k => m (c.tc.loc main_arg0) (ix3 b t k)) (fun k => m (c.tc.loc main_arg2) (ix2 1 k))
      (fun k j => m (c.tc.loc main_arg3) (ix3 0 k (⟨2432 + j.val, by omega⟩ : Fin 3712)))
      (fun k j => m (c.tc.loc main_arg4) (ix6 1 b j (⟨k.val / 256, by omega⟩ : Fin 2) (⟨k.val % 256 / 64, by omega⟩ : Fin 4) (⟨k.val % 64, by omega⟩ : Fin 64)))
      (fun k j => m (c.tc.loc main_arg5) (ix3 0 k j)) (fun k => m (c.tc.loc main_arg6) (ix2 1 k))
      (fun k => m (c.tc.loc main_arg1) (ix3 b t k)) n := by
  refine (batched_apply (left m c) b t n).trans ?_
  show leftAt m c (⟨b.val * 2048 + t.val, by omega⟩ : Fin 16384) n = _
  unfold leftAt
  refine row_congr (fun k => rows_at _ b t k) (fun _ => rfl) (fun _ _ => rfl)
    (fun k j => Eq.trans (congrArg (fun d : Fin 8 => memory (m (c.tc.loc main_arg4)) (ix4 1 d k j)) (Fin.ext ?_)) (memory_apply _ b k j))
    (fun _ _ => rfl) (fun _ => rfl) (fun k => mixer_at _ b t k) n
  show (b.val * 2048 + t.val) / 2048 = b.val
  omega

end Cert.Proof.PostB

end
-- ==== Proof.PostB.lean ====
/- The end of the second layer at the prompt in the reference, read at a row of the batch, and its agreement with the kernel. -/
module

public import proofs.«01_k».proof.Proof.PostRun
public import proofs.«01_k».proof.Proof.Join
public import proofs.«01_k».proof.Proof.Ref
public import proofs.«01_k».proof.Proof.Gen.Reference6Ideal.Read
public import Idealize.ShloMosaic.Lib.StableHlo.ReadAt
public import Idealize.ShloMosaic.Lib.KernelVsHost

@[expose] public section

set_option maxRecDepth 16384

noncomputable section

namespace Cert.Proof.PostRef

open Idealize.ShloMosaic Cert.Reference6Ideal Cert.Reference6Ideal.Gen Cert.Reference6Ideal.Read
open Cert.Proof.MemHead (topAt softAt softAt_congr act mixed)

variable (x0 : Vec Ideal S8x2048x1024 .f32) (x1 : Vec Ideal S8x2048x768 .f32) (x2 : Vec Ideal S2x1024 .f32) (x3 : Vec Ideal S1x1024x3712 .f32)
  (x4 : Vec Ideal S2x8x256x2x4x64 .f32) (x5 : Vec Ideal S1x1024x1024 .f32) (x6 : Vec Ideal S2x1024 .f32)

/-- A column of the normalised row's product. -/
def entry (b : Fin 8) (t : Fin 2048) (j : Fin 3712) : EReal :=
  Norm.column (fun k => x0 (ix3 b t k)) (fun k => x2 (ix2 1 k)) (fun k => x3 (ix3 0 k j))

theorem product (b : Fin 8) (t : Fin 2048) (j : Fin 3712) : val_main_v16 (F := Ideal) x0 x2 x3 (ix3 b t j) = entry x0 x2 x3 b t j := by
  unfold entry val_main_v16 val_main_v15 val_main_v14 val_main_v13 val_main_v12 val_main_v11 val_main_v10 val_main_v9
    val_main_v8 val_main_v7 val_main_v6 val_main_v5 val_main_v4 val_main_v3 val_main_v2 val_main_v1 val_main_v0 val_main_cst
    val_main_cst_0 val_main_cst_1
  pointwise
  rfl

theorem query_apply (b : Fin 8) (t : Fin 2048) (h : Fin 4) (l : Fin 64) :
    val_main_v18 (F := Ideal) x0 x2 x3 (ix4 b t h l) = entry x0 x2 x3 b t ⟨2432 + (h.val * 64 + l.val), by omega⟩ := by
  rw [← product]
  unfold val_main_v18
  refine (shapeCast_apply _ _ _ (ix3 b t (⟨h.val * 64 + l.val, by omega⟩ : Fin 256)) ?_).trans ?_
  · rewrite [Shape.rowMajor_val_three, Shape.rowMajor_val_four]
    show (b.val * 2048 + t.val) * 256 + (h.val * 64 + l.val) = ((b.val * 2048 + t.val) * 4 + h.val) * 64 + l.val
    omega
  · unfold val_main_v17
    generalize val_main_v16 (F := Ideal) x0 x2 x3 = p
    pointwise

theorem gate_apply (b : Fin 8) (t : Fin 2048) (n : Fin 1024) :
    val_main_v19 (F := Ideal) x0 x2 x3 (ix3 b t n) = entry x0 x2 x3 b t ⟨2688 + n.val, by omega⟩ := by
  rw [← product]
  unfold val_main_v19
  generalize val_main_v16 (F := Ideal) x0 x2 x3 = p
  pointwise

theorem memory_apply (b : Fin 8) (j : Fin 256) (e : Fin 2) (h : Fin 4) (l : Fin 64) :
    val_main_v21 (F := Ideal) x4 (ix5 b j e h l) = x4 (ix6 1 b j e h l) := by
  unfold val_main_v21
  refine (shapeCast_apply _ _ _ (ix6 (0 : Fin 1) b j e h l) ?_).trans ?_
  · rewrite [Shape.rowMajor_val_six, Shape.rowMajor_val_five]
    show ((((0 * 8 + b.val) * 256 + j.val) * 2 + e.val) * 4 + h.val) * 64 + l.val = (((b.val * 256 + j.val) * 2 + e.val) * 4 + h.val) * 64 + l.val
    omega
  · unfold val_main_v20
    pointwise

theorem key_apply (b : Fin 8) (j : Fin 256) (h : Fin 4) (l : Fin 64) :
    val_main_v23 (F := Ideal) x4 (ix4 b j h l) = x4 (ix6 1 b j 0 h l) := by
  rw [← memory_apply x4 b j 0 h l]
  unfold val_main_v23
  refine (shapeCast_apply _ _ _ (ix5 b j (0 : Fin 1) h l) ?_).trans ?_
  · rewrite [Shape.rowMajor_val_five, Shape.rowMajor_val_four]
    show (((b.val * 256 + j.val) * 1 + 0) * 4 + h.val) * 64 + l.val = ((b.val * 256 + j.val) * 4 + h.val) * 64 + l.val
    omega
  · unfold val_main_v22
    generalize val_main_v21 (F := Ideal) x4 = p
    pointwise

theorem value_apply (b : Fin 8) (j : Fin 256) (h : Fin 4) (l : Fin 64) :
    val_main_v34 (F := Ideal) x4 (ix4 b j h l) = x4 (ix6 1 b j 1 h l) := by
  rw [← memory_apply x4 b j 1 h l]
  unfold val_main_v34
  refine (shapeCast_apply _ _ _ (ix5 b j (0 : Fin 1) h l) ?_).trans ?_
  · rewrite [Shape.rowMajor_val_five, Shape.rowMajor_val_four]
    show (((b.val * 256 + j.val) * 1 + 0) * 4 + h.val) * 64 + l.val = ((b.val * 256 + j.val) * 4 + h.val) * 64 + l.val
    omega
  · unfold val_main_v33
    generalize val_main_v21 (F := Ideal) x4 = p
    pointwise

/-- A row's score against a row of the memory. -/
def score (b : Fin 8) (h : Fin 4) (t : Fin 2048) (j : Fin 256) : EReal :=
  ∑ l : Fin 64, entry x0 x2 x3 b t ⟨2432 + (h.val * 64 + l.val), by omega⟩ * Scalar.ofBits (F := Ideal) .f32 0x3E000000#32 *
    x4 (ix6 1 b j 0 h l)

theorem score_apply (b : Fin 8) (h : Fin 4) (t : Fin 2048) (j : Fin 256) :
    val_main_v26 (F := Ideal) x0 x2 x3 x4 (ix4 b h t j) = score x0 x2 x3 x4 b h t j := by
  rw [val_main_v26_apply, val_main_v24_apply, val_main_v25_apply]
  have hs : ∀ l, val_main_v18 (F := Ideal) x0 x2 x3 (lidx_main_v24 (ix4 b h t j) l) * val_main_v23 (F := Ideal) x4 (ridx_main_v24 (ix4 b h t j) l) =
      entry x0 x2 x3 b t ⟨2432 + (h.val * 64 + l.val), by omega⟩ * x4 (ix6 1 b j 0 h l) := fun l => by
    rw [← query_apply x0 x2 x3 b t h l, ← key_apply x4 b j h l]
    congr 2
    · funext a; match a with | 0 => rfl | 1 => rfl | 2 => rfl | 3 => rfl
    · funext a; match a with | 0 => rfl | 1 => rfl | 2 => rfl | 3 => rfl
  rw [Finset.sum_congr rfl fun l _ => hs l]
  unfold score
  rw [Join.scale_eq, Join.sum_scale]
  exact congrArg (_ * ·) Join.scale_eq

theorem top_apply (b : Fin 8) (h : Fin 4) (t : Fin 2048) :
    val_main_v27 (F := Ideal) x0 x2 x3 x4 (ix3 b h t) = topAt (score x0 x2 x3 x4 b h t) := by
  unfold val_main_v27 topAt
  have e := score_apply x0 x2 x3 x4 b h t
  generalize val_main_v26 (F := Ideal) x0 x2 x3 x4 = y at e
  pointwise
  rw [show val_main_cst_3 (F := Ideal) (Shape.Idx.first h_S_) = ⊥ from Ref.minus_inf]
  simp only [e]

theorem weight_apply (b : Fin 8) (h : Fin 4) (t : Fin 2048) (j : Fin 256) :
    val_main_v31 (F := Ideal) x0 x2 x3 x4 (ix4 b h t j) =
      Ideal.exp (score x0 x2 x3 x4 b h t j - topAt (score x0 x2 x3 x4 b h t)) := by
  rw [val_main_v31_apply, val_main_v30_apply, val_main_v29_apply, val_main_v28_apply, score_apply,
    show idx_main_v28 (idx_main_v29 (ix4 b h t j)) = ix3 b h t from by
      funext a; match a with | 0 => rfl | 1 => rfl | 2 => rfl, top_apply]
  rfl

theorem mass_apply (b : Fin 8) (h : Fin 4) (t : Fin 2048) :
    val_main_v32 (F := Ideal) x0 x2 x3 x4 (ix3 b h t) =
      ∑ j, Ideal.exp (score x0 x2 x3 x4 b h t j - topAt (score x0 x2 x3 x4 b h t)) := by
  rw [val_main_v32_apply, show val_main_cst_4 (F := Ideal) (Shape.Idx.first h_S_) = 0 from by
    show Ideal.ofBits .f32 0x00000000#32 = 0; simp [Ideal.ofBits, Ideal.ieee], zero_add]
  refine Finset.sum_congr rfl fun j _ => ?_
  rw [← weight_apply]
  congr 1
  funext a; match a with | 0 => rfl | 1 => rfl | 2 => rfl | 3 => rfl

theorem weighted_apply (b : Fin 8) (h : Fin 4) (t : Fin 2048) (l : Fin 64) :
    val_main_v35 (F := Ideal) x0 x2 x3 x4 (ix4 b h l t) =
      ∑ j, Ideal.exp (score x0 x2 x3 x4 b h t j - topAt (score x0 x2 x3 x4 b h t)) * x4 (ix6 1 b j 1 h l) := by
  rw [val_main_v35_apply]
  refine Finset.sum_congr rfl fun j _ => ?_
  rw [← weight_apply, ← value_apply x4 b j h l, mul_comm]
  congr 2
  · funext a; match a with | 0 => rfl | 1 => rfl | 2 => rfl | 3 => rfl
  · funext a; match a with | 0 => rfl | 1 => rfl | 2 => rfl | 3 => rfl

theorem head_apply (b : Fin 8) (t : Fin 2048) (h : Fin 4) (l : Fin 64) :
    val_main_v40 (F := Ideal) x0 x2 x3 x4 (ix4 b t h l) = softAt (score x0 x2 x3 x4 b h t) (fun j => x4 (ix6 1 b j 1 h l)) := by
  rw [val_main_v40_apply, val_main_v36_apply, val_main_v39_apply, val_main_v38_apply, val_main_v37_apply,
    show idx_main_v36 (ix4 b t h l) = ix4 b h l t from by
      funext a; match a with | 0 => rfl | 1 => rfl | 2 => rfl | 3 => rfl,
    show idx_main_v37 (idx_main_v38 (idx_main_v39 (ix4 b t h l))) = ix3 b h t from by
      funext a; match a with | 0 => rfl | 1 => rfl | 2 => rfl,
    weighted_apply, mass_apply]
  rfl

/-- What a row takes from the memory, the heads side by side. -/
def mem (b : Fin 8) (t : Fin 2048) (n : Fin 256) : EReal :=
  softAt (score x0 x2 x3 x4 b ⟨n.val / 64, by omega⟩ t) (fun j => x4 (ix6 1 b j 1 (⟨n.val / 64, by omega⟩ : Fin 4) (⟨n.val % 64, by omega⟩ : Fin 64)))

theorem heads_apply (b : Fin 8) (t : Fin 2048) (n : Fin 256) :
    val_main_v41 (F := Ideal) x0 x2 x3 x4 (ix3 b t n) = mem x0 x2 x3 x4 b t n := by
  unfold mem
  rw [← head_apply]
  unfold val_main_v41
  refine shapeCast_apply _ _ _ _ ?_
  rewrite [Shape.rowMajor_val_three, Shape.rowMajor_val_four]
  show ((b.val * 2048 + t.val) * 4 + n.val / 64) * 64 + n.val % 64 = (b.val * 2048 + t.val) * 256 + n.val
  omega

theorem joined_low (b : Fin 8) (t : Fin 2048) (k : Fin 768) :
    val_main_v42 (F := Ideal) x0 x1 x2 x3 x4 (ix3 b t (⟨k.val, by omega⟩ : Fin 1024)) = x1 (ix3 b t k) := by
  unfold val_main_v42
  generalize val_main_v41 (F := Ideal) x0 x2 x3 x4 = y
  pointwise

theorem joined_high (b : Fin 8) (t : Fin 2048) (k : Fin 256) :
    val_main_v42 (F := Ideal) x0 x1 x2 x3 x4 (ix3 b t (⟨768 + k.val, by omega⟩ : Fin 1024)) = mem x0 x2 x3 x4 b t k := by
  rw [← heads_apply]
  unfold val_main_v42
  generalize val_main_v41 (F := Ideal) x0 x2 x3 x4 = y
  pointwise

theorem act_apply (b : Fin 8) (t : Fin 2048) (n : Fin 1024) :
    val_main_v43 (F := Ideal) x0 x2 x3 (ix3 b t n) = act (entry x0 x2 x3 b t ⟨2688 + n.val, by omega⟩) := by
  rw [val_main_v43_apply, val_main_call0_v5_apply, val_main_call0_v3_apply, val_main_call0_v1_apply, val_main_call0_v0_apply,
    val_main_call0_v4_apply, val_main_call0_v2_apply, gate_apply]
  unfold act
  refine congrArg (_ * ·) ?_
  show Ideal.div (Ideal.ofBits .f32 0x3F800000#32) (Ideal.ofBits .f32 0x3F800000#32 + Ideal.exp (-_)) = _
  rw [Ideal.ofBits_one_f32]
  rfl

/-- The layer's product. -/
def mix (b : Fin 8) (t : Fin 2048) (n : Fin 1024) : EReal :=
  mixed (fun k => entry x0 x2 x3 b t ⟨2688 + k.val, by omega⟩) (fun k => x1 (ix3 b t k)) (mem x0 x2 x3 x4 b t)
    (fun k => x5 (ix3 0 (⟨k.val, by omega⟩ : Fin 1024) n)) (fun k => x5 (ix3 0 (⟨768 + k.val, by omega⟩ : Fin 1024) n))

theorem factor_apply (b : Fin 8) (t : Fin 2048) (n : Fin 1024) (k : Fin 1024) :
    val_main_v44 (F := Ideal) x0 x1 x2 x3 x4 (lidx_main_v46 (ix3 b t n) k) * val_main_v45 (F := Ideal) x5 (ridx_main_v46 (ix3 b t n) k) =
      val_main_v42 (F := Ideal) x0 x1 x2 x3 x4 (ix3 b t k) * act (entry x0 x2 x3 b t ⟨2688 + k.val, by omega⟩) * x5 (ix3 0 k n) := by
  rw [show lidx_main_v46 (ix3 b t n) k = ix3 b t k from by funext a; match a with | 0 => rfl | 1 => rfl | 2 => rfl,
    show ridx_main_v46 (ix3 b t n) k = ix2 k n from by funext a; match a with | 0 => rfl | 1 => rfl,
    val_main_v44_apply, act_apply]
  have e : val_main_v45 (F := Ideal) x5 (ix2 k n) = x5 (ix3 0 k n) := by
    unfold val_main_v45
    pointwise
  rw [e]
  rfl

theorem mix_apply (b : Fin 8) (t : Fin 2048) (n : Fin 1024) :
    val_main_v46 (F := Ideal) x0 x1 x2 x3 x4 x5 (ix3 b t n) = mix x0 x1 x2 x3 x4 x5 b t n := by
  rw [val_main_v46_apply, Finset.sum_congr rfl fun k _ => factor_apply x0 x1 x2 x3 x4 x5 b t n k]
  refine (Fin.sum_univ_add (a := 768) (b := 256) _).trans ?_
  unfold mix mixed
  refine congrArg₂ (· + ·) (Finset.sum_congr rfl fun k _ => ?_) (Finset.sum_congr rfl fun k _ => ?_)
  · exact congrArg (fun z => z * _ * _) (joined_low x0 x1 x2 x3 x4 b t k)
  · exact congrArg (fun z => z * _ * _) (joined_high x0 x1 x2 x3 x4 b t k)

theorem normal_apply (b : Fin 8) (t : Fin 2048) (n : Fin 1024) :
    val_main_v61 (F := Ideal) x0 x1 x2 x3 x4 x5 x6 (ix3 b t n) = Norm.unit (mix x0 x1 x2 x3 x4 x5 b t) n * x6 (ix2 1 n) := by
  rw [← funext (mix_apply x0 x1 x2 x3 x4 x5 b t)]
  unfold val_main_v61 val_main_v60 val_main_v59 val_main_v58 val_main_v57 val_main_v56 val_main_v55 val_main_v54 val_main_v53
    val_main_v52 val_main_v51 val_main_v50 val_main_v49 val_main_v48 val_main_v47 val_main_cst_5 val_main_cst_6 val_main_cst_7
  generalize val_main_v46 (F := Ideal) x0 x1 x2 x3 x4 x5 = y
  pointwise
  rfl

theorem mem_row (b : Fin 8) (t : Fin 2048) (n : Fin 256) : mem x0 x2 x3 x4 b t n =
    PostB.memRow (fun k => entry x0 x2 x3 b t ⟨2432 + k.val, by omega⟩)
      (fun k j => x4 (ix6 1 b j (⟨k.val / 256, by omega⟩ : Fin 2) (⟨k.val % 256 / 64, by omega⟩ : Fin 4) (⟨k.val % 64, by omega⟩ : Fin 64))) n := by
  have h6 : ∀ (j : Fin 256) {e e' : Fin 2} {h h' : Fin 4} {l l' : Fin 64}, e.val = e'.val → h.val = h'.val → l.val = l'.val →
      x4 (ix6 1 b j e h l) = x4 (ix6 1 b j e' h' l') := by
    intro j e e' h h' l l' he hh hl
    rw [Fin.ext he, Fin.ext hh, Fin.ext hl]
  unfold mem PostB.memRow
  refine softAt_congr (fun j => ?_) (fun j => ?_)
  · unfold score
    refine Finset.sum_congr rfl fun l _ => congrArg (_ * ·) (h6 j ?_ ?_ ?_)
    · show 0 = (n.val / 64 * 64 + l.val) / 256
      omega
    · show n.val / 64 = (n.val / 64 * 64 + l.val) % 256 / 64
      omega
    · show l.val = (n.val / 64 * 64 + l.val) % 64
      omega
  · refine h6 j ?_ ?_ ?_
    · show 1 = (256 + n.val) / 256
      omega
    · show n.val / 64 = (256 + n.val) % 256 / 64
      omega
    · show n.val % 64 = (256 + n.val) % 64
      omega

/-- The reference's result at a row of the batch. -/
theorem result (b : Fin 8) (t : Fin 2048) (n : Fin 1024) : val_main_v62 (F := Ideal) x0 x1 x2 x3 x4 x5 x6 (ix3 b t n) =
    PostB.row (fun k => x0 (ix3 b t k)) (fun k => x2 (ix2 1 k)) (fun k j => x3 (ix3 0 k (⟨2432 + j.val, by omega⟩ : Fin 3712)))
      (fun k j => x4 (ix6 1 b j (⟨k.val / 256, by omega⟩ : Fin 2) (⟨k.val % 256 / 64, by omega⟩ : Fin 4) (⟨k.val % 64, by omega⟩ : Fin 64)))
      (fun k j => x5 (ix3 0 k j)) (fun k => x6 (ix2 1 k)) (fun k => x1 (ix3 b t k)) n := by
  rw [val_main_v62_apply, normal_apply]
  unfold PostB.row
  refine congrArg (x0 (ix3 b t n) + ·) (congrArg (· * x6 (ix2 1 n)) (PostB.unit_congr (fun k => ?_) n))
  unfold mix PostB.mixRow
  refine PostB.mixed_congr (fun i => ?_) (fun _ => rfl) (fun i => mem_row x0 x2 x3 x4 b t i) (fun _ => rfl) (fun _ => rfl)
  unfold entry
  refine Norm.column_congr (fun _ => rfl) (fun _ => rfl) (fun j => congrArg (fun c : Fin 3712 => x3 (ix3 0 j c)) (Fin.ext ?_))
  show 2688 + i.val = 2432 + (256 + i.val)
  omega

end Cert.Proof.PostRef

namespace Cert.Proof.PostB

open Idealize.ShloMosaic Idealize.ShloMosaic.TcCoe Cert.Kernel6Ideal

theorem agree (m : (ℓ : Loc nD τ sig) → Buf (Elt Ideal) ℓ) (c : Dev nD) :
    Cert.Reference6Ideal.Read.val_main_v62 (F := Ideal) (m (c.tc.loc main_arg0)) (m (c.tc.loc main_arg1)) (m (c.tc.loc main_arg2))
      (m (c.tc.loc main_arg3)) (m (c.tc.loc main_arg4)) (m (c.tc.loc main_arg5)) (m (c.tc.loc main_arg6)) = batched (left m c) := by
  have e : ∀ (b : Fin 8) (t : Fin 2048) (n : Fin 1024),
      Cert.Reference6Ideal.Read.val_main_v62 (F := Ideal) (m (c.tc.loc main_arg0)) (m (c.tc.loc main_arg1)) (m (c.tc.loc main_arg2))
        (m (c.tc.loc main_arg3)) (m (c.tc.loc main_arg4)) (m (c.tc.loc main_arg5)) (m (c.tc.loc main_arg6)) (ix3 b t n) =
      batched (left m c) (ix3 b t n) := fun b t n => (PostRef.result _ _ _ _ _ _ _ b t n).trans (result m c b t n).symm
  funext y
  rw [eq_ix3 (n0 := 8) (n1 := 2048) (n2 := 1024) y]
  exact e (y 0) (y 1) (y 2)

end Cert.Proof.PostB

end
-- ==== Proof.PostSoft.lean ====
/- The memory's softmax with the division before the product: it agrees with the division after it when the scores are finite. -/
module

public import proofs.«01_k».proof.Proof.PostB
public import proofs.«01_k».proof.Proof.Gen.Reference7Ideal.Read
public import proofs.«01_k».proof.Proof.Gen.Pre_finite

@[expose] public section

set_option maxRecDepth 16384

noncomputable section

namespace Cert.Proof.PostSoft

open Idealize.ShloMosaic
open Cert.Proof.MemHead (topAt softAt)

/-- A finite value. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.sum {n : ℕ} {f : Fin n → EReal} (h : ∀ k, IsReal (f k)) : IsReal (∑ k, f k) := by
  classical
  have : ∀ s : Finset (Fin n), IsReal (∑ k ∈ s, f k) := fun s => by
    induction s using Finset.induction_on with
    | empty => exact ⟨0, by simp⟩
    | insert a s ha ih => rw [Finset.sum_insert ha]; exact (h a).add ih
  exact this _

/-- A value whose absolute value is below infinity is finite. -/
theorem isReal_of_abs {x : EReal} (h : max x (-x) < ⊤) : IsReal x := by
  have h1 : x ≠ ⊤ := fun e => by simp [e] at h
  have h2 : x ≠ ⊥ := fun e => by simp [e] at h
  exact ⟨x.toReal, (EReal.coe_toReal h1 h2).symm⟩

theorem width_eq : Ideal.ofBits FTy.f32 1149239296#32 = ((1024 : ℝ) : EReal) := by
  simp [Ideal.ofBits, Ideal.ieee]
  rw [← EReal.coe_mul]
  norm_num

theorem eps_pos : ∃ e : ℝ, 0 < e ∧ Ideal.ofBits FTy.f32 897988541#32 = (e : EReal) := by
  refine ⟨8796093 * (2 : ℝ) ^ (-43 : ℤ), by positivity, ?_⟩
  simp [Ideal.ofBits, Ideal.ieee]

/-- Dividing by a nonzero finite value is multiplying by its inverse. -/
theorem div_real (x : EReal) {z : ℝ} (hz : z ≠ 0) : Ideal.div x (z : EReal) = x * ((z⁻¹ : ℝ) : EReal) := by
  unfold Ideal.div
  rw [if_neg (by exact_mod_cast hz), EReal.coe_inv]

theorem unit_real {x : Fin 1024 → EReal} (hx : ∀ k, IsReal (x k)) (k : Fin 1024) : IsReal (Norm.unit x k) := by
  unfold Norm.unit
  refine (hx k).mul ?_
  obtain ⟨e, he, e'⟩ := eps_pos
  choose g hg using hx
  have hs : ∑ j, x j * x j = ((∑ j, g j * g j : ℝ) : EReal) := by
    rw [show ((∑ j, g j * g j : ℝ) : EReal) = ∑ j, ((g j * g j : ℝ) : EReal) from map_sum (⟨⟨Real.toEReal, EReal.coe_zero⟩, EReal.coe_add⟩ : ℝ →+ EReal) _ _]
    exact Finset.sum_congr rfl fun j _ => by rw [hg, EReal.coe_mul]
  have h0 : (0 : ℝ) ≤ ∑ j, g j * g j := Finset.sum_nonneg fun j _ => mul_self_nonneg _
  have hp : (0 : ℝ) < (∑ j, g j * g j) * (1024 : ℝ)⁻¹ + e := by positivity
  rw [hs, width_eq, div_real _ (by norm_num), e', ← EReal.coe_mul, ← EReal.coe_add]
  refine ⟨(√((∑ j, g j * g j) * (1024 : ℝ)⁻¹ + e))⁻¹, ?_⟩
  show (if _ < _ then _ else _) = _
  rw [if_neg (not_lt.mpr hp.le), if_neg hp.ne']

theorem column_real {x g w : Fin 1024 → EReal} (hx : ∀ k, IsReal (x k)) (hg : ∀ k, IsReal (g k)) (hw : ∀ k, IsReal (w k)) :
    IsReal (Norm.column x g w) :=
  IsReal.sum fun k => ((unit_real hx k).mul (hg k)).mul (hw k)

theorem sum_mul {n : ℕ} (f : Fin n → EReal) {c : ℝ} (hc : 0 ≤ c) : (∑ j, f j) * (c : EReal) = ∑ j, f j * (c : EReal) := by
  classical
  have : ∀ s : Finset (Fin n), (∑ j ∈ s, f j) * (c : EReal) = ∑ j ∈ s, f j * (c : EReal) := fun s => by
    induction s using Finset.induction_on with
    | empty => simp
    | insert a s ha ih =>
      rw [Finset.sum_insert ha, Finset.sum_insert ha, ← ih,
        EReal.right_distrib_of_nonneg_of_ne_top (by exact_mod_cast hc) (EReal.coe_ne_top _)]
  exact this _

theorem top_real {f : Fin 256 → EReal} (hf : ∀ j, IsReal (f j)) : IsReal (topAt f) := by
  have h1 : topAt f ≠ ⊤ := by
    refine ne_of_lt ?_
    unfold topAt
    rw [Finset.fold_max_lt]
    exact ⟨bot_lt_top, fun j _ => by obtain ⟨r, hr⟩ := hf j; rw [hr]; exact EReal.coe_lt_top r⟩
  have h2 : topAt f ≠ ⊥ := by
    refine ne_of_gt ?_
    unfold topAt
    show ⊥ < _
    rw [Finset.lt_fold_max]
    exact Or.inr ⟨0, Finset.mem_univ _, by obtain ⟨r, hr⟩ := hf 0; rw [hr]; exact EReal.bot_lt_coe r⟩
  exact ⟨_, (EReal.coe_toReal h1 h2).symm⟩

/-- With finite scores the weights may be divided by their sum before they meet the values. -/
theorem soft_split {f v : Fin 256 → EReal} (hf : ∀ j, IsReal (f j)) :
    ∑ j, v j * Ideal.div (Ideal.exp (f j - topAt f)) (∑ k, Ideal.exp (f k - topAt f)) = softAt f v := by
  obtain ⟨t, ht⟩ := top_real hf
  unfold softAt
  rw [ht]
  choose g hg using hf
  have hw : ∀ j, Ideal.exp (f j - (t : EReal)) = ((Real.exp (g j - t) : ℝ) : EReal) := fun j => by
    rw [hg, ← EReal.coe_sub]
    rfl
  have hs : ∑ j, Ideal.exp (f j - (t : EReal)) = ((∑ j, Real.exp (g j - t) : ℝ) : EReal) := by
    rw [show ((∑ j, Real.exp (g j - t) : ℝ) : EReal) = ∑ j, ((Real.exp (g j - t) : ℝ) : EReal) from map_sum (⟨⟨Real.toEReal, EReal.coe_zero⟩, EReal.coe_add⟩ : ℝ →+ EReal) _ _]
    exact Finset.sum_congr rfl fun j _ => hw j
  have hp : (0 : ℝ) < ∑ j, Real.exp (g j - t) := Finset.sum_pos (fun j _ => Real.exp_pos _) ⟨0, Finset.mem_univ _⟩
  rw [hs, div_real _ hp.ne', sum_mul _ (inv_nonneg.mpr hp.le)]
  refine Finset.sum_congr rfl fun j _ => ?_
  rw [div_real _ hp.ne', ← mul_assoc, mul_comm (v j)]

/-! The reference's stages, up to the first difference and after the last. -/

open Cert.Reference7Ideal Cert.Reference7Ideal.Gen Cert.Reference7Ideal.Read
open Cert.Proof.PostRef (score entry mem)

variable (x0 : Vec Ideal S8x2048x1024 .f32) (x1 : Vec Ideal S8x2048x768 .f32) (x2 : Vec Ideal S2x1024 .f32) (x3 : Vec Ideal S1x1024x3712 .f32)
  (x4 : Vec Ideal S2x8x256x2x4x64 .f32) (x5 : Vec Ideal S1x1024x1024 .f32) (x6 : Vec Ideal S2x1024 .f32)

theorem score_apply (b : Fin 8) (h : Fin 4) (t : Fin 2048) (j : Fin 256) :
    val_main_v26 (F := Ideal) x0 x2 x3 x4 (ix4 b h t j) = score x0 x2 x3 x4 b h t j :=
  (show val_main_v26 (F := Ideal) x0 x2 x3 x4 (ix4 b h t j) = Cert.Reference6Ideal.Read.val_main_v26 (F := Ideal) x0 x2 x3 x4 (ix4 b h t j) from rfl).trans
    (PostRef.score_apply x0 x2 x3 x4 b h t j)

theorem top_apply (b : Fin 8) (h : Fin 4) (t : Fin 2048) :
    val_main_v29 (F := Ideal) x0 x2 x3 x4 (ix3 b h t) = topAt (score x0 x2 x3 x4 b h t) := by
  rw [val_main_v29_apply, val_main_v28_apply,
    show val_main_v27 (F := Ideal) x0 x2 x3 x4 (ix3 b h t) = Cert.Reference6Ideal.Read.val_main_v27 (F := Ideal) x0 x2 x3 x4 (ix3 b h t) from rfl,
    PostRef.top_apply, show val_main_cst_4 (F := Ideal) (idx_main_v28 (ix3 b h t)) = ⊥ from Ref.minus_inf]
  exact max_eq_right bot_le

theorem weight_apply (b : Fin 8) (h : Fin 4) (t : Fin 2048) (j : Fin 256) :
    val_main_v33 (F := Ideal) x0 x2 x3 x4 (ix4 b h t j) =
      Ideal.exp (score x0 x2 x3 x4 b h t j - topAt (score x0 x2 x3 x4 b h t)) := by
  rw [val_main_v33_apply, val_main_v32_apply, val_main_v31_apply, val_main_v30_apply, score_apply,
    show idx_main_v30 (idx_main_v31 (ix4 b h t j)) = ix3 b h t from by
      funext a; match a with | 0 => rfl | 1 => rfl | 2 => rfl, top_apply]
  rfl

theorem mass_apply (b : Fin 8) (h : Fin 4) (t : Fin 2048) :
    val_main_v34 (F := Ideal) x0 x2 x3 x4 (ix3 b h t) =
      ∑ j, Ideal.exp (score x0 x2 x3 x4 b h t j - topAt (score x0 x2 x3 x4 b h t)) := by
  rw [val_main_v34_apply, show val_main_cst_5 (F := Ideal) (Shape.Idx.first h_S_) = 0 from by
    show Ideal.ofBits .f32 0x00000000#32 = 0; simp [Ideal.ofBits, Ideal.ieee], zero_add]
  refine Finset.sum_congr rfl fun j _ => ?_
  rw [← weight_apply]
  congr 1
  funext a; match a with | 0 => rfl | 1 => rfl | 2 => rfl | 3 => rfl

theorem share_apply (b : Fin 8) (h : Fin 4) (t : Fin 2048) (j : Fin 256) :
    val_main_v37 (F := Ideal) x0 x2 x3 x4 (ix4 b h t j) =
      Ideal.div (Ideal.exp (score x0 x2 x3 x4 b h t j - topAt (score x0 x2 x3 x4 b h t)))
        (∑ k, Ideal.exp (score x0 x2 x3 x4 b h t k - topAt (score x0 x2 x3 x4 b h t))) := by
  rw [val_main_v37_apply, val_main_v36_apply, val_main_v35_apply, weight_apply,
    show idx_main_v35 (idx_main_v36 (ix4 b h t j)) = ix3 b h t from by
      funext a; match a with | 0 => rfl | 1 => rfl | 2 => rfl, mass_apply]
  rfl

theorem head_apply (b : Fin 8) (t : Fin 2048) (h : Fin 4) (l : Fin 64) :
    val_main_v41 (F := Ideal) x0 x2 x3 x4 (ix4 b t h l) =
      ∑ j, x4 (ix6 1 b j 1 h l) * Ideal.div (Ideal.exp (score x0 x2 x3 x4 b h t j - topAt (score x0 x2 x3 x4 b h t)))
        (∑ k, Ideal.exp (score x0 x2 x3 x4 b h t k - topAt (score x0 x2 x3 x4 b h t))) := by
  rw [val_main_v41_apply, show idx_main_v41 (ix4 b t h l) = ix4 b h l t from by
      funext a; match a with | 0 => rfl | 1 => rfl | 2 => rfl | 3 => rfl, val_main_v40_apply]
  refine Finset.sum_congr rfl fun j _ => ?_
  rw [← share_apply, ← PostRef.value_apply x4 b j h l]
  refine congr (congrArg _ ?_) ?_
  · show val_main_v39 (F := Ideal) x4 _ = val_main_v39 (F := Ideal) x4 _
    congr 1
    funext a; match a with | 0 => rfl | 1 => rfl | 2 => rfl | 3 => rfl
  · congr 1
    funext a; match a with | 0 => rfl | 1 => rfl | 2 => rfl | 3 => rfl

variable {x0 x2 x3 x4}

theorem score_real (h0 : ∀ i, IsReal (x0 i)) (h2 : ∀ i, IsReal (x2 i)) (h3 : ∀ i, IsReal (x3 i)) (h4 : ∀ i, IsReal (x4 i))
    (b : Fin 8) (h : Fin 4) (t : Fin 2048) (j : Fin 256) : IsReal (score x0 x2 x3 x4 b h t j) := by
  unfold score entry
  rw [Join.scale_eq]
  exact IsReal.sum fun l => ((column_real (fun _ => h0 _) (fun _ => h2 _) fun _ => h3 _).mul ⟨_, rfl⟩).mul (h4 _)

/-- What a row takes from the memory is the same, whichever side of the product the division is on. -/
theorem heads_eq (h0 : ∀ i, IsReal (x0 i)) (h2 : ∀ i, IsReal (x2 i)) (h3 : ∀ i, IsReal (x3 i)) (h4 : ∀ i, IsReal (x4 i)) :
    val_main_v42 (F := Ideal) x0 x2 x3 x4 = Cert.Reference6Ideal.Read.val_main_v41 (F := Ideal) x0 x2 x3 x4 := by
  have e : ∀ (b : Fin 8) (t : Fin 2048) (n : Fin 256),
      val_main_v42 (F := Ideal) x0 x2 x3 x4 (ix3 b t n) = Cert.Reference6Ideal.Read.val_main_v41 (F := Ideal) x0 x2 x3 x4 (ix3 b t n) := fun b t n => by
    rw [PostRef.heads_apply]
    unfold mem
    rw [← soft_split (score_real h0 h2 h3 h4 b _ t), ← head_apply]
    unfold val_main_v42
    refine shapeCast_apply _ _ _ _ ?_
    rewrite [Shape.rowMajor_val_three, Shape.rowMajor_val_four]
    show ((b.val * 2048 + t.val) * 4 + n.val / 64) * 64 + n.val % 64 = (b.val * 2048 + t.val) * 256 + n.val
    omega
  funext i
  have := e (i 0) (i 1) (i 2)
  rwa [show (ix3 (i 0) (i 1) (i 2) : S8x2048x256.Idx) = i from by
    funext a; match a with | 0 => rfl | 1 => rfl | 2 => rfl] at this

theorem result_eq (h0 : ∀ i, IsReal (x0 i)) (h2 : ∀ i, IsReal (x2 i)) (h3 : ∀ i, IsReal (x3 i)) (h4 : ∀ i, IsReal (x4 i)) :
    val_main_v63 (F := Ideal) x0 x1 x2 x3 x4 x5 x6 = Cert.Reference6Ideal.Read.val_main_v62 (F := Ideal) x0 x1 x2 x3 x4 x5 x6 := by
  have e : val_main_v43 (F := Ideal) x0 x1 x2 x3 x4 = Cert.Reference6Ideal.Read.val_main_v42 (F := Ideal) x0 x1 x2 x3 x4 := by
    unfold val_main_v43
    rw [heads_eq h0 h2 h3 h4]
    rfl
  have e1 : val_main_v45 (F := Ideal) x0 x1 x2 x3 x4 = Cert.Reference6Ideal.Read.val_main_v44 (F := Ideal) x0 x1 x2 x3 x4 := by
    unfold val_main_v45
    rw [e]
    rfl
  have e2 : val_main_v47 (F := Ideal) x0 x1 x2 x3 x4 x5 = Cert.Reference6Ideal.Read.val_main_v46 (F := Ideal) x0 x1 x2 x3 x4 x5 := by
    unfold val_main_v47
    rw [e1]
    rfl
  unfold val_main_v63 val_main_v62 val_main_v61 val_main_v60 val_main_v59 val_main_v58 val_main_v57 val_main_v56 val_main_v55
    val_main_v54 val_main_v53 val_main_v52 val_main_v51 val_main_v50 val_main_v49 val_main_v48
  rw [e2]
  rfl

/-! The precondition's meaning. -/

theorem infinity : Ideal.ofBits .f32 0x7F800000#32 = (⊤ : EReal) := by
  simp [Ideal.ofBits, Ideal.ieee]

theorem real_of_bit {x : EReal} (h : Ideal.cmp .olt (max x (-x)) (Ideal.ofBits .f32 0x7F800000#32) = 1#1) : IsReal x := by
  rw [infinity] at h
  refine isReal_of_abs ?_
  by_contra hn
  simp [Ideal.cmp, hn] at h

end Cert.Proof.PostSoft

end
-- ==== Proof.lean ====
/- The proof of the certificate's claim: the programs' frames are the generated ones, the values that the kernels' runs leave are
   the references' (one module for each call), and the references' are their runs' own. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Read
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Read
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Read
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Read
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Read
public import proofs.«01_k».proof.Proof.Gen.Reference6Ideal.Run
public import proofs.«01_k».proof.Proof.Gen.Reference7Ideal
public import proofs.«01_k».proof.Proof.Gen.Pre_finite
public import proofs.«01_k».proof.Proof.Gen.Reference7Ideal.Read
public import proofs.«01_k».proof.Proof.Gen.Reference7Ideal.Run
public import proofs.«01_k».proof.Proof.Run
public import proofs.«01_k».proof.Proof.GroupedRef
public import proofs.«01_k».proof.Proof.Shift
public import proofs.«01_k».proof.Proof.Mem
public import proofs.«01_k».proof.Proof.Sample
public import proofs.«01_k».proof.Proof.PostB
public import proofs.«01_k».proof.Proof.PostSoft
public import Idealize.ShloMosaic.Lib.Quiescent
public import Idealize.ShloMosaic.Adequacy
public import Idealize.ShloMosaic.Init

@[expose] public section

noncomputable section

namespace Cert.Proof

open Idealize.ShloMosaic Idealize.SL.Sem

/-- The attention: the kernel and the reference end with equal numerators, largest scores and masses. -/
theorem attention : algebraic_KernelIdeal_ReferenceIdeal (hKernelIdeal := Cert.KernelIdeal.Gen.facts)
    (hReferenceIdeal := Cert.ReferenceIdeal.Gen.facts) := by
  intro m g m' g' _ hagree
  refine ⟨_, _, Run.run m g, ?_⟩
  refine θ_run_mono (Cert.ReferenceIdeal.Value.run m' g') ?_
  intro r hr c
  obtain ⟨h0, h1, h2⟩ := hr c
  obtain ⟨a0, a1, a2, -, -⟩ := hagree c
  refine ⟨h0.trans ?_, h1.trans ?_, h2⟩
  · rw [Cert.ReferenceIdeal.Read.val_main_v39_eq, a0, a1, a2]
    exact (Run.out_main m g c).symm
  · rw [Cert.ReferenceIdeal.Read.val_main_v38_eq, a0, a1, a2]
    exact (Run.out_stat m g c).symm

/-- The first layer's projection at the prompt: the kernel and the reference end with equal values. -/
theorem grouped : algebraic_Kernel2Ideal_Reference2Ideal (hKernel2Ideal := Cert.Kernel2Ideal.Gen.facts)
    (hReference2Ideal := Cert.Reference2Ideal.Gen.facts) := by
  intro m g m' g' _ hagree
  refine ⟨_, _, _, _, _, _, _, _, _, _, _, Grouped.run m g, ?_⟩
  refine θ_run_mono (Cert.Reference2Ideal.Value.run m' g') ?_
  intro r hr c
  obtain ⟨h3, h4, h5, h6, h7, h8, h9, h10, h11, h12, h13, hargs⟩ := hr c
  obtain ⟨a0, a1, a2⟩ := hagree c
  refine ⟨h3.trans ?_, h4.trans ?_, h5.trans ?_, h6.trans ?_, h7.trans ?_, h8.trans ?_, h9.trans ?_, h10.trans ?_, h11.trans ?_, h12.trans ?_, h13.trans ?_, hargs⟩
  · rw [Cert.Reference2Ideal.Read.val_main_v35_eq, a0, a1, a2]
    exact GroupedRef.result3 _ _ _
  · rw [Cert.Reference2Ideal.Read.val_main_v36_eq, a0, a1, a2]
    exact GroupedRef.result4 _ _ _
  · rw [Cert.Reference2Ideal.Read.val_main_v37_eq, a0, a1, a2]
    exact GroupedRef.result5 _ _ _
  · rw [Cert.Reference2Ideal.Read.val_main_v38_eq, a0, a1, a2]
    exact GroupedRef.result6 _ _ _
  · rw [Cert.Reference2Ideal.Read.val_main_v39_eq, a0, a1, a2]
    exact GroupedRef.result7 _ _ _
  · rw [Cert.Reference2Ideal.Read.val_main_v40_eq, a0, a1, a2]
    exact GroupedRef.result8 _ _ _
  · rw [Cert.Reference2Ideal.Read.val_main_v41_eq, a0, a1, a2]
    exact GroupedRef.result9 _ _ _
  · rw [Cert.Reference2Ideal.Read.val_main_v42_eq, a0, a1, a2]
    exact GroupedRef.result10 _ _ _
  · rw [Cert.Reference2Ideal.Read.val_main_v31_eq, a0, a1, a2]
    exact Grouped.agree11 _ _ _
  · rw [Cert.Reference2Ideal.Read.val_main_v33_eq, a0, a1, a2]
    exact Grouped.agree12 _ _ _
  · rw [Cert.Reference2Ideal.Read.val_main_v34_eq, a0, a1, a2]
    exact Grouped.agree13 _ _ _

/-- The token shift's columns: the kernel and the reference end with equal values. -/
theorem shift : algebraic_Kernel3Ideal_Reference3Ideal (hKernel3Ideal := Cert.Kernel3Ideal.Gen.facts)
    (hReference3Ideal := Cert.Reference3Ideal.Gen.facts) := by
  intro m g m' g' _ hagree
  refine ⟨_, Shift.run m g, ?_⟩
  refine θ_run_mono (Cert.Reference3Ideal.Value.run m' g') ?_
  intro r hr c
  obtain ⟨h0, h1⟩ := hr c
  obtain ⟨a0, a1, a2⟩ := hagree c
  refine ⟨h0.trans ?_, h1⟩
  rw [Cert.Reference3Ideal.Read.val_main_v17_eq, a0, a1, a2]
  exact Shift.agree m c

/-- The memory's keys and values: the kernel and the reference end with equal values. -/
theorem memory : algebraic_Kernel4Ideal_Reference4Ideal (hKernel4Ideal := Cert.Kernel4Ideal.Gen.facts)
    (hReference4Ideal := Cert.Reference4Ideal.Gen.facts) := by
  intro m g m' g' _ hagree
  refine ⟨_, Mem.run m g, ?_⟩
  refine θ_run_mono (Cert.Reference4Ideal.Value.run m' g') ?_
  intro r hr c
  obtain ⟨h0, h1⟩ := hr c
  obtain ⟨a0, a1, a2⟩ := hagree c
  refine ⟨h0.trans ?_, h1⟩
  rw [Cert.Reference4Ideal.Read.val_main_v40_eq, a0, a1, a2]
  exact Mem.agree m c

/-- The first layer's projection at the sample rows: the kernel and the reference end with equal values. -/
theorem sample : algebraic_Kernel5Ideal_Reference5Ideal (hKernel5Ideal := Cert.Kernel5Ideal.Gen.facts)
    (hReference5Ideal := Cert.Reference5Ideal.Gen.facts) := by
  intro m g m' g' _ hagree
  refine ⟨_, _, _, Sample.run m g, ?_⟩
  refine θ_run_mono (Cert.Reference5Ideal.Value.run m' g') ?_
  intro r hr c
  obtain ⟨h0, h1, h2, hargs⟩ := hr c
  obtain ⟨a0, a1, a2⟩ := hagree c
  refine ⟨h0.trans ?_, h1.trans ?_, h2.trans ?_, hargs⟩
  · rw [Cert.Reference5Ideal.Read.val_main_v21_eq, a0, a1, a2]
    exact Sample.agree0 m c
  · rw [Cert.Reference5Ideal.Read.val_main_v23_eq, a0, a1, a2]
    exact Sample.agree1 m c
  · rw [Cert.Reference5Ideal.Read.val_main_v25_eq, a0, a1, a2]
    exact Sample.agree2 m c

/-- The end of the second layer at the prompt: the kernel and the reference end with equal values. -/
theorem layerB : algebraic_Kernel6Ideal_Reference6Ideal (hKernel6Ideal := Cert.Kernel6Ideal.Gen.facts)
    (hReference6Ideal := Cert.Reference6Ideal.Gen.facts) := by
  intro m g m' g' _ hagree
  refine ⟨_, PostB.run m g, ?_⟩
  refine θ_run_mono (Cert.Reference6Ideal.Value.run m' g') ?_
  intro r hr c
  obtain ⟨h0, h1⟩ := hr c
  obtain ⟨a0, a1, a2, a3, a4, a5, a6⟩ := hagree c
  refine ⟨h0.trans ?_, h1⟩
  rw [Cert.Reference6Ideal.Read.val_main_v62_eq, a0, a1, a2, a3, a4, a5, a6]
  exact PostB.agree m c

/-- The same with the softmax's division before its product, where the inputs the scores are made of are finite. -/
theorem layerBSoft : algebraic_Kernel6Ideal_Reference7Ideal_pre_finite (hKernel6Ideal := Cert.Kernel6Ideal.Gen.facts)
    (hReference7Ideal := Cert.Reference7Ideal.Gen.facts) (hPre_finite := Cert.Pre_finite.Gen.facts) := by
  intro m g m' g' hpre hagree
  refine ⟨_, PostB.run m g, ?_⟩
  refine θ_run_mono (Cert.Reference7Ideal.Value.run m' g') ?_
  intro r hr c
  obtain ⟨h0, h1⟩ := hr c
  obtain ⟨a0, a1, a2, a3, a4, a5, a6⟩ := hagree c
  obtain ⟨p0, p2, p3, p4⟩ := hpre c
  refine ⟨h0.trans ?_, h1⟩
  rw [Cert.Reference7Ideal.Read.val_main_v63_eq, a0, a1, a2, a3, a4, a5, a6]
  exact (PostSoft.result_eq _ _ _ (fun i => PostSoft.real_of_bit (congrFun p0 i)) (fun i => PostSoft.real_of_bit (congrFun p2 i))
    (fun i => PostSoft.real_of_bit (congrFun p3 i)) (fun i => PostSoft.real_of_bit (congrFun p4 i))).trans (PostB.agree m c)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Reference7Ideal.Gen.facts, Cert.Pre_finite.Gen.facts,
  fun m ρ _ => Cert.Kernel.Gen.frame m ρ, fun m ρ _ => Cert.KernelIdeal.Gen.frame m ρ,
  fun m ρ _ => θ_run_mono (Cert.ReferenceIdeal.Value.run m ρ) fun r hr => ⟨fun c => (hr c).2.2, sem_eq_zero_of_no_sems rfl r.2⟩,
  fun m ρ _ => Cert.Kernel2.Gen.frame m ρ, fun m ρ _ => Cert.Kernel2Ideal.Gen.frame m ρ,
  fun m ρ _ => θ_run_mono (Cert.Reference2Ideal.Value.run m ρ) fun r hr => ⟨fun c => (hr c).2.2.2.2.2.2.2.2.2.2.2, sem_eq_zero_of_no_sems rfl r.2⟩,
  fun m ρ _ => Cert.Kernel3.Gen.frame m ρ, fun m ρ _ => Cert.Kernel3Ideal.Gen.frame m ρ,
  fun m ρ _ => θ_run_mono (Cert.Reference3Ideal.Value.run m ρ) fun r hr => ⟨fun c => (hr c).2, sem_eq_zero_of_no_sems rfl r.2⟩,
  fun m ρ _ => Cert.Kernel4.Gen.frame m ρ, fun m ρ _ => Cert.Kernel4Ideal.Gen.frame m ρ,
  fun m ρ _ => θ_run_mono (Cert.Reference4Ideal.Value.run m ρ) fun r hr => ⟨fun c => (hr c).2, sem_eq_zero_of_no_sems rfl r.2⟩,
  fun m ρ _ => Cert.Kernel5.Gen.frame m ρ, fun m ρ _ => Cert.Kernel5Ideal.Gen.frame m ρ,
  fun m ρ _ => θ_run_mono (Cert.Reference5Ideal.Value.run m ρ) fun r hr => ⟨fun c => (hr c).2.2.2, sem_eq_zero_of_no_sems rfl r.2⟩,
  fun m ρ _ => Cert.Kernel6.Gen.frame m ρ, fun m ρ _ => Cert.Kernel6Ideal.Gen.frame m ρ,
  fun m ρ _ => Cert.Kernel6Ideal.Gen.frame m ρ,
  fun m ρ _ => θ_run_mono (Cert.Reference6Ideal.Value.run m ρ) fun r hr => ⟨fun c => (hr c).2, sem_eq_zero_of_no_sems rfl r.2⟩,
  fun m ρ _ => θ_run_mono (Cert.Reference7Ideal.Value.run m ρ) fun r hr => ⟨fun c => (hr c).2, sem_eq_zero_of_no_sems rfl r.2⟩,
  fun m ρ _ => θ_run_mono (Cert.Reference7Ideal.Value.run m ρ) fun r hr => ⟨fun c => (hr c).2, sem_eq_zero_of_no_sems rfl r.2⟩,
  IdealRules.named_const.statement Cert.KernelIdeal.κ "mask" .f32 0xF149F2CA#32 ⊥ rfl, attention,
  trivial, grouped,
  trivial, shift,
  trivial, memory,
  trivial, sample,
  trivial, layerB, layerBSoft⟩

end Cert.Proof

end
